-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S2x4x512x2048 : Shape := ⟨4, ![2, 4, 512, 2048]⟩
abbrev S2x2x512x2048 : Shape := ⟨4, ![2, 2, 512, 2048]⟩
abbrev S2x512x2048 : Shape := ⟨3, ![2, 512, 2048]⟩
abbrev S2x2 : Shape := ⟨2, ![2, 2]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S2048x2048 : Shape := ⟨2, ![2048, 2048]⟩
abbrev S1x1x512x2048 : Shape := ⟨4, ![1, 1, 512, 2048]⟩
abbrev S1x1 : Shape := ⟨2, ![1, 1]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S2048x4096, .bf16⟩
  | .local _ .vmem, ⟨1, _⟩ => ⟨S2x4x512x2048, .bf16⟩
  | .local _ .vmem, ⟨2, _⟩ => ⟨S2x2x512x2048, .bf16⟩
  | .local _ .vmem, ⟨3, _⟩ => ⟨S2x2x512x2048, .bf16⟩
  | .local _ .vmem, ⟨4, _⟩ => ⟨S2x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 3 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 2

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c2048_i32 : BitVec 32 := 2048#32
  let v13 : BitVec 32 := Scalar.muli v10 c2048_i32
  let v14 : BitVec 32 := Scalar.addi v13 c0_i32
  let c0_i32_14 : BitVec 32 := 0#32
  ![v14.toNat, 0]
def k0_off2 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v11 : BitVec 32 := Scalar.addi v2 c1_i32_8
  let c4_i32_9 : BitVec 32 := 4#32
  let v12 : BitVec 32 := Scalar.remsi v11 c4_i32_9
  let c2048_i32_15 : BitVec 32 := 2048#32
  let v20 : BitVec 32 := Scalar.muli v12 c2048_i32_15
  let v21 : BitVec 32 := Scalar.addi v20 c0_i32_16
  let c0_i32_21 : BitVec 32 := 0#32
  ![v21.toNat, 0]
def k0_dev1 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_66 : BitVec 32 := 1#32
  let v72 : BitVec 32 := Scalar.muli v7 c1_i32_66
  let v73 : BitVec 32 := Scalar.addi c0_i32_67 v72
  v73.toNat
def k0_dev2 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_69 : BitVec 32 := 1#32
  let v74 : BitVec 32 := Scalar.muli v4 c1_i32_69
  let v75 : BitVec 32 := Scalar.addi c0_i32_70 v74
  v75.toNat
@[reducible] def k0_t1_loop : Scf.Loop 32 :=
  let c0_i32_71 : BitVec 32 := 0#32
  let c24_i32 : BitVec 32 := 24#32
  let v76 : BitVec 32 := Scalar.addi c0_i32_71 c24_i32
  let c1_i32_72 : BitVec 32 := 1#32
  ⟨c0_i32_71, v76, c1_i32_72⟩
def k0_off3 (k0_t1 : Fin k0_t1_loop.trips) : Fin 2 → Nat :=
  let c0_i32_141 : BitVec 32 := 0#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  ![0, v149.toNat]
def k0_off4 (k0_t1 : Fin k0_t1_loop.trips) : Fin 4 → Nat :=
  let c0_i32_139 : BitVec 32 := 0#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  let c0_i32_144 : BitVec 32 := 0#32
  let c0_i32_145 : BitVec 32 := 0#32
  ![0, v149.toNat, 0, 0]
def k0_off5 (k0_t1 : Fin k0_t1_loop.trips) : Fin 4 → Nat :=
  let c0_i32_138 : BitVec 32 := 0#32
  let c0_i32_71 : BitVec 32 := 0#32
  let c1_i32_72 : BitVec 32 := 1#32
  let arg15 : BitVec 32 := Scf.iv c0_i32_71 c1_i32_72 k0_t1
  let c4_i32_134 : BitVec 32 := 4#32
  let v148 : BitVec 32 := Scalar.remsi arg15 c4_i32_134
  let c0_i32_146 : BitVec 32 := 0#32
  let c0_i32_147 : BitVec 32 := 0#32
  ![0, v148.toNat, 0, 0]
def k0_dev3 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_142 : BitVec 32 := 1#32
  let v153 : BitVec 32 := Scalar.muli v4 c1_i32_142
  let v154 : BitVec 32 := Scalar.addi c0_i32_143 v153
  v154.toNat
def k0_off6 (k0_t1 : Fin k0_t1_loop.trips) : Fin 2 → Nat :=
  let c1_i32_151 : BitVec 32 := 1#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  ![1, v149.toNat]
def k0_off7 (k0_t1 : Fin k0_t1_loop.trips) : Fin 4 → Nat :=
  let c1_i32_149 : BitVec 32 := 1#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  let c0_i32_154 : BitVec 32 := 0#32
  let c0_i32_155 : BitVec 32 := 0#32
  ![1, v149.toNat, 0, 0]
def k0_off8 (k0_t1 : Fin k0_t1_loop.trips) : Fin 4 → Nat :=
  let c1_i32_148 : BitVec 32 := 1#32
  let c0_i32_71 : BitVec 32 := 0#32
  let c1_i32_72 : BitVec 32 := 1#32
  let arg15 : BitVec 32 := Scf.iv c0_i32_71 c1_i32_72 k0_t1
  let c4_i32_134 : BitVec 32 := 4#32
  let v148 : BitVec 32 := Scalar.remsi arg15 c4_i32_134
  let c0_i32_156 : BitVec 32 := 0#32
  let c0_i32_157 : BitVec 32 := 0#32
  ![1, v148.toNat, 0, 0]
def k0_dev4 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_152 : BitVec 32 := 1#32
  let v163 : BitVec 32 := Scalar.muli v7 c1_i32_152
  let v164 : BitVec 32 := Scalar.addi c0_i32_153 v163
  v164.toNat
def k0_cond2 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c12_i32 : BitVec 32 := 12#32
  let v111 : BitVec 1 := Scalar.cmpi .slt arg15 c12_i32
  let v173 : BitVec 32 := Scalar.extui v111
  let c0_i32_158 : BitVec 32 := 0#32
  let v174 : BitVec 1 := Scalar.cmpi .ne v173 c0_i32_158
  v174

def k0_off9 (k0_t1 : Fin k0_t1_loop.trips) : Fin 2 → Nat :=
  let c0_i32_166 : BitVec 32 := 0#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  ![0, v149.toNat]
def k0_off10 (k0_t1 : Fin k0_t1_loop.trips) : Fin 4 → Nat :=
  let c0_i32_165 : BitVec 32 := 0#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  let c0_i32_167 : BitVec 32 := 0#32
  let c0_i32_168 : BitVec 32 := 0#32
  ![0, v149.toNat, 0, 0]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32 : BitVec 32 := 6#32
  let c0_i32_71 : BitVec 32 := 0#32
  let c1_i32_72 : BitVec 32 := 1#32
  let arg15 : BitVec 32 := Scf.iv c0_i32_71 c1_i32_72 k0_t1
  let c12_i32 : BitVec 32 := 12#32
  let v111 : BitVec 1 := Scalar.cmpi .slt arg15 c12_i32
  let c0_i32_120 : BitVec 32 := 0#32
  let v113 : BitVec 1 := Scalar.cmpi .sgt arg15 c0_i32_120
  let v114 : BitVec 32 := Scalar.extui v113
  let c0_i32_121 : BitVec 32 := 0#32
  let v115 : BitVec 1 := Scalar.cmpi .slt arg15 c0_i32_121
  let v116 : BitVec 32 := Scalar.extui v115
  let v117 : BitVec 32 := Scalar.subi v114 v116
  let c4_i32_119 : BitVec 32 := 4#32
  let c0_i32_122 : BitVec 32 := 0#32
  let v118 : BitVec 1 := Scalar.cmpi .sgt c4_i32_119 c0_i32_122
  let v119 : BitVec 32 := Scalar.extui v118
  let c0_i32_123 : BitVec 32 := 0#32
  let v120 : BitVec 1 := Scalar.cmpi .slt c4_i32_119 c0_i32_123
  let v121 : BitVec 32 := Scalar.extui v120
  let v122 : BitVec 32 := Scalar.subi v119 v121
  let v123 : BitVec 1 := Scalar.cmpi .ne v117 v122
  let v124 : BitVec 32 := Scalar.remsi arg15 c4_i32_119
  let c0_i32_124 : BitVec 32 := 0#32
  let v125 : BitVec 1 := Scalar.cmpi .ne v124 c0_i32_124
  let v126 : BitVec 1 := Scalar.andi v123 v125
  let v112 : BitVec 32 := Scalar.divsi arg15 c4_i32_119
  let c1_i32_125 : BitVec 32 := 1#32
  let v127 : BitVec 32 := Scalar.subi v112 c1_i32_125
  let v128 : BitVec 32 := Scalar.select v126 v127 v112
  let c12_i32_126 : BitVec 32 := 12#32
  let v129 : BitVec 32 := Scalar.subi arg15 c12_i32_126
  let c0_i32_128 : BitVec 32 := 0#32
  let v131 : BitVec 1 := Scalar.cmpi .sgt v129 c0_i32_128
  let v132 : BitVec 32 := Scalar.extui v131
  let c0_i32_129 : BitVec 32 := 0#32
  let v133 : BitVec 1 := Scalar.cmpi .slt v129 c0_i32_129
  let v134 : BitVec 32 := Scalar.extui v133
  let v135 : BitVec 32 := Scalar.subi v132 v134
  let c4_i32_127 : BitVec 32 := 4#32
  let c0_i32_130 : BitVec 32 := 0#32
  let v136 : BitVec 1 := Scalar.cmpi .sgt c4_i32_127 c0_i32_130
  let v137 : BitVec 32 := Scalar.extui v136
  let c0_i32_131 : BitVec 32 := 0#32
  let v138 : BitVec 1 := Scalar.cmpi .slt c4_i32_127 c0_i32_131
  let v139 : BitVec 32 := Scalar.extui v138
  let v140 : BitVec 32 := Scalar.subi v137 v139
  let v141 : BitVec 1 := Scalar.cmpi .ne v135 v140
  let v142 : BitVec 32 := Scalar.remsi v129 c4_i32_127
  let c0_i32_132 : BitVec 32 := 0#32
  let v143 : BitVec 1 := Scalar.cmpi .ne v142 c0_i32_132
  let v144 : BitVec 1 := Scalar.andi v141 v143
  let v130 : BitVec 32 := Scalar.divsi v129 c4_i32_127
  let c1_i32_133 : BitVec 32 := 1#32
  let v145 : BitVec 32 := Scalar.subi v130 c1_i32_133
  let v146 : BitVec 32 := Scalar.select v144 v145 v130
  let v147 : BitVec 32 := Scalar.select v111 v128 v146
  let v181 : BitVec 32 := Scalar.subi c6_i32 v147
  let v182 : BitVec 32 := Scalar.addi v2 v181
  let c4_i32_162 : BitVec 32 := 4#32
  let v183 : BitVec 32 := Scalar.remsi v182 c4_i32_162
  let c2048_i32_163 : BitVec 32 := 2048#32
  let v184 : BitVec 32 := Scalar.muli v183 c2048_i32_163
  let c4_i32_134 : BitVec 32 := 4#32
  let v148 : BitVec 32 := Scalar.remsi arg15 c4_i32_134
  let c512_i32_164 : BitVec 32 := 512#32
  let v185 : BitVec 32 := Scalar.muli v148 c512_i32_164
  let v186 : BitVec 32 := Scalar.addi v184 v185
  let c0_i32_169 : BitVec 32 := 0#32
  ![v186.toNat, 0]
def k0_cond3 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c12_i32 : BitVec 32 := 12#32
  let v111 : BitVec 1 := Scalar.cmpi .slt arg15 c12_i32
  let c0_i32_120 : BitVec 32 := 0#32
  let v113 : BitVec 1 := Scalar.cmpi .sgt arg15 c0_i32_120
  let v114 : BitVec 32 := Scalar.extui v113
  let c0_i32_121 : BitVec 32 := 0#32
  let v115 : BitVec 1 := Scalar.cmpi .slt arg15 c0_i32_121
  let v116 : BitVec 32 := Scalar.extui v115
  let v117 : BitVec 32 := Scalar.subi v114 v116
  let c4_i32_119 : BitVec 32 := 4#32
  let c0_i32_122 : BitVec 32 := 0#32
  let v118 : BitVec 1 := Scalar.cmpi .sgt c4_i32_119 c0_i32_122
  let v119 : BitVec 32 := Scalar.extui v118
  let c0_i32_123 : BitVec 32 := 0#32
  let v120 : BitVec 1 := Scalar.cmpi .slt c4_i32_119 c0_i32_123
  let v121 : BitVec 32 := Scalar.extui v120
  let v122 : BitVec 32 := Scalar.subi v119 v121
  let v123 : BitVec 1 := Scalar.cmpi .ne v117 v122
  let v124 : BitVec 32 := Scalar.remsi arg15 c4_i32_119
  let c0_i32_124 : BitVec 32 := 0#32
  let v125 : BitVec 1 := Scalar.cmpi .ne v124 c0_i32_124
  let v126 : BitVec 1 := Scalar.andi v123 v125
  let v112 : BitVec 32 := Scalar.divsi arg15 c4_i32_119
  let c1_i32_125 : BitVec 32 := 1#32
  let v127 : BitVec 32 := Scalar.subi v112 c1_i32_125
  let v128 : BitVec 32 := Scalar.select v126 v127 v112
  let c12_i32_126 : BitVec 32 := 12#32
  let v129 : BitVec 32 := Scalar.subi arg15 c12_i32_126
  let c0_i32_128 : BitVec 32 := 0#32
  let v131 : BitVec 1 := Scalar.cmpi .sgt v129 c0_i32_128
  let v132 : BitVec 32 := Scalar.extui v131
  let c0_i32_129 : BitVec 32 := 0#32
  let v133 : BitVec 1 := Scalar.cmpi .slt v129 c0_i32_129
  let v134 : BitVec 32 := Scalar.extui v133
  let v135 : BitVec 32 := Scalar.subi v132 v134
  let c4_i32_127 : BitVec 32 := 4#32
  let c0_i32_130 : BitVec 32 := 0#32
  let v136 : BitVec 1 := Scalar.cmpi .sgt c4_i32_127 c0_i32_130
  let v137 : BitVec 32 := Scalar.extui v136
  let c0_i32_131 : BitVec 32 := 0#32
  let v138 : BitVec 1 := Scalar.cmpi .slt c4_i32_127 c0_i32_131
  let v139 : BitVec 32 := Scalar.extui v138
  let v140 : BitVec 32 := Scalar.subi v137 v139
  let v141 : BitVec 1 := Scalar.cmpi .ne v135 v140
  let v142 : BitVec 32 := Scalar.remsi v129 c4_i32_127
  let c0_i32_132 : BitVec 32 := 0#32
  let v143 : BitVec 1 := Scalar.cmpi .ne v142 c0_i32_132
  let v144 : BitVec 1 := Scalar.andi v141 v143
  let v130 : BitVec 32 := Scalar.divsi v129 c4_i32_127
  let c1_i32_133 : BitVec 32 := 1#32
  let v145 : BitVec 32 := Scalar.subi v130 c1_i32_133
  let v146 : BitVec 32 := Scalar.select v144 v145 v130
  let v147 : BitVec 32 := Scalar.select v111 v128 v146
  let c1_i32_170 : BitVec 32 := 1#32
  let v192 : BitVec 1 := Scalar.cmpi .eq v147 c1_i32_170
  let v193 : BitVec 32 := Scalar.extui v192
  let c0_i32_171 : BitVec 32 := 0#32
  let v194 : BitVec 1 := Scalar.cmpi .ne v193 c0_i32_171
  v194

def k0_off12 (k0_t1 : Fin k0_t1_loop.trips) : Fin 2 → Nat :=
  let c1_i32_177 : BitVec 32 := 1#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  ![1, v149.toNat]
def k0_off13 (k0_t1 : Fin k0_t1_loop.trips) : Fin 4 → Nat :=
  let c1_i32_176 : BitVec 32 := 1#32
  let c0_i32_71 : BitVec 32 := 0#32
  let c1_i32_72 : BitVec 32 := 1#32
  let arg15 : BitVec 32 := Scf.iv c0_i32_71 c1_i32_72 k0_t1
  let c2_i32_135 : BitVec 32 := 2#32
  let v149 : BitVec 32 := Scalar.remsi arg15 c2_i32_135
  let c0_i32_178 : BitVec 32 := 0#32
  let c0_i32_179 : BitVec 32 := 0#32
  ![1, v149.toNat, 0, 0]
def k0_off14 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let c0_i32_71 : BitVec 32 := 0#32
  let c1_i32_72 : BitVec 32 := 1#32
  let arg15 : BitVec 32 := Scf.iv c0_i32_71 c1_i32_72 k0_t1
  let c12_i32 : BitVec 32 := 12#32
  let v111 : BitVec 1 := Scalar.cmpi .slt arg15 c12_i32
  let c0_i32_120 : BitVec 32 := 0#32
  let v113 : BitVec 1 := Scalar.cmpi .sgt arg15 c0_i32_120
  let v114 : BitVec 32 := Scalar.extui v113
  let c0_i32_121 : BitVec 32 := 0#32
  let v115 : BitVec 1 := Scalar.cmpi .slt arg15 c0_i32_121
  let v116 : BitVec 32 := Scalar.extui v115
  let v117 : BitVec 32 := Scalar.subi v114 v116
  let c4_i32_119 : BitVec 32 := 4#32
  let c0_i32_122 : BitVec 32 := 0#32
  let v118 : BitVec 1 := Scalar.cmpi .sgt c4_i32_119 c0_i32_122
  let v119 : BitVec 32 := Scalar.extui v118
  let c0_i32_123 : BitVec 32 := 0#32
  let v120 : BitVec 1 := Scalar.cmpi .slt c4_i32_119 c0_i32_123
  let v121 : BitVec 32 := Scalar.extui v120
  let v122 : BitVec 32 := Scalar.subi v119 v121
  let v123 : BitVec 1 := Scalar.cmpi .ne v117 v122
  let v124 : BitVec 32 := Scalar.remsi arg15 c4_i32_119
  let c0_i32_124 : BitVec 32 := 0#32
  let v125 : BitVec 1 := Scalar.cmpi .ne v124 c0_i32_124
  let v126 : BitVec 1 := Scalar.andi v123 v125
  let v112 : BitVec 32 := Scalar.divsi arg15 c4_i32_119
  let c1_i32_125 : BitVec 32 := 1#32
  let v127 : BitVec 32 := Scalar.subi v112 c1_i32_125
  let v128 : BitVec 32 := Scalar.select v126 v127 v112
  let c12_i32_126 : BitVec 32 := 12#32
  let v129 : BitVec 32 := Scalar.subi arg15 c12_i32_126
  let c0_i32_128 : BitVec 32 := 0#32
  let v131 : BitVec 1 := Scalar.cmpi .sgt v129 c0_i32_128
  let v132 : BitVec 32 := Scalar.extui v131
  let c0_i32_129 : BitVec 32 := 0#32
  let v133 : BitVec 1 := Scalar.cmpi .slt v129 c0_i32_129
  let v134 : BitVec 32 := Scalar.extui v133
  let v135 : BitVec 32 := Scalar.subi v132 v134
  let c4_i32_127 : BitVec 32 := 4#32
  let c0_i32_130 : BitVec 32 := 0#32
  let v136 : BitVec 1 := Scalar.cmpi .sgt c4_i32_127 c0_i32_130
  let v137 : BitVec 32 := Scalar.extui v136
  let c0_i32_131 : BitVec 32 := 0#32
  let v138 : BitVec 1 := Scalar.cmpi .slt c4_i32_127 c0_i32_131
  let v139 : BitVec 32 := Scalar.extui v138
  let v140 : BitVec 32 := Scalar.subi v137 v139
  let v141 : BitVec 1 := Scalar.cmpi .ne v135 v140
  let v142 : BitVec 32 := Scalar.remsi v129 c4_i32_127
  let c0_i32_132 : BitVec 32 := 0#32
  let v143 : BitVec 1 := Scalar.cmpi .ne v142 c0_i32_132
  let v144 : BitVec 1 := Scalar.andi v141 v143
  let v130 : BitVec 32 := Scalar.divsi v129 c4_i32_127
  let c1_i32_133 : BitVec 32 := 1#32
  let v145 : BitVec 32 := Scalar.subi v130 c1_i32_133
  let v146 : BitVec 32 := Scalar.select v144 v145 v130
  let v147 : BitVec 32 := Scalar.select v111 v128 v146
  let v195 : BitVec 32 := Scalar.addi c2_i32_172 v147
  let v196 : BitVec 32 := Scalar.addi v2 v195
  let c4_i32_173 : BitVec 32 := 4#32
  let v197 : BitVec 32 := Scalar.remsi v196 c4_i32_173
  let c2048_i32_174 : BitVec 32 := 2048#32
  let v198 : BitVec 32 := Scalar.muli v197 c2048_i32_174
  let c4_i32_134 : BitVec 32 := 4#32
  let v148 : BitVec 32 := Scalar.remsi arg15 c4_i32_134
  let c512_i32_175 : BitVec 32 := 512#32
  let v199 : BitVec 32 := Scalar.muli v148 c512_i32_175
  let v200 : BitVec 32 := Scalar.addi v198 v199
  let c0_i32_180 : BitVec 32 := 0#32
  ![v200.toNat, 0]
def k0_cond4 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c3_i32 : BitVec 32 := 3#32
  let v175 : BitVec 1 := Scalar.cmpi .slt arg15 c3_i32
  let v176 : BitVec 32 := Scalar.extui v175
  let c0_i32_159 : BitVec 32 := 0#32
  let v177 : BitVec 1 := Scalar.cmpi .ne v176 c0_i32_159
  v177

def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c2048_i32_163 : BitVec 32 := 2048#32
  let v182 : BitVec 32 := Scalar.muli v10 c2048_i32_163
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.addi arg15 c1_i32_162
  let c512_i32_164 : BitVec 32 := 512#32
  let v183 : BitVec 32 := Scalar.muli v181 c512_i32_164
  let v184 : BitVec 32 := Scalar.addi v182 v183
  let c0_i32_169 : BitVec 32 := 0#32
  ![v184.toNat, 0]
def k0_off16 (k0_t1 : Fin k0_t1_loop.trips) : Fin 4 → Nat :=
  let c0_176 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.addi arg15 c1_i32_162
  let v195 : Index := Scalar.indexCast v181
  let c0_177 : Index := 0#32
  let c0_178 : Index := 0#32
  ![0, v195.toNat, 0, 0]
def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v11 : BitVec 32 := Scalar.addi v2 c1_i32_8
  let c4_i32_9 : BitVec 32 := 4#32
  let v12 : BitVec 32 := Scalar.remsi v11 c4_i32_9
  let c2048_i32_179 : BitVec 32 := 2048#32
  let v199 : BitVec 32 := Scalar.muli v12 c2048_i32_179
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.addi arg15 c1_i32_162
  let c512_i32_180 : BitVec 32 := 512#32
  let v200 : BitVec 32 := Scalar.muli v181 c512_i32_180
  let v201 : BitVec 32 := Scalar.addi v199 v200
  let c0_i32_185 : BitVec 32 := 0#32
  ![v201.toNat, 0]
def k0_off18 (k0_t1 : Fin k0_t1_loop.trips) : Fin 4 → Nat :=
  let c1_192 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.addi arg15 c1_i32_162
  let v212 : Index := Scalar.indexCast v181
  let c0_193 : Index := 0#32
  let c0_194 : Index := 0#32
  ![1, v212.toNat, 0, 0]
def k0_cond5 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c2_i32_195 : BitVec 32 := 2#32
  let v216 : BitVec 1 := Scalar.cmpi .slt arg15 c2_i32_195
  let v217 : BitVec 32 := Scalar.extui v216
  let c0_i32_196 : BitVec 32 := 0#32
  let v218 : BitVec 1 := Scalar.cmpi .ne v217 c0_i32_196
  v218

def k0_off19 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c2048_i32_198 : BitVec 32 := 2048#32
  let v220 : BitVec 32 := Scalar.muli v10 c2048_i32_198
  let c0_i32_71 : BitVec 32 := 0#32
  let c1_i32_72 : BitVec 32 := 1#32
  let arg15 : BitVec 32 := Scf.iv c0_i32_71 c1_i32_72 k0_t1
  let c2_i32_197 : BitVec 32 := 2#32
  let v219 : BitVec 32 := Scalar.addi arg15 c2_i32_197
  let c512_i32_199 : BitVec 32 := 512#32
  let v221 : BitVec 32 := Scalar.muli v219 c512_i32_199
  let v222 : BitVec 32 := Scalar.addi v220 v221
  let c0_i32_204 : BitVec 32 := 0#32
  ![v222.toNat, 0]
def k0_off20 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v11 : BitVec 32 := Scalar.addi v2 c1_i32_8
  let c4_i32_9 : BitVec 32 := 4#32
  let v12 : BitVec 32 := Scalar.remsi v11 c4_i32_9
  let c2048_i32_206 : BitVec 32 := 2048#32
  let v229 : BitVec 32 := Scalar.muli v12 c2048_i32_206
  let c0_i32_71 : BitVec 32 := 0#32
  let c1_i32_72 : BitVec 32 := 1#32
  let arg15 : BitVec 32 := Scf.iv c0_i32_71 c1_i32_72 k0_t1
  let c2_i32_205 : BitVec 32 := 2#32
  let v228 : BitVec 32 := Scalar.addi arg15 c2_i32_205
  let c512_i32_207 : BitVec 32 := 512#32
  let v230 : BitVec 32 := Scalar.muli v228 c512_i32_207
  let v231 : BitVec 32 := Scalar.addi v229 v230
  let c0_i32_212 : BitVec 32 := 0#32
  ![v231.toNat, 0]
def k0_cond6 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_160 : BitVec 32 := 1#32
  let v178 : BitVec 1 := Scalar.cmpi .sge arg15 c1_i32_160
  let v179 : BitVec 32 := Scalar.extui v178
  let c0_i32_161 : BitVec 32 := 0#32
  let v180 : BitVec 1 := Scalar.cmpi .ne v179 c0_i32_161
  v180

def k0_off21 (k0_t1 : Fin k0_t1_loop.trips) : Fin 2 → Nat :=
  let c0_i32_183 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  ![0, v220.toNat]
def k0_off22 (k0_t1 : Fin k0_t1_loop.trips) : Fin 4 → Nat :=
  let c0_i32_182 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c0_i32_186 : BitVec 32 := 0#32
  let c0_i32_187 : BitVec 32 := 0#32
  ![0, v219.toNat, 0, 0]
def k0_off23 (k0_t1 : Fin k0_t1_loop.trips) : Fin 4 → Nat :=
  let c0_i32_181 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_188 : BitVec 32 := 0#32
  let c0_i32_189 : BitVec 32 := 0#32
  ![0, v220.toNat, 0, 0]
def k0_off24 (k0_t1 : Fin k0_t1_loop.trips) : Fin 2 → Nat :=
  let c1_i32_202 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  ![1, v220.toNat]
def k0_off25 (k0_t1 : Fin k0_t1_loop.trips) : Fin 4 → Nat :=
  let c1_i32_201 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c0_i32_205 : BitVec 32 := 0#32
  let c0_i32_206 : BitVec 32 := 0#32
  ![1, v219.toNat, 0, 0]
def k0_off26 (k0_t1 : Fin k0_t1_loop.trips) : Fin 4 → Nat :=
  let c1_i32_200 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_207 : BitVec 32 := 0#32
  let c0_i32_208 : BitVec 32 := 0#32
  ![1, v220.toNat, 0, 0]
def k0_cond7 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let v249 : BitVec 32 := Scalar.extui v182
  let c0_i32_219 : BitVec 32 := 0#32
  let v250 : BitVec 1 := Scalar.cmpi .ne v249 c0_i32_219
  v250

def k0_cond8 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c1_i32_223 : BitVec 32 := 1#32
  let v257 : BitVec 1 := Scalar.cmpi .eq v218 c1_i32_223
  let v258 : BitVec 32 := Scalar.extui v257
  let c0_i32_224 : BitVec 32 := 0#32
  let v259 : BitVec 1 := Scalar.cmpi .ne v258 c0_i32_224
  v259

def k0_off27 (k0_t1 : Fin k0_t1_loop.trips) : Fin 2 → Nat :=
  let c0_i32_231 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  ![0, v220.toNat]
def k0_off28 (k0_t1 : Fin k0_t1_loop.trips) : Fin 4 → Nat :=
  let c0_i32_230 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_232 : BitVec 32 := 0#32
  let c0_i32_233 : BitVec 32 := 0#32
  ![0, v220.toNat, 0, 0]
def k0_off29 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32 : BitVec 32 := 6#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let v263 : BitVec 32 := Scalar.subi c6_i32 v218
  let v264 : BitVec 32 := Scalar.addi v2 v263
  let c4_i32_227 : BitVec 32 := 4#32
  let v265 : BitVec 32 := Scalar.remsi v264 c4_i32_227
  let c2048_i32_228 : BitVec 32 := 2048#32
  let v266 : BitVec 32 := Scalar.muli v265 c2048_i32_228
  let c4_i32_179 : BitVec 32 := 4#32
  let v219 : BitVec 32 := Scalar.remsi v181 c4_i32_179
  let c512_i32_229 : BitVec 32 := 512#32
  let v267 : BitVec 32 := Scalar.muli v219 c512_i32_229
  let v268 : BitVec 32 := Scalar.addi v266 v267
  let c0_i32_234 : BitVec 32 := 0#32
  ![v268.toNat, 0]
def k0_off30 (k0_t1 : Fin k0_t1_loop.trips) : Fin 4 → Nat :=
  let c0_235 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v274 : Index := Scalar.indexCast v220
  let c0_236 : Index := 0#32
  let c0_237 : Index := 0#32
  ![0, v274.toNat, 0, 0]
def k0_off31 (k0_t1 : Fin k0_t1_loop.trips) : Fin 4 → Nat :=
  let c0_244 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v285 : Index := Scalar.indexCast v219
  let c0_245 : Index := 0#32
  let c0_246 : Index := 0#32
  ![0, v285.toNat, 0, 0]
def k0_off32 (k0_t1 : Fin k0_t1_loop.trips) : Fin 2 → Nat :=
  let c1_i32_252 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  ![1, v220.toNat]
def k0_off33 (k0_t1 : Fin k0_t1_loop.trips) : Fin 4 → Nat :=
  let c1_i32_251 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_253 : BitVec 32 := 0#32
  let c0_i32_254 : BitVec 32 := 0#32
  ![1, v220.toNat, 0, 0]
def k0_off34 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_247 : BitVec 32 := 2#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let v289 : BitVec 32 := Scalar.addi c2_i32_247 v218
  let v290 : BitVec 32 := Scalar.addi v2 v289
  let c4_i32_248 : BitVec 32 := 4#32
  let v291 : BitVec 32 := Scalar.remsi v290 c4_i32_248
  let c2048_i32_249 : BitVec 32 := 2048#32
  let v292 : BitVec 32 := Scalar.muli v291 c2048_i32_249
  let c4_i32_179 : BitVec 32 := 4#32
  let v219 : BitVec 32 := Scalar.remsi v181 c4_i32_179
  let c512_i32_250 : BitVec 32 := 512#32
  let v293 : BitVec 32 := Scalar.muli v219 c512_i32_250
  let v294 : BitVec 32 := Scalar.addi v292 v293
  let c0_i32_255 : BitVec 32 := 0#32
  ![v294.toNat, 0]
def k0_off35 (k0_t1 : Fin k0_t1_loop.trips) : Fin 4 → Nat :=
  let c1_256 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v300 : Index := Scalar.indexCast v220
  let c0_257 : Index := 0#32
  let c0_258 : Index := 0#32
  ![1, v300.toNat, 0, 0]
def k0_off36 (k0_t1 : Fin k0_t1_loop.trips) : Fin 4 → Nat :=
  let c1_265 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v311 : Index := Scalar.indexCast v219
  let c0_266 : Index := 0#32
  let c0_267 : Index := 0#32
  ![1, v311.toNat, 0, 0]
def k0_cond9 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c1_i32_225 : BitVec 32 := 1#32
  let v260 : BitVec 1 := Scalar.cmpi .ne v218 c1_i32_225
  let v261 : BitVec 32 := Scalar.extui v260
  let c0_i32_226 : BitVec 32 := 0#32
  let v262 : BitVec 1 := Scalar.cmpi .ne v261 c0_i32_226
  v262

def k0_off37 (k0_t1 : Fin k0_t1_loop.trips) : Fin 2 → Nat :=
  let c0_i32_231 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  ![0, v220.toNat]
def k0_off38 (k0_t1 : Fin k0_t1_loop.trips) : Fin 4 → Nat :=
  let c0_i32_230 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_232 : BitVec 32 := 0#32
  let c0_i32_233 : BitVec 32 := 0#32
  ![0, v220.toNat, 0, 0]
def k0_off39 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32 : BitVec 32 := 6#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let v263 : BitVec 32 := Scalar.subi c6_i32 v218
  let v264 : BitVec 32 := Scalar.addi v2 v263
  let c4_i32_227 : BitVec 32 := 4#32
  let v265 : BitVec 32 := Scalar.remsi v264 c4_i32_227
  let c2048_i32_228 : BitVec 32 := 2048#32
  let v266 : BitVec 32 := Scalar.muli v265 c2048_i32_228
  let c4_i32_179 : BitVec 32 := 4#32
  let v219 : BitVec 32 := Scalar.remsi v181 c4_i32_179
  let c512_i32_229 : BitVec 32 := 512#32
  let v267 : BitVec 32 := Scalar.muli v219 c512_i32_229
  let v268 : BitVec 32 := Scalar.addi v266 v267
  let c0_i32_234 : BitVec 32 := 0#32
  ![v268.toNat, 0]
def k0_off40 (k0_t1 : Fin k0_t1_loop.trips) : Fin 4 → Nat :=
  let c0_235 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v274 : Index := Scalar.indexCast v220
  let c0_236 : Index := 0#32
  let c0_237 : Index := 0#32
  ![0, v274.toNat, 0, 0]
def k0_cond10 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c0_i32_244 : BitVec 32 := 0#32
  let v285 : BitVec 1 := Scalar.cmpi .eq v218 c0_i32_244
  let v286 : BitVec 32 := Scalar.extui v285
  let c0_i32_245 : BitVec 32 := 0#32
  let v287 : BitVec 1 := Scalar.cmpi .ne v286 c0_i32_245
  v287

def k0_off41 (k0_t1 : Fin k0_t1_loop.trips) : Fin 4 → Nat :=
  let c0_255 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v304 : Index := Scalar.indexCast v219
  let c0_256 : Index := 0#32
  let c0_257 : Index := 0#32
  ![0, v304.toNat, 0, 0]
def k0_cond11 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c2_i32_246 : BitVec 32 := 2#32
  let v288 : BitVec 1 := Scalar.cmpi .eq v218 c2_i32_246
  let v289 : BitVec 32 := Scalar.extui v288
  let c0_i32_247 : BitVec 32 := 0#32
  let v290 : BitVec 1 := Scalar.cmpi .ne v289 c0_i32_247
  v290

def k0_off42 (k0_t1 : Fin k0_t1_loop.trips) : Fin 4 → Nat :=
  let c0_256 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v306 : Index := Scalar.indexCast v219
  let c0_257 : Index := 0#32
  let c0_258 : Index := 0#32
  ![0, v306.toNat, 0, 0]
def k0_off43 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_259 : BitVec 32 := 2048#32
  let v310 : BitVec 32 := Scalar.muli v2 c2048_i32_259
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c512_i32_260 : BitVec 32 := 512#32
  let v311 : BitVec 32 := Scalar.muli v219 c512_i32_260
  let v312 : BitVec 32 := Scalar.addi v310 v311
  let c0_i32_262 : BitVec 32 := 0#32
  ![v312.toNat, 0]
def k0_off44 (k0_t1 : Fin k0_t1_loop.trips) : Fin 4 → Nat :=
  let c0_i32_261 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c0_i32_263 : BitVec 32 := 0#32
  let c0_i32_264 : BitVec 32 := 0#32
  ![0, v219.toNat, 0, 0]
def k0_off45 (k0_t1 : Fin k0_t1_loop.trips) : Fin 4 → Nat :=
  let c1_248 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v292 : Index := Scalar.indexCast v220
  let c0_249 : Index := 0#32
  let c0_250 : Index := 0#32
  ![1, v292.toNat, 0, 0]
def k0_cond12 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c0_i32_251 : BitVec 32 := 0#32
  let v297 : BitVec 1 := Scalar.cmpi .eq v218 c0_i32_251
  let v298 : BitVec 32 := Scalar.extui v297
  let c0_i32_252 : BitVec 32 := 0#32
  let v299 : BitVec 1 := Scalar.cmpi .ne v298 c0_i32_252
  v299

def k0_off46 (k0_t1 : Fin k0_t1_loop.trips) : Fin 4 → Nat :=
  let c1_255 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v304 : Index := Scalar.indexCast v219
  let c0_256 : Index := 0#32
  let c0_257 : Index := 0#32
  ![1, v304.toNat, 0, 0]
def k0_cond13 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c2_i32_253 : BitVec 32 := 2#32
  let v300 : BitVec 1 := Scalar.cmpi .eq v218 c2_i32_253
  let v301 : BitVec 32 := Scalar.extui v300
  let c0_i32_254 : BitVec 32 := 0#32
  let v302 : BitVec 1 := Scalar.cmpi .ne v301 c0_i32_254
  v302

def k0_off47 (k0_t1 : Fin k0_t1_loop.trips) : Fin 4 → Nat :=
  let c1_256 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v306 : Index := Scalar.indexCast v219
  let c0_257 : Index := 0#32
  let c0_258 : Index := 0#32
  ![1, v306.toNat, 0, 0]
def k0_off48 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_259 : BitVec 32 := 2048#32
  let v310 : BitVec 32 := Scalar.muli v2 c2048_i32_259
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c512_i32_260 : BitVec 32 := 512#32
  let v311 : BitVec 32 := Scalar.muli v219 c512_i32_260
  let v312 : BitVec 32 := Scalar.addi v310 v311
  let c2048_i32_262 : BitVec 32 := 2048#32
  ![v312.toNat, 2048]
def k0_off49 (k0_t1 : Fin k0_t1_loop.trips) : Fin 4 → Nat :=
  let c1_i32_261 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let c0_i32_263 : BitVec 32 := 0#32
  let c0_i32_264 : BitVec 32 := 0#32
  ![1, v219.toNat, 0, 0]
def k0_cond14 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let true_220 : BitVec 1 := 1#1
  let v251 : BitVec 1 := Scalar.xori v182 true_220
  let v252 : BitVec 32 := Scalar.extui v251
  let c0_i32_221 : BitVec 32 := 0#32
  let v253 : BitVec 1 := Scalar.cmpi .ne v252 c0_i32_221
  v253

def k0_off50 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let v257 : BitVec 32 := Scalar.subi c7_i32 v218
  let v258 : BitVec 32 := Scalar.addi v2 v257
  let c4_i32_223 : BitVec 32 := 4#32
  let v259 : BitVec 32 := Scalar.remsi v258 c4_i32_223
  let c2048_i32_224 : BitVec 32 := 2048#32
  let v260 : BitVec 32 := Scalar.muli v259 c2048_i32_224
  let c4_i32_179 : BitVec 32 := 4#32
  let v219 : BitVec 32 := Scalar.remsi v181 c4_i32_179
  let c512_i32_225 : BitVec 32 := 512#32
  let v261 : BitVec 32 := Scalar.muli v219 c512_i32_225
  let v262 : BitVec 32 := Scalar.addi v260 v261
  let c0_i32_227 : BitVec 32 := 0#32
  ![v262.toNat, 0]
def k0_off51 (k0_t1 : Fin k0_t1_loop.trips) : Fin 4 → Nat :=
  let c0_i32_226 : BitVec 32 := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_228 : BitVec 32 := 0#32
  let c0_i32_229 : BitVec 32 := 0#32
  ![0, v220.toNat, 0, 0]
def k0_cond15 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c2_i32_234 : BitVec 32 := 2#32
  let v269 : BitVec 1 := Scalar.cmpi .slt v218 c2_i32_234
  let v270 : BitVec 32 := Scalar.extui v269
  let c0_i32_235 : BitVec 32 := 0#32
  let v271 : BitVec 1 := Scalar.cmpi .ne v270 c0_i32_235
  v271

def k0_off52 (k0_t1 : Fin k0_t1_loop.trips) : Fin 4 → Nat :=
  let c0_250 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v287 : Index := Scalar.indexCast v220
  let c0_251 : Index := 0#32
  let c0_252 : Index := 0#32
  ![0, v287.toNat, 0, 0]
def k0_off53 (k0_t1 : Fin k0_t1_loop.trips) : Fin 4 → Nat :=
  let c0_253 : Index := 0#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v290 : Index := Scalar.indexCast v219
  let c0_254 : Index := 0#32
  let c0_255 : Index := 0#32
  ![0, v290.toNat, 0, 0]
def k0_off54 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_236 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let v272 : BitVec 32 := Scalar.addi c1_i32_236 v218
  let v273 : BitVec 32 := Scalar.addi v2 v272
  let c4_i32_237 : BitVec 32 := 4#32
  let v274 : BitVec 32 := Scalar.remsi v273 c4_i32_237
  let c2048_i32_238 : BitVec 32 := 2048#32
  let v275 : BitVec 32 := Scalar.muli v274 c2048_i32_238
  let c4_i32_179 : BitVec 32 := 4#32
  let v219 : BitVec 32 := Scalar.remsi v181 c4_i32_179
  let c512_i32_239 : BitVec 32 := 512#32
  let v276 : BitVec 32 := Scalar.muli v219 c512_i32_239
  let v277 : BitVec 32 := Scalar.addi v275 v276
  let c2048_i32_241 : BitVec 32 := 2048#32
  ![v277.toNat, 2048]
def k0_off55 (k0_t1 : Fin k0_t1_loop.trips) : Fin 4 → Nat :=
  let c1_i32_240 : BitVec 32 := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let c0_i32_242 : BitVec 32 := 0#32
  let c0_i32_243 : BitVec 32 := 0#32
  ![1, v220.toNat, 0, 0]
def k0_cond16 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c12_i32_163 : BitVec 32 := 12#32
  let v182 : BitVec 1 := Scalar.cmpi .slt v181 c12_i32_163
  let c0_i32_165 : BitVec 32 := 0#32
  let v184 : BitVec 1 := Scalar.cmpi .sgt v181 c0_i32_165
  let v185 : BitVec 32 := Scalar.extui v184
  let c0_i32_166 : BitVec 32 := 0#32
  let v186 : BitVec 1 := Scalar.cmpi .slt v181 c0_i32_166
  let v187 : BitVec 32 := Scalar.extui v186
  let v188 : BitVec 32 := Scalar.subi v185 v187
  let c4_i32_164 : BitVec 32 := 4#32
  let c0_i32_167 : BitVec 32 := 0#32
  let v189 : BitVec 1 := Scalar.cmpi .sgt c4_i32_164 c0_i32_167
  let v190 : BitVec 32 := Scalar.extui v189
  let c0_i32_168 : BitVec 32 := 0#32
  let v191 : BitVec 1 := Scalar.cmpi .slt c4_i32_164 c0_i32_168
  let v192 : BitVec 32 := Scalar.extui v191
  let v193 : BitVec 32 := Scalar.subi v190 v192
  let v194 : BitVec 1 := Scalar.cmpi .ne v188 v193
  let v195 : BitVec 32 := Scalar.remsi v181 c4_i32_164
  let c0_i32_169 : BitVec 32 := 0#32
  let v196 : BitVec 1 := Scalar.cmpi .ne v195 c0_i32_169
  let v197 : BitVec 1 := Scalar.andi v194 v196
  let v183 : BitVec 32 := Scalar.divsi v181 c4_i32_164
  let c1_i32_170 : BitVec 32 := 1#32
  let v198 : BitVec 32 := Scalar.subi v183 c1_i32_170
  let v199 : BitVec 32 := Scalar.select v197 v198 v183
  let c12_i32_171 : BitVec 32 := 12#32
  let v200 : BitVec 32 := Scalar.subi v181 c12_i32_171
  let c0_i32_173 : BitVec 32 := 0#32
  let v202 : BitVec 1 := Scalar.cmpi .sgt v200 c0_i32_173
  let v203 : BitVec 32 := Scalar.extui v202
  let c0_i32_174 : BitVec 32 := 0#32
  let v204 : BitVec 1 := Scalar.cmpi .slt v200 c0_i32_174
  let v205 : BitVec 32 := Scalar.extui v204
  let v206 : BitVec 32 := Scalar.subi v203 v205
  let c4_i32_172 : BitVec 32 := 4#32
  let c0_i32_175 : BitVec 32 := 0#32
  let v207 : BitVec 1 := Scalar.cmpi .sgt c4_i32_172 c0_i32_175
  let v208 : BitVec 32 := Scalar.extui v207
  let c0_i32_176 : BitVec 32 := 0#32
  let v209 : BitVec 1 := Scalar.cmpi .slt c4_i32_172 c0_i32_176
  let v210 : BitVec 32 := Scalar.extui v209
  let v211 : BitVec 32 := Scalar.subi v208 v210
  let v212 : BitVec 1 := Scalar.cmpi .ne v206 v211
  let v213 : BitVec 32 := Scalar.remsi v200 c4_i32_172
  let c0_i32_177 : BitVec 32 := 0#32
  let v214 : BitVec 1 := Scalar.cmpi .ne v213 c0_i32_177
  let v215 : BitVec 1 := Scalar.andi v212 v214
  let v201 : BitVec 32 := Scalar.divsi v200 c4_i32_172
  let c1_i32_178 : BitVec 32 := 1#32
  let v216 : BitVec 32 := Scalar.subi v201 c1_i32_178
  let v217 : BitVec 32 := Scalar.select v215 v216 v201
  let v218 : BitVec 32 := Scalar.select v182 v199 v217
  let c2_i32_248 : BitVec 32 := 2#32
  let v284 : BitVec 1 := Scalar.cmpi .slt v218 c2_i32_248
  let v285 : BitVec 32 := Scalar.extui v284
  let c0_i32_249 : BitVec 32 := 0#32
  let v286 : BitVec 1 := Scalar.cmpi .ne v285 c0_i32_249
  v286

def k0_off56 (k0_t1 : Fin k0_t1_loop.trips) : Fin 4 → Nat :=
  let c1_250 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c2_i32_180 : BitVec 32 := 2#32
  let v220 : BitVec 32 := Scalar.remsi v181 c2_i32_180
  let v287 : Index := Scalar.indexCast v220
  let c0_251 : Index := 0#32
  let c0_252 : Index := 0#32
  ![1, v287.toNat, 0, 0]
def k0_off57 (k0_t1 : Fin k0_t1_loop.trips) : Fin 4 → Nat :=
  let c1_253 : Index := 1#32
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c4_i32_179 : BitVec 32 := 4#32
  let v219 : BitVec 32 := Scalar.remsi v181 c4_i32_179
  let v290 : Index := Scalar.indexCast v219
  let c0_254 : Index := 0#32
  let c0_255 : Index := 0#32
  ![1, v290.toNat, 0, 0]
def k0_cond17 (k0_t1 : Fin k0_t1_loop.trips) : BitVec 1 :=
  let c0_i32_71 : BitVec 32 := 0#32
  let c1_i32_72 : BitVec 32 := 1#32
  let arg15 : BitVec 32 := Scf.iv c0_i32_71 c1_i32_72 k0_t1
  let c1_i32_162 : BitVec 32 := 1#32
  let v181 : BitVec 32 := Scalar.subi arg15 c1_i32_162
  let c21_i32 : BitVec 32 := 21#32
  let v254 : BitVec 1 := Scalar.cmpi .sle v181 c21_i32
  let v255 : BitVec 32 := Scalar.extui v254
  let c0_i32_222 : BitVec 32 := 0#32
  let v256 : BitVec 1 := Scalar.cmpi .ne v255 c0_i32_222
  v256

def k0_dev5 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_225 : BitVec 32 := 1#32
  let v259 : BitVec 32 := Scalar.muli v7 c1_i32_225
  let v260 : BitVec 32 := Scalar.addi c0_i32_226 v259
  v260.toNat
def k0_dev6 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_229 : BitVec 32 := 1#32
  let v263 : BitVec 32 := Scalar.muli v4 c1_i32_229
  let v264 : BitVec 32 := Scalar.addi c0_i32_230 v263
  v264.toNat
def k0_off58 : Fin 2 → Nat :=
  let c0_i32_80 : BitVec 32 := 0#32
  let c23_i32_76 : BitVec 32 := 23#32
  let c2_i32_77 : BitVec 32 := 2#32
  let v79 : BitVec 32 := Scalar.remsi c23_i32_76 c2_i32_77
  ![0, v79.toNat]
def k0_off59 : Fin 4 → Nat :=
  let c0_i32_79 : BitVec 32 := 0#32
  let c23_i32 : BitVec 32 := 23#32
  let c4_i32_75 : BitVec 32 := 4#32
  let v78 : BitVec 32 := Scalar.remsi c23_i32 c4_i32_75
  let c0_i32_83 : BitVec 32 := 0#32
  let c0_i32_84 : BitVec 32 := 0#32
  ![0, v78.toNat, 0, 0]
def k0_off60 : Fin 4 → Nat :=
  let c0_i32_78 : BitVec 32 := 0#32
  let c23_i32_76 : BitVec 32 := 23#32
  let c2_i32_77 : BitVec 32 := 2#32
  let v79 : BitVec 32 := Scalar.remsi c23_i32_76 c2_i32_77
  let c0_i32_85 : BitVec 32 := 0#32
  let c0_i32_86 : BitVec 32 := 0#32
  ![0, v79.toNat, 0, 0]
def k0_off61 : Fin 2 → Nat :=
  let c1_i32_99 : BitVec 32 := 1#32
  let c23_i32_76 : BitVec 32 := 23#32
  let c2_i32_77 : BitVec 32 := 2#32
  let v79 : BitVec 32 := Scalar.remsi c23_i32_76 c2_i32_77
  ![1, v79.toNat]
def k0_off62 : Fin 4 → Nat :=
  let c1_i32_98 : BitVec 32 := 1#32
  let c23_i32 : BitVec 32 := 23#32
  let c4_i32_75 : BitVec 32 := 4#32
  let v78 : BitVec 32 := Scalar.remsi c23_i32 c4_i32_75
  let c0_i32_102 : BitVec 32 := 0#32
  let c0_i32_103 : BitVec 32 := 0#32
  ![1, v78.toNat, 0, 0]
def k0_off63 : Fin 4 → Nat :=
  let c1_i32_97 : BitVec 32 := 1#32
  let c23_i32_76 : BitVec 32 := 23#32
  let c2_i32_77 : BitVec 32 := 2#32
  let v79 : BitVec 32 := Scalar.remsi c23_i32_76 c2_i32_77
  let c0_i32_104 : BitVec 32 := 0#32
  let c0_i32_105 : BitVec 32 := 0#32
  ![1, v79.toNat, 0, 0]
def k0_cond18 : BitVec 1 :=
  let false_116 : BitVec 1 := 0#1
  let true_117 : BitVec 1 := 1#1
  let v108 : BitVec 1 := Scalar.xori false_116 true_117
  let v109 : BitVec 32 := Scalar.extui v108
  let c0_i32_118 : BitVec 32 := 0#32
  let v110 : BitVec 1 := Scalar.cmpi .ne v109 c0_i32_118
  v110

def k0_off64 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  let v_false : BitVec 1 := 0#1
  let c5_i32 : BitVec 32 := 5#32
  let c2_i32_74 : BitVec 32 := 2#32
  let v77 : BitVec 32 := Scalar.select v_false c5_i32 c2_i32_74
  let v111 : BitVec 32 := Scalar.subi c7_i32 v77
  let v112 : BitVec 32 := Scalar.addi v2 v111
  let c4_i32_119 : BitVec 32 := 4#32
  let v113 : BitVec 32 := Scalar.remsi v112 c4_i32_119
  let c2048_i32_120 : BitVec 32 := 2048#32
  let v114 : BitVec 32 := Scalar.muli v113 c2048_i32_120
  let c23_i32 : BitVec 32 := 23#32
  let c4_i32_75 : BitVec 32 := 4#32
  let v78 : BitVec 32 := Scalar.remsi c23_i32 c4_i32_75
  let c512_i32_121 : BitVec 32 := 512#32
  let v115 : BitVec 32 := Scalar.muli v78 c512_i32_121
  let v116 : BitVec 32 := Scalar.addi v114 v115
  let c0_i32_123 : BitVec 32 := 0#32
  ![v116.toNat, 0]
def k0_off65 : Fin 4 → Nat :=
  let c0_i32_122 : BitVec 32 := 0#32
  let c23_i32_76 : BitVec 32 := 23#32
  let c2_i32_77 : BitVec 32 := 2#32
  let v79 : BitVec 32 := Scalar.remsi c23_i32_76 c2_i32_77
  let c0_i32_124 : BitVec 32 := 0#32
  let c0_i32_125 : BitVec 32 := 0#32
  ![0, v79.toNat, 0, 0]
def k0_cond19 : BitVec 1 :=
  let v_false : BitVec 1 := 0#1
  let c5_i32 : BitVec 32 := 5#32
  let c2_i32_74 : BitVec 32 := 2#32
  let v77 : BitVec 32 := Scalar.select v_false c5_i32 c2_i32_74
  let c2_i32_130 : BitVec 32 := 2#32
  let v123 : BitVec 1 := Scalar.cmpi .slt v77 c2_i32_130
  let v124 : BitVec 32 := Scalar.extui v123
  let c0_i32_131 : BitVec 32 := 0#32
  let v125 : BitVec 1 := Scalar.cmpi .ne v124 c0_i32_131
  v125

def k0_off66 : Fin 4 → Nat :=
  let c0_146 : Index := 0#32
  let c23_i32_76 : BitVec 32 := 23#32
  let c2_i32_77 : BitVec 32 := 2#32
  let v79 : BitVec 32 := Scalar.remsi c23_i32_76 c2_i32_77
  let v141 : Index := Scalar.indexCast v79
  let c0_147 : Index := 0#32
  let c0_148 : Index := 0#32
  ![0, v141.toNat, 0, 0]
def k0_off67 : Fin 4 → Nat :=
  let c0_149 : Index := 0#32
  let c23_i32 : BitVec 32 := 23#32
  let c4_i32_75 : BitVec 32 := 4#32
  let v78 : BitVec 32 := Scalar.remsi c23_i32 c4_i32_75
  let v144 : Index := Scalar.indexCast v78
  let c0_150 : Index := 0#32
  let c0_151 : Index := 0#32
  ![0, v144.toNat, 0, 0]
def k0_off68 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v_false : BitVec 1 := 0#1
  let c5_i32 : BitVec 32 := 5#32
  let c2_i32_74 : BitVec 32 := 2#32
  let v77 : BitVec 32 := Scalar.select v_false c5_i32 c2_i32_74
  let v126 : BitVec 32 := Scalar.addi c1_i32_132 v77
  let v127 : BitVec 32 := Scalar.addi v2 v126
  let c4_i32_133 : BitVec 32 := 4#32
  let v128 : BitVec 32 := Scalar.remsi v127 c4_i32_133
  let c2048_i32_134 : BitVec 32 := 2048#32
  let v129 : BitVec 32 := Scalar.muli v128 c2048_i32_134
  let c23_i32 : BitVec 32 := 23#32
  let c4_i32_75 : BitVec 32 := 4#32
  let v78 : BitVec 32 := Scalar.remsi c23_i32 c4_i32_75
  let c512_i32_135 : BitVec 32 := 512#32
  let v130 : BitVec 32 := Scalar.muli v78 c512_i32_135
  let v131 : BitVec 32 := Scalar.addi v129 v130
  let c2048_i32_137 : BitVec 32 := 2048#32
  ![v131.toNat, 2048]
def k0_off69 : Fin 4 → Nat :=
  let c1_i32_136 : BitVec 32 := 1#32
  let c23_i32_76 : BitVec 32 := 23#32
  let c2_i32_77 : BitVec 32 := 2#32
  let v79 : BitVec 32 := Scalar.remsi c23_i32_76 c2_i32_77
  let c0_i32_138 : BitVec 32 := 0#32
  let c0_i32_139 : BitVec 32 := 0#32
  ![1, v79.toNat, 0, 0]
def k0_cond20 : BitVec 1 :=
  let v_false : BitVec 1 := 0#1
  let c5_i32 : BitVec 32 := 5#32
  let c2_i32_74 : BitVec 32 := 2#32
  let v77 : BitVec 32 := Scalar.select v_false c5_i32 c2_i32_74
  let c2_i32_144 : BitVec 32 := 2#32
  let v138 : BitVec 1 := Scalar.cmpi .slt v77 c2_i32_144
  let v139 : BitVec 32 := Scalar.extui v138
  let c0_i32_145 : BitVec 32 := 0#32
  let v140 : BitVec 1 := Scalar.cmpi .ne v139 c0_i32_145
  v140

def k0_off70 : Fin 4 → Nat :=
  let c1_146 : Index := 1#32
  let c23_i32_76 : BitVec 32 := 23#32
  let c2_i32_77 : BitVec 32 := 2#32
  let v79 : BitVec 32 := Scalar.remsi c23_i32_76 c2_i32_77
  let v141 : Index := Scalar.indexCast v79
  let c0_147 : Index := 0#32
  let c0_148 : Index := 0#32
  ![1, v141.toNat, 0, 0]
def k0_off71 : Fin 4 → Nat :=
  let c1_149 : Index := 1#32
  let c23_i32 : BitVec 32 := 23#32
  let c4_i32_75 : BitVec 32 := 4#32
  let v78 : BitVec 32 := Scalar.remsi c23_i32 c4_i32_75
  let v144 : Index := Scalar.indexCast v78
  let c0_150 : Index := 0#32
  let c0_151 : Index := 0#32
  ![1, v144.toNat, 0, 0]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelIdealBase.lean ====
/-
The exchange's vocabulary: the resource algebra, the ring of four devices, the slots of the buffers, the semaphore
cells, what each block holds at each step, and the schedule of what every cell hands out.

Each device sends 24 blocks in each of two directions. Step `t` of direction `d` goes out of accumulator slot `t % 4`
into receive slot `t % 2` of the next device in that direction. A receive slot is handed from its reader to the writer
of the next block by the release library; the rounds library carries the transfers, the handshake at the start and the
credits that tell a writer how far its reader has come.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Transfers
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- A receive slot: the device, the direction, which of the two. -/
abbrev Key : Type := Dev nD × Fin 2 × Fin 2
abbrev UB : Type := URounds (GSem nD τ sig) ℕ
abbrev UC : Type := USlots Key × Counters
abbrev UU : Type := UR sig nD τ × (UB × UC)

local notation "𝕄" => MT nD τ sig ℕ (Elt F) ℕ UU ℕ

/-- The library's own copy, the exchange's rounds, the receive slots and the local copies' counters. -/
abbrev EP : Emb (UR sig nD τ) (MT nD τ sig ℕ (Elt F) ℕ UU ℕ) := embL
def ER : Emb UB (MT nD τ sig ℕ (Elt F) ℕ UU ℕ) := (Emb.inl : Emb UB (UB × UC)).trans embR
def ES : Emb (USlots Key) (MT nD τ sig ℕ (Elt F) ℕ UU ℕ) :=
  ((Emb.inl : Emb (USlots Key) UC).trans (Emb.inr : Emb UC (UB × UC))).trans embR
abbrev EC : UEmb Counters (MT nD τ sig ℕ (Elt F) ℕ UU ℕ) := countersEmb

instance ER_landsIn : (ER : Emb UB 𝕄).LandsIn (upEmb : UEmb _ 𝕄) := by unfold ER; infer_instance
instance ES_landsIn : (ES : Emb (USlots Key) 𝕄).LandsIn (upEmb : UEmb _ 𝕄) := by unfold ES; infer_instance

variable (m : (ℓ : Loc nD τ sig) → Buf (Elt F) ℓ)

/-! ## The ring -/

set_option backward.proofsInPublic true in
/-- The device `k` places further round the ring. -/
def hop (k : ℕ) (c : Dev nD) : Dev nD := ⟨(c.val + k) % 4, Nat.mod_lt _ (by decide)⟩

/-- Where direction `d` sends to, and where it receives from. -/
def nxt (d : Fin 2) (c : Dev nD) : Dev nD := hop (if d = 0 then 1 else 3) c
def frm (d : Fin 2) (c : Dev nD) : Dev nD := hop (if d = 0 then 3 else 1) c

theorem nxt_frm (d : Fin 2) (c : Dev nD) : nxt d (frm d c) = c := by revert d c; decide
theorem frm_nxt (d : Fin 2) (c : Dev nD) : frm d (nxt d c) = c := by revert d c; decide

/-- The quarter of the rows that device `c`'s block belongs to at stage `k` of direction `d`. -/
def qtr (d : Fin 2) (k : ℕ) (c : Dev nD) : Dev nD := hop (if d = 0 then 7 - k else 1 + k) c

set_option backward.proofsInPublic true in
/-- Which accumulator slot and which receive slot step `t` uses. -/
def jf (t : ℕ) : Fin 4 := ⟨t % 4, Nat.mod_lt _ (by decide)⟩
set_option backward.proofsInPublic true in
def sf (t : ℕ) : Fin 2 := ⟨t % 2, Nat.mod_lt _ (by decide)⟩

/-! ## The slots of the buffers -/

theorem acc_inb (d : Fin 2) (j : Fin 4) : ∀ a, (![d.val, j.val, 0, 0] : Fin 4 → ℕ) a + S1x1x512x2048.size a ≤ S2x4x512x2048.size a := by
  revert d j; decide
theorem pair_inb (d s : Fin 2) : ∀ a, (![d.val, s.val, 0, 0] : Fin 4 → ℕ) a + S1x1x512x2048.size a ≤ S2x2x512x2048.size a := by
  revert d s; decide
theorem px_inb (d : Fin 2) : ∀ a, (![d.val, 0, 0] : Fin 3 → ℕ) a + S1x512x2048.size a ≤ S2x512x2048.size a := by
  revert d; decide
theorem x_inb (q : Dev nD) (j : Fin 4) : ∀ a, (![2048 * q.val + 512 * j.val, 0] : Fin 2 → ℕ) a + S512x2048.size a ≤ S8192x2048.size a := by
  revert q j; decide
theorem o_inb (d : Fin 2) (q : Dev nD) (j : Fin 4) : ∀ a, (![2048 * q.val + 512 * j.val, 2048 * d.val] : Fin 2 → ℕ) a + S512x2048.size a ≤ S8192x4096.size a := by
  revert d q j; decide
theorem w_inb (d : Fin 2) : ∀ a, (![0, 2048 * d.val] : Fin 2 → ℕ) a + S2048x2048.size a ≤ S2048x4096.size a := by
  revert d; decide
theorem sem2_inb (d s : Fin 2) : ∀ a, (![d.val, s.val] : Fin 2 → ℕ) a + S1x1.size a ≤ S2x2.size a := by revert d s; decide
theorem sem1_inb (d : Fin 2) : ∀ a, (![d.val] : Fin 1 → ℕ) a + S1.size a ≤ S2.size a := by revert d; decide

abbrev accM (d : Fin 2) (j : Fin 4) : Memref sig .tc .vmem S512x2048 .bf16 :=
  ((Memref.whole cc0_scratch1 : Memref sig .tc .vmem S2x4x512x2048 .bf16).slice
    (Rect.unit (s := S2x4x512x2048) ![d.val, j.val, 0, 0] S1x1x512x2048.size (acc_inb d j)) (fun _ => rfl)).squeeze S512x2048 squeezes_S1x1x512x2048_S512x2048
abbrev recvM (d s : Fin 2) : Memref sig .tc .vmem S512x2048 .bf16 :=
  ((Memref.whole cc0_scratch2 : Memref sig .tc .vmem S2x2x512x2048 .bf16).slice
    (Rect.unit (s := S2x2x512x2048) ![d.val, s.val, 0, 0] S1x1x512x2048.size (pair_inb d s)) (fun _ => rfl)).squeeze S512x2048 squeezes_S1x1x512x2048_S512x2048
abbrev cxM (d s : Fin 2) : Memref sig .tc .vmem S512x2048 .bf16 :=
  ((Memref.whole cc0_scratch3 : Memref sig .tc .vmem S2x2x512x2048 .bf16).slice
    (Rect.unit (s := S2x2x512x2048) ![d.val, s.val, 0, 0] S1x1x512x2048.size (pair_inb d s)) (fun _ => rfl)).squeeze S512x2048 squeezes_S1x1x512x2048_S512x2048
abbrev pxM (d : Fin 2) : Memref sig .tc .vmem S512x2048 .bf16 :=
  ((Memref.whole cc0_scratch4 : Memref sig .tc .vmem S2x512x2048 .bf16).slice
    (Rect.unit (s := S2x512x2048) ![d.val, 0, 0] S1x512x2048.size (px_inb d)) (fun _ => rfl)).squeeze S512x2048 squeezes_S1x512x2048_S512x2048
abbrev xM (q : Dev nD) (j : Fin 4) : Memref sig .tc .hbm S512x2048 .bf16 :=
  (Memref.whole main_arg0 : Memref sig .tc .hbm S8192x2048 .bf16).slice
    (Rect.unit (s := S8192x2048) ![2048 * q.val + 512 * j.val, 0] S512x2048.size (x_inb q j)) (fun _ => rfl)
abbrev oM (d : Fin 2) (q : Dev nD) (j : Fin 4) : Memref sig .tc .hbm S512x2048 .bf16 :=
  (Memref.whole main_v1 : Memref sig .tc .hbm S8192x4096 .bf16).slice
    (Rect.unit (s := S8192x4096) ![2048 * q.val + 512 * j.val, 2048 * d.val] S512x2048.size (o_inb d q j)) (fun _ => rfl)
abbrev wvM : Memref sig .tc .vmem S2048x4096 .bf16 := Memref.whole cc0_scratch0

/-! ## The semaphores -/

abbrev sendS (d s : Fin 2) : DmaSem sig :=
  ((cc0_scratch5.slice (Rect.unit (s := S2x2) ![d.val, s.val] S1x1.size (sem2_inb d s))).squeeze S_ squeezes_S1x1_S_).sem
abbrev recvS (d s : Fin 2) : DmaSem sig :=
  ((cc0_scratch6.slice (Rect.unit (s := S2x2) ![d.val, s.val] S1x1.size (sem2_inb d s))).squeeze S_ squeezes_S1x1_S_).sem
abbrev cxS (d s : Fin 2) : DmaSem sig :=
  ((cc0_scratch7.slice (Rect.unit (s := S2x2) ![d.val, s.val] S1x1.size (sem2_inb d s))).squeeze S_ squeezes_S1x1_S_).sem
abbrev pxS (d : Fin 2) : DmaSem sig :=
  ((cc0_scratch8.slice (Rect.unit (s := S2) ![d.val] S1.size (sem1_inb d))).squeeze S_ squeezes_S1_S_).sem
abbrev wS : DmaSem sig := (cc0_scratch9 : DmaSems sig S_).sem
abbrev outS : DmaSem sig := (cc0_scratch10 : DmaSems sig S_).sem
abbrev creditS (d : Fin 2) : Sem sig :=
  ((cc0_scratch11.slice (Rect.unit (s := S2) ![d.val] S1.size (sem1_inb d))).squeeze S_ squeezes_S1_S_).sem
abbrev barS : Sem sig := (SemArray.scalar (sig.barrier 0 rfl) : Sems sig S_).sem

abbrev sendCell (d s : Fin 2) (c : Dev nD) : GSem nD τ sig := ((c : Thread nD τ), .dma (sendS d s))
abbrev recvCell (d s : Fin 2) (c : Dev nD) : GSem nD τ sig := ((c : Thread nD τ), .dma (recvS d s))
abbrev creditCell (d : Fin 2) (c : Dev nD) : GSem nD τ sig := ((c : Thread nD τ), .reg (creditS d))
abbrev barCell (c : Dev nD) : GSem nD τ sig := ((c : Thread nD τ), .reg barS)

/-- What a semaphore is for. -/
inductive Role
  | send (d s : Fin 2) | recv (d s : Fin 2) | credit (d : Fin 2) | bar | idle

set_option backward.proofsInPublic true in
def role : SemLoc sig → Role
  | .dma i => if i.val < 4 then .send ⟨i.val / 2 % 2, Nat.mod_lt _ (by decide)⟩ ⟨i.val % 2, Nat.mod_lt _ (by decide)⟩
      else if i.val < 8 then .recv ⟨i.val / 2 % 2, Nat.mod_lt _ (by decide)⟩ ⟨i.val % 2, Nat.mod_lt _ (by decide)⟩ else .idle
  | .reg i => if i.val = 0 then .credit 0 else if i.val = 1 then .credit 1 else .bar

theorem role_send (d s : Fin 2) : role (.dma (sendS d s)) = .send d s := by
  fin_cases d <;> fin_cases s <;> rfl
theorem role_recv (d s : Fin 2) : role (.dma (recvS d s)) = .recv d s := by
  fin_cases d <;> fin_cases s <;> rfl
theorem role_credit (d : Fin 2) : role (.reg (creditS d)) = .credit d := by
  fin_cases d <;> rfl
theorem role_bar : role (.reg barS) = .bar := rfl

/-- The units one block's transfer adds to a semaphore. -/
@[irreducible] def N : ℕ := (recvM 0 0).view.dmaCredit
theorem N_pos : 0 < N := by unfold N; exact View.dmaCredit_pos _ (by decide)
theorem N_recv (d s : Fin 2) : (recvM d s).view.dmaCredit = N := by unfold N; rfl
theorem N_acc (d : Fin 2) (j : Fin 4) : (accM d j).view.dmaCredit = N := by unfold N; rfl
theorem N_cx (d s : Fin 2) : (cxM d s).view.dmaCredit = N := by unfold N; rfl
theorem N_px (d : Fin 2) : (pxM d).view.dmaCredit = N := by unfold N; rfl
theorem N_o (d : Fin 2) (q : Dev nD) (j : Fin 4) : (oM d q j).view.dmaCredit = N := by unfold N; rfl

end Cert.KernelIdeal.Exchange
-- ==== Proof.KernelIdealSched.lean ====
/-
What each block holds at each step, and what every semaphore cell hands out in each of its rounds.
-/
module

public import proofs.«01_k».proof.Proof.KernelIdealBase

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## What the blocks hold -/

/-- A block of rows of the device's own operand. -/
def xblk (c q : Dev nD) (j : Fin 4) : FVec F S512x2048 .bf16 := (xM q j).view.read (Elt F) (m ((c : Thread nD τ).loc main_arg0))
/-- The device's weights, and their left or right half of columns. -/
def wAll (c : Dev nD) : FVec F S2048x4096 .bf16 := m ((c : Thread nD τ).loc main_arg1)
def wHalf (c : Dev nD) (d : Fin 2) : FVec F S2048x2048 .bf16 :=
  wvM.view.readAt (Elt F) (Rect.unit (s := S2048x4096) ![0, 2048 * d.val] S2048x2048.size (w_inb d)).toLoadRect (wAll m c)

def prodV (x : FVec F S512x2048 .bf16) (w : FVec F S2048x2048 .bf16) : FVec F S512x2048 .f32 :=
  matmul dot_S512x2048_S2048x2048_S512x2048_1_0_0_1_n_n none x w (constant S512x2048 .f32 0x00000000#32)
def fullV (x : FVec F S512x2048 .bf16) (w : FVec F S2048x4096 .bf16) : FVec F S512x4096 .f32 :=
  matmul dot_S512x2048_S2048x4096_S512x4096_1_0_0_1_n_n none x w (constant S512x4096 .f32 0x00000000#32)
def halfV : Fin 2 → FVec F S512x4096 .f32 → FVec F S512x2048 .f32
  | 0, v => extractStridedSlice S512x2048 ![0, 0] v slices_S512x4096_o0_0_S512x2048
  | 1, v => extractStridedSlice S512x2048 ![0, 2048] v slices_S512x4096_o0_2048_S512x2048
def addV (p : FVec F S512x2048 .f32) (r : FVec F S512x2048 .bf16) : FVec F S512x2048 .f32 := addf p (extf .f32 r bitsLt_bf16_f32)
def rndV (p : FVec F S512x2048 .f32) : FVec F S512x2048 .bf16 := truncf .bf16 p bitsLt_bf16_f32
def reluV (p : FVec F S512x2048 .f32) : FVec F S512x2048 .f32 := maximumf p (broadcast S512x2048 (Scalar.ofBits .f32 0x00000000#32))

/-- Block `j` that device `c` sends at stage `k` of direction `d`: its own product; then the received sum with its own
    product added, three times, the last one cut off below at zero; then what it received, unchanged. -/
def sval : ℕ → Dev nD → Fin 2 → Fin 4 → FVec F S512x2048 .bf16
  | 0, c, d, j => rndV (prodV (xblk m c (frm d c) j) (wHalf m c d))
  | 1, c, d, j => rndV (addV (halfV d (fullV (xblk m c (hop 2 c) j) (wAll m c))) (sval 0 (frm d c) d j))
  | 2, c, d, j => rndV (addV (prodV (xblk m c (qtr d 2 c) j) (wHalf m c d)) (sval 1 (frm d c) d j))
  | 3, c, d, j => rndV (reluV (addV (halfV d (fullV (xblk m c c j) (wAll m c))) (sval 2 (frm d c) d j)))
  | k + 4, c, d, j => sval (k + 3) (frm d c) d j

/-- What step `t` sends. -/
def sv (c : Dev nD) (d : Fin 2) (t : ℕ) : FVec F S512x2048 .bf16 := sval m (t / 4) c d (jf t)

/-! ## The schedule -/

/-- A block's memory held at contents that are not named. -/
def free (c : Dev nD) {sp : Space} (M : Memref sig .tc sp S512x2048 .bf16) : sProp 𝕄 :=
  iprop(∃ X : FVec F S512x2048 .bf16, owns (c : Thread nD τ) M fullShare X)

instance free_storable (c : Dev nD) {sp : Space} (M : Memref sig .tc sp S512x2048 .bf16) :
    BI.Storable (upEmb : UEmb _ 𝕄) (free (F := F) c M) := by unfold free; infer_instance

/-- Receive slot `(d, s)` of device `c` has been released for its write number `n`, and its cell has reached round `n`. -/
def fact (c : Dev nD) (d s : Fin 2) (n : ℕ) : sProp 𝕄 :=
  iprop(released ES (c, d, s) (n + 1) ∗ reached ER (recvCell d s c) n)

instance fact_persistent (c : Dev nD) (d s : Fin 2) (n : ℕ) : BI.Persistent (fact (F := F) c d s n) := by unfold fact; infer_instance
instance fact_storable (c : Dev nD) (d s : Fin 2) (n : ℕ) : BI.Storable (upEmb : UEmb _ 𝕄) (fact (F := F) c d s n) := by
  unfold fact released; infer_instance

theorem fact_mono (c : Dev nD) (d s : Fin 2) {n n' : ℕ} (h : n' ≤ n) : fact (F := F) c d s n ⊢ fact c d s n' := by
  unfold fact
  exact BI.sep_mono (released_mono ES (by omega)) (reached_mono ER h)

def payOf (c : Dev nD) (r u : ℕ) : Role → sProp 𝕄
  | .send d s => free c (accM d (jf (2 * r + s.val)))
  | .recv d s => owns (c : Thread nD τ) (recvM d s) fullShare (sv m (frm d c) d (2 * r + s.val))
  | .bar => if u = 0 then iprop(fact (nxt 0 c) 0 0 0 ∗ fact (nxt 0 c) 0 1 0) else iprop(fact (nxt 1 c) 1 0 0 ∗ fact (nxt 1 c) 1 1 0)
  | .credit d => iprop(fact (nxt d c) d 0 ((u + 2) / 2) ∗ fact (nxt d c) d 1 ((u + 1) / 2))
  | .idle => iprop(emp)

instance payOf_storable (c : Dev nD) (r u : ℕ) (k : Role) : BI.Storable (upEmb : UEmb _ 𝕄) (payOf (F := F) m c r u k) := by
  cases k <;> unfold payOf <;> (repeat' split) <;> infer_instance

def dutiesOf (r : ℕ) : Role → Finset ℕ
  | .send _ _ | .recv _ _ => if r < 12 then {0} else ∅
  | .bar => if r = 0 then {0, 1} else ∅
  | .credit _ => if r = 0 then Finset.range 22 else ∅
  | .idle => ∅

def amountOf : Role → ℕ
  | .send _ _ | .recv _ _ => N
  | _ => 1

theorem amountOf_pos (k : Role) : 0 < amountOf k := by
  cases k with
  | send d s => exact N_pos
  | recv d s => exact N_pos
  | credit d => exact Nat.one_pos
  | bar => exact Nat.one_pos
  | idle => exact Nat.one_pos

def Rd : Rounds.Schedule (GSem nD τ sig) ℕ 𝕄 where
  duties g r := dutiesOf r (role g.2)
  unitless _ := False
  amount g _ _ := amountOf (role g.2)
  payload g r u := payOf m g.1.1 r u (role g.2)
  amount_pos g _ _ _ := amountOf_pos _

instance Rd_payload_storable (g : GSem nD τ sig) (r : ℕ) (u : ℕ) : BI.Storable (upEmb : UEmb _ 𝕄) ((Rd (F := F) m).payload g r u) :=
  payOf_storable m g.1.1 r u (role g.2)

section Sched
variable (c : Dev nD) (d s : Fin 2) (r u : ℕ)

theorem duties_send (h : r < 12) : (Rd (F := F) m).duties (sendCell d s c) r = {0} := by
  show dutiesOf r (role (.dma (sendS d s))) = _; rw [role_send]; exact if_pos h
theorem duties_recv (h : r < 12) : (Rd (F := F) m).duties (recvCell d s c) r = {0} := by
  show dutiesOf r (role (.dma (recvS d s))) = _; rw [role_recv]; exact if_pos h
theorem duties_send_done (h : 12 ≤ r) : (Rd (F := F) m).duties (sendCell d s c) r = ∅ := by
  show dutiesOf r (role (.dma (sendS d s))) = _; rw [role_send]; exact if_neg (by omega)
theorem duties_recv_done (h : 12 ≤ r) : (Rd (F := F) m).duties (recvCell d s c) r = ∅ := by
  show dutiesOf r (role (.dma (recvS d s))) = _; rw [role_recv]; exact if_neg (by omega)
theorem duties_credit : (Rd (F := F) m).duties (creditCell d c) 0 = Finset.range 22 := by
  show dutiesOf 0 (role (.reg (creditS d))) = _; rw [role_credit]; rfl
theorem duties_credit_done (h : 1 ≤ r) : (Rd (F := F) m).duties (creditCell d c) r = ∅ := by
  show dutiesOf r (role (.reg (creditS d))) = _; rw [role_credit]; exact if_neg (by omega)
theorem duties_bar : (Rd (F := F) m).duties (barCell c) 0 = {0, 1} := by
  show dutiesOf 0 (role (.reg barS)) = _; rw [role_bar]; rfl
theorem duties_bar_done (h : 1 ≤ r) : (Rd (F := F) m).duties (barCell c) r = ∅ := by
  show dutiesOf r (role (.reg barS)) = _; rw [role_bar]; exact if_neg (by omega)

theorem amount_send : (Rd (F := F) m).amount (sendCell d s c) r u = N := by
  show amountOf (role (.dma (sendS d s))) = _; rw [role_send]; rfl
theorem amount_recv : (Rd (F := F) m).amount (recvCell d s c) r u = N := by
  show amountOf (role (.dma (recvS d s))) = _; rw [role_recv]; rfl
theorem amount_credit : (Rd (F := F) m).amount (creditCell d c) r u = 1 := by
  show amountOf (role (.reg (creditS d))) = _; rw [role_credit]; rfl
theorem amount_bar : (Rd (F := F) m).amount (barCell c) r u = 1 := by
  show amountOf (role (.reg barS)) = _; rw [role_bar]; rfl

theorem expect_send (h : r < 12) : (Rd (F := F) m).expect (sendCell d s c) r = N := by
  unfold Schedule.expect Schedule.amountOf; rw [duties_send m c d s r h, Finset.sum_singleton, amount_send]
theorem expect_recv (h : r < 12) : (Rd (F := F) m).expect (recvCell d s c) r = N := by
  unfold Schedule.expect Schedule.amountOf; rw [duties_recv m c d s r h, Finset.sum_singleton, amount_recv]
theorem expect_credit : (Rd (F := F) m).expect (creditCell d c) 0 = 22 := by
  unfold Schedule.expect Schedule.amountOf
  rw [duties_credit, Finset.sum_congr rfl fun u _ => amount_credit m c d 0 u, Finset.sum_const, Finset.card_range, smul_eq_mul]
theorem expect_bar : (Rd (F := F) m).expect (barCell c) 0 = 2 := by
  unfold Schedule.expect Schedule.amountOf
  rw [duties_bar, Finset.sum_congr rfl fun u _ => amount_bar m c 0 u, Finset.sum_const]; rfl

theorem payload_send : (Rd (F := F) m).payload (sendCell d s c) r u = free c (accM d (jf (2 * r + s.val))) := by
  show payOf m c r u (role (.dma (sendS d s))) = _; rw [role_send]; rfl
theorem payload_recv : (Rd (F := F) m).payload (recvCell d s c) r u
    = owns (c : Thread nD τ) (recvM d s) fullShare (sv m (frm d c) d (2 * r + s.val)) := by
  show payOf m c r u (role (.dma (recvS d s))) = _; rw [role_recv]; rfl
theorem payload_credit : (Rd (F := F) m).payload (creditCell d c) r u
    = iprop(fact (nxt d c) d 0 ((u + 2) / 2) ∗ fact (nxt d c) d 1 ((u + 1) / 2)) := by
  show payOf m c r u (role (.reg (creditS d))) = _; rw [role_credit]; rfl
theorem payload_bar0 : (Rd (F := F) m).payload (barCell c) r 0 = iprop(fact (nxt 0 c) 0 0 0 ∗ fact (nxt 0 c) 0 1 0) := by
  show payOf m c r 0 (role (.reg barS)) = _; rw [role_bar]; rfl
theorem payload_bar1 : (Rd (F := F) m).payload (barCell c) r 1 = iprop(fact (nxt 1 c) 1 0 0 ∗ fact (nxt 1 c) 1 1 0) := by
  show payOf m c r 1 (role (.reg barS)) = _; rw [role_bar]; rfl

end Sched

end Cert.KernelIdeal.Exchange
-- ==== Proof.KernelIdealOwed.lean ====
/-
What a device owes at each point of its run, and why none of its waits can be part of a circle of waits.
-/
module

public import proofs.«01_k».proof.Proof.KernelIdealBase

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## What a device owes, and the order of its waits -/

/-- What device `c` still owes in direction `d` with `p` blocks sent and `q` consumed: the later blocks' arrival at the
    next device, and the later credits to the device it receives from. -/
def owed1 (c : Dev nD) (d : Fin 2) (p q : ℕ) : CellTallies nD τ sig ℕ :=
  (∑ t ∈ Finset.Ico p 24, tallyAt (recvCell d (sf t) (nxt d c)) (2 * t + 2) N)
    + ∑ u ∈ Finset.Ico q 22, tallyAt (creditCell d (frm d c)) (2 * u + 3) 1

def owed (c : Dev nD) (p₀ p₁ q₀ q₁ : ℕ) : CellTallies nD τ sig ℕ := owed1 c 0 p₀ q₀ + owed1 c 1 p₁ q₁

/-- Before the handshake a device owes both neighbours their signal as well. -/
def owedStart (c : Dev nD) : CellTallies nD τ sig ℕ :=
  (owed c 0 0 0 0 + tallyAt (barCell (hop 1 c)) 1 1) + tallyAt (barCell (hop 3 c)) 1 1

def L (g : GSem nD τ sig) : Finset ℕ := if g.1.2 = .tc then Finset.range 64 else ∅
def lv (_ : GSem nD τ sig) (ι : ℕ) : ℕ := ι

theorem L_of_ne (g : GSem nD τ sig) (h : g.1.2 ≠ .tc) : L g = ∅ := if_neg h
theorem mem_L (c : Dev nD) (sm : SemLoc sig) {ι : ℕ} (h : ι < 64) : ι ∈ L ((c : Thread nD τ), sm) := by
  unfold L; rw [if_pos rfl]; exact Finset.mem_range.mpr h

theorem sum_pop (f : ℕ → CellTallies nD τ sig ℕ) {a b : ℕ} (h : a < b) :
    ∑ t ∈ Finset.Ico a b, f t = f a + ∑ t ∈ Finset.Ico (a + 1) b, f t := by
  have e : Finset.Ico a b = insert a (Finset.Ico (a + 1) b) := by
    ext t; simp only [Finset.mem_insert, Finset.mem_Ico]; omega
  rw [e, Finset.sum_insert (by simp)]

theorem owed1_send (c : Dev nD) (d : Fin 2) {p : ℕ} (q : ℕ) (h : p < 24) :
    owed1 c d p q = owed1 c d (p + 1) q + tallyAt (recvCell d (sf p) (nxt d c)) (2 * p + 2) N := by
  unfold owed1; rw [sum_pop _ h, add_comm (tallyAt _ _ _), add_right_comm]
theorem owed1_credit (c : Dev nD) (d : Fin 2) (p : ℕ) {q : ℕ} (h : q < 22) :
    owed1 c d p q = owed1 c d p (q + 1) + tallyAt (creditCell d (frm d c)) (2 * q + 3) 1 := by
  unfold owed1; rw [sum_pop _ h, add_comm (tallyAt (creditCell d (frm d c)) (2 * q + 3) 1), ← add_assoc]
theorem owed1_skip (c : Dev nD) (d : Fin 2) (p : ℕ) {q : ℕ} (h : 22 ≤ q) : owed1 c d p q = owed1 c d p (q + 1) := by
  unfold owed1; rw [Finset.Ico_eq_empty (a := q) (by omega), Finset.Ico_eq_empty (a := q + 1) (by omega)]
theorem owed_done (c : Dev nD) : owed c 24 24 24 24 = 0 := by
  unfold owed owed1; simp

/-- A sum of tallies that is positive somewhere has a positive summand there. -/
theorem sum_tally_pos {s : Finset ℕ} {g : ℕ → GSem nD τ sig} {f : ℕ → ℕ} {n : ℕ} {g' : GSem nD τ sig} {ι : ℕ}
    (h : 0 < (∑ t ∈ s, tallyAt (g t) (f t) n) g' ι) : ∃ t ∈ s, g' = g t ∧ ι = f t := by
  rw [Finset.sum_apply, Finsupp.finset_sum_apply] at h
  obtain ⟨t, ht, hp⟩ := Finset.exists_ne_zero_of_sum_ne_zero h.ne'
  refine ⟨t, ht, ?_⟩
  rw [tallyAt_apply] at hp
  by_contra hn
  exact hp (if_neg hn)

theorem owed1_pos {c : Dev nD} {d : Fin 2} {p q : ℕ} {g : GSem nD τ sig} {ι : ℕ} (h : 0 < owed1 c d p q g ι) :
    g.1.2 = .tc ∧ ι < 64 ∧ (2 * p + 2 ≤ ι ∨ 2 * q + 3 ≤ ι) := by
  unfold owed1 at h
  rw [Pi.add_apply, Finsupp.add_apply] at h
  rcases Nat.eq_zero_or_pos ((∑ t ∈ Finset.Ico p 24, tallyAt (recvCell d (sf t) (nxt d c)) (2 * t + 2) N) g ι) with h0 | h0
  · rw [h0, zero_add] at h
    obtain ⟨u, hu, hg, hi⟩ := sum_tally_pos h
    rw [Finset.mem_Ico] at hu
    subst hg
    exact ⟨rfl, by omega, .inr (by omega)⟩
  · obtain ⟨t, ht, hg, hi⟩ := sum_tally_pos h0
    rw [Finset.mem_Ico] at ht
    subst hg
    exact ⟨rfl, by omega, .inl (by omega)⟩

theorem owed_pos {c : Dev nD} {p₀ p₁ q₀ q₁ : ℕ} {g : GSem nD τ sig} {ι : ℕ} (h : 0 < owed c p₀ p₁ q₀ q₁ g ι) :
    g.1.2 = .tc ∧ ι < 64 ∧ (2 * p₀ + 2 ≤ ι ∨ 2 * q₀ + 3 ≤ ι ∨ 2 * p₁ + 2 ≤ ι ∨ 2 * q₁ + 3 ≤ ι) := by
  unfold owed at h
  rw [Pi.add_apply, Finsupp.add_apply] at h
  rcases Nat.eq_zero_or_pos (owed1 c 0 p₀ q₀ g ι) with h0 | h0
  · rw [h0, zero_add] at h
    obtain ⟨h1, h2, h3⟩ := owed1_pos h
    exact ⟨h1, h2, by tauto⟩
  · obtain ⟨h1, h2, h3⟩ := owed1_pos h0
    exact ⟨h1, h2, by tauto⟩

theorem bar_pos {c : Dev nD} {g : GSem nD τ sig} {ι : ℕ} (h : 0 < (tallyAt (barCell c) 1 1 : CellTallies nD τ sig ℕ) g ι) :
    g.1.2 = .tc ∧ ι = 1 := by
  rw [tallyAt_apply] at h
  by_cases hn : g = barCell c ∧ ι = 1
  · exact ⟨by rw [hn.1], hn.2⟩
  · rw [if_neg hn] at h; exact absurd h (Nat.lt_irrefl 0)

theorem owedStart_pos {c : Dev nD} {g : GSem nD τ sig} {ι : ℕ} (h : 0 < owedStart c g ι) : g.1.2 = .tc ∧ ι < 64 ∧ 0 < ι := by
  unfold owedStart at h
  rw [Pi.add_apply, Finsupp.add_apply, Pi.add_apply, Finsupp.add_apply] at h
  rcases Nat.eq_zero_or_pos (owed c 0 0 0 0 g ι) with h0 | h0
  · rcases Nat.eq_zero_or_pos ((tallyAt (barCell (hop 1 c)) 1 1 : CellTallies nD τ sig ℕ) g ι) with h1 | h1
    · rw [h0, h1, zero_add, zero_add] at h
      obtain ⟨h2, h3⟩ := bar_pos h
      exact ⟨h2, by omega, by omega⟩
    · obtain ⟨h2, h3⟩ := bar_pos h1
      exact ⟨h2, by omega, by omega⟩
  · obtain ⟨h1, h2, h3⟩ := owed_pos h0
    exact ⟨h1, h2, by omega⟩

/-- A wait at index `ι` is allowed when everything owed is at a larger one. -/
theorem mayWait (c : Dev nD) (sm : SemLoc sig) (ι : ℕ) (O : CellTallies nD τ sig ℕ) (hι : ι < 64)
    (h : ∀ g ι', 0 < O g ι' → g.1.2 = .tc ∧ ι' < 64 ∧ ι < ι') :
    (levAts L lv : sProp 𝕄) ⊢ MayWait (c : Thread nD τ) sm ι O :=
  MayOwe.of_cut (L := L) (lev := lv) ι
    (fun p hp => by rw [Finset.mem_singleton.mp hp]; exact mem_L c sm hι)
    (fun g u hg => by
      obtain ⟨h1, h2, _⟩ := h g u hg
      unfold L; rw [if_pos h1]; exact Finset.mem_range.mpr h2)
    (fun p hp => by rw [Finset.mem_singleton.mp hp]; exact le_refl _)
    (fun g u hg => (h g u hg).2.2)

theorem mayWait_owed (c : Dev nD) (sm : SemLoc sig) (ι : ℕ) (p₀ p₁ q₀ q₁ : ℕ) (hι : ι < 64)
    (h0 : ι < 2 * p₀ + 2) (h1 : ι < 2 * p₁ + 2) (h2 : ι < 2 * q₀ + 3) (h3 : ι < 2 * q₁ + 3) :
    (levAts L lv : sProp 𝕄) ⊢ MayWait (c : Thread nD τ) sm ι (owed c p₀ p₁ q₀ q₁) :=
  mayWait c sm ι _ hι fun g ι' hg => by
    obtain ⟨a, b, e⟩ := owed_pos hg
    exact ⟨a, b, by omega⟩

end Cert.KernelIdeal.Exchange
-- ==== Proof.KernelIdealOps.lean ====
/-
Running one operation of the kernel: loads and stores of a block, local copies.
-/
module

public import proofs.«01_k».proof.Proof.KernelIdealSched
public import proofs.«01_k».proof.Proof.KernelIdealOwed
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Families over a range of steps -/

/-- The resources of steps `a` to `b - 1`. -/
def seq (Φ : ℕ → sProp 𝕄) (a b : ℕ) : sProp 𝕄 := bigSep (Finset.Ico a b) Φ

theorem seq_pop (Φ : ℕ → sProp 𝕄) {a b : ℕ} (h : a < b) : seq Φ a b = iprop(Φ a ∗ seq Φ (a + 1) b) := by
  have e : Finset.Ico a b = insert a (Finset.Ico (a + 1) b) := by
    ext t; simp only [Finset.mem_insert, Finset.mem_Ico]; omega
  unfold seq; rw [e]; exact bigSep_insert (by simp)
theorem seq_push (Φ : ℕ → sProp 𝕄) {a b : ℕ} (h : a ≤ b) : seq Φ a (b + 1) = iprop(Φ b ∗ seq Φ a b) := by
  have e : Finset.Ico a (b + 1) = insert b (Finset.Ico a b) := by
    ext t; simp only [Finset.mem_insert, Finset.mem_Ico]; omega
  unfold seq; rw [e]; exact bigSep_insert (by simp)
theorem seq_nil (Φ : ℕ → sProp 𝕄) {a b : ℕ} (h : b ≤ a) : seq Φ a b = iprop(emp) := by
  unfold seq; rw [Finset.Ico_eq_empty (by omega)]; rfl
theorem seq_congr {Φ Ψ : ℕ → sProp 𝕄} {a b : ℕ} (h : ∀ t, a ≤ t → t < b → Φ t = Ψ t) : seq Φ a b = seq Ψ a b :=
  bigSep_congr fun t ht => h t (Finset.mem_Ico.mp ht).1 (Finset.mem_Ico.mp ht).2

/-! ## Programs -/

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of one block -/

section Access
variable {s s' : Shape} {α : Type}

/-- The elements of a block and what is read of it, by the rectangle it was cut out with. -/
theorem block_set (M : Memref sig .tc .vmem s .bf16) (r : Rect s) (hr : ∀ a, r.stride a = 1) (hq : r.shape.Squeezes s') :
    ((M.slice r hr).squeeze s' hq).view.set = (M.access r).set := View.set_reshape _ _
theorem block_read (M : Memref sig .tc .vmem s .bf16) (r : Rect s) (hr : ∀ a, r.stride a = 1) (hq : r.shape.Squeezes s')
    (hc : r.shape.ShapeCasts s') (f : M.view.ty.Contents (Elt F)) :
    ((M.slice r hr).squeeze s' hq).view.read (Elt F) f = shapeCast s' (M.view.readAt (Elt F) r.toLoadRect f) hc := rfl

theorem wp_ld {Q : α → sProp (MT nD τ sig ℕ (Elt F) ℕ UU ℕ)} (c : Dev nD) (M : Memref sig .tc .vmem s .bf16) (r : Rect s) (hr : ∀ a, r.stride a = 1) (hq : r.shape.Squeezes s')
    (hc : r.shape.ShapeCasts s') (hc' : s'.ShapeCasts r.shape) {hl : M.view.LoadsAt r.toLoadRect}
    {k : (r.shape.Idx → Elt F .bf16) → Prog (TpuEff nD τ sig (Elt F) Λ₀ .tc) α} (q : PosShare TreeShare) (X : FVec F s' .bf16) :
    owns (c : Thread nD τ) ((M.slice r hr).squeeze s' hq) q X
      ⊢ iprop((owns (c : Thread nD τ) ((M.slice r hr).squeeze s' hq) q X -∗ WP c (k (shapeCast r.shape X hc')) Q)
        -∗ WP c (.op (.load M r.toLoadRect hl) k) Q) := by
  unfold owns
  iintro ⟨%f, %hf, H⟩ Hk
  have hv : M.view.readAt (Elt F) r.toLoadRect f = shapeCast r.shape X hc' := by
    rw [← hf, block_read M r hr hq hc f, shapeCast_shapeCast]
  have hS : M.view.setOn r.toLoadRect.set ⊆ ((M.slice r hr).squeeze s' hq).view.set :=
    (View.set_slice M.view r).symm.le.trans (block_set M r hr hq).symm.le
  iapply (wp_load 𝒱₀ (c : Thread nD τ) none Set.univ (m := M) (r := r.toLoadRect) hS) $$ H
  iintro H
  rw [hv]
  iapply Hk
  iexists f; isplitr
  · ipureintro; exact hf
  · iexact H

theorem wp_st {Q : α → sProp (MT nD τ sig ℕ (Elt F) ℕ UU ℕ)} (c : Dev nD) (M : Memref sig .tc .vmem s .bf16) (r : Rect s) (hr : ∀ a, r.stride a = 1) (hq : r.shape.Squeezes s')
    (hc : r.shape.ShapeCasts s') (w : r.shape.Idx → Elt F .bf16)
    {hx : (M.access r).Stores Finset.univ} {hm : Finset.univ = Finset.univ ∨ ∀ a, r.stride a = 1}
    {k : PUnit → Prog (TpuEff nD τ sig (Elt F) Λ₀ .tc) α} (X : FVec F s' .bf16) :
    owns (c : Thread nD τ) ((M.slice r hr).squeeze s' hq) fullShare X
      ⊢ iprop((owns (c : Thread nD τ) ((M.slice r hr).squeeze s' hq) fullShare (shapeCast s' w hc) -∗ WP c (k ⟨⟩) Q)
        -∗ WP c (.op (.store M r w Finset.univ hx hm) k) Q) := by
  unfold owns
  iintro ⟨%f, %hf, H⟩ Hk
  have hS : (M.access r).setOn Finset.univ ⊆ ((M.slice r hr).squeeze s' hq).view.set := (block_set M r hr hq).symm.le
  iapply (wp_store 𝒱₀ (c : Thread nD τ) none Set.univ (m := M) (r := r) (Mk := Finset.univ) hS) $$ H
  iintro H
  iapply Hk
  iexists _; isplitr
  swap; · iexact H
  ipureintro
  rw [block_read M r hr hq hc]
  exact congrArg (fun v => shapeCast s' v hc) (View.read_write_univ (v := M.access r) f w)

end Access

abbrev up (X : FVec F S512x2048 .bf16) : FVec F S1x1x512x2048 .bf16 := shapeCast S1x1x512x2048 X shapeCasts_S512x2048_S1x1x512x2048
abbrev down (X : FVec F S1x1x512x2048 .bf16) : FVec F S512x2048 .bf16 := shapeCast S512x2048 X shapeCasts_S1x1x512x2048_S512x2048
theorem down_up (X : FVec F S512x2048 .bf16) : down (up X) = X := by unfold down up; rw [shapeCast_shapeCast]; try exact shapeCast_self _ _

section Blocks
variable {α : Type}

theorem ld_acc {Q : α → sProp 𝕄} (c : Dev nD) (d : Fin 2) (j : Fin 4) {off : Fin 4 → ℕ} (ho : off = ![d.val, j.val, 0, 0])
    {inb : ∀ a, off a + S1x1x512x2048.size a ≤ S2x4x512x2048.size a} {hl}
    {k : Vec F S1x1x512x2048 .bf16 → Prog (TpuEff nD τ sig (Elt F) Λ₀ .tc) α} (q : PosShare TreeShare) (X : FVec F S512x2048 .bf16) :
    owns (c : Thread nD τ) (accM d j) q X ⊢ iprop((owns (c : Thread nD τ) (accM d j) q X -∗ WP c (k (up X)) Q)
        -∗ WP c (.op (.load (Memref.whole cc0_scratch1) (Rect.unit (s := S2x4x512x2048) off S1x1x512x2048.size inb).toLoadRect hl) k) Q) := by
  subst ho
  exact wp_ld c (Memref.whole cc0_scratch1) (Rect.unit (s := S2x4x512x2048) ![d.val, j.val, 0, 0] S1x1x512x2048.size inb) (fun _ => rfl)
    squeezes_S1x1x512x2048_S512x2048 shapeCasts_S1x1x512x2048_S512x2048 shapeCasts_S512x2048_S1x1x512x2048 q X

theorem ld_recv {Q : α → sProp 𝕄} (c : Dev nD) (d s : Fin 2) {off : Fin 4 → ℕ} (ho : off = ![d.val, s.val, 0, 0])
    {inb : ∀ a, off a + S1x1x512x2048.size a ≤ S2x2x512x2048.size a} {hl}
    {k : Vec F S1x1x512x2048 .bf16 → Prog (TpuEff nD τ sig (Elt F) Λ₀ .tc) α} (q : PosShare TreeShare) (X : FVec F S512x2048 .bf16) :
    owns (c : Thread nD τ) (recvM d s) q X ⊢ iprop((owns (c : Thread nD τ) (recvM d s) q X -∗ WP c (k (up X)) Q)
        -∗ WP c (.op (.load (Memref.whole cc0_scratch2) (Rect.unit (s := S2x2x512x2048) off S1x1x512x2048.size inb).toLoadRect hl) k) Q) := by
  subst ho
  exact wp_ld c (Memref.whole cc0_scratch2) (Rect.unit (s := S2x2x512x2048) ![d.val, s.val, 0, 0] S1x1x512x2048.size inb) (fun _ => rfl)
    squeezes_S1x1x512x2048_S512x2048 shapeCasts_S1x1x512x2048_S512x2048 shapeCasts_S512x2048_S1x1x512x2048 q X

theorem ld_cx {Q : α → sProp 𝕄} (c : Dev nD) (d s : Fin 2) {off : Fin 4 → ℕ} (ho : off = ![d.val, s.val, 0, 0])
    {inb : ∀ a, off a + S1x1x512x2048.size a ≤ S2x2x512x2048.size a} {hl}
    {k : Vec F S1x1x512x2048 .bf16 → Prog (TpuEff nD τ sig (Elt F) Λ₀ .tc) α} (q : PosShare TreeShare) (X : FVec F S512x2048 .bf16) :
    owns (c : Thread nD τ) (cxM d s) q X ⊢ iprop((owns (c : Thread nD τ) (cxM d s) q X -∗ WP c (k (up X)) Q)
        -∗ WP c (.op (.load (Memref.whole cc0_scratch3) (Rect.unit (s := S2x2x512x2048) off S1x1x512x2048.size inb).toLoadRect hl) k) Q) := by
  subst ho
  exact wp_ld c (Memref.whole cc0_scratch3) (Rect.unit (s := S2x2x512x2048) ![d.val, s.val, 0, 0] S1x1x512x2048.size inb) (fun _ => rfl)
    squeezes_S1x1x512x2048_S512x2048 shapeCasts_S1x1x512x2048_S512x2048 shapeCasts_S512x2048_S1x1x512x2048 q X

theorem ld_px {Q : α → sProp 𝕄} (c : Dev nD) (d : Fin 2) {off : Fin 3 → ℕ} (ho : off = ![d.val, 0, 0])
    {inb : ∀ a, off a + S1x512x2048.size a ≤ S2x512x2048.size a} {hl}
    {k : Vec F S1x512x2048 .bf16 → Prog (TpuEff nD τ sig (Elt F) Λ₀ .tc) α} (q : PosShare TreeShare) (X : FVec F S512x2048 .bf16) :
    owns (c : Thread nD τ) (pxM d) q X ⊢ iprop((owns (c : Thread nD τ) (pxM d) q X
          -∗ WP c (k (shapeCast S1x512x2048 X shapeCasts_S1x512x2048_S512x2048.symm)) Q)
        -∗ WP c (.op (.load (Memref.whole cc0_scratch4) (Rect.unit (s := S2x512x2048) off S1x512x2048.size inb).toLoadRect hl) k) Q) := by
  subst ho
  exact wp_ld c (Memref.whole cc0_scratch4) (Rect.unit (s := S2x512x2048) ![d.val, 0, 0] S1x512x2048.size inb) (fun _ => rfl)
    squeezes_S1x512x2048_S512x2048 shapeCasts_S1x512x2048_S512x2048 shapeCasts_S1x512x2048_S512x2048.symm q X

/-- The value an accumulator slot held is read and dropped, then the slot is written. -/
theorem upd_acc {Q : α → sProp 𝕄} (c : Dev nD) (d : Fin 2) (j : Fin 4) {off : Fin 4 → ℕ} (ho : off = ![d.val, j.val, 0, 0])
    {inb inb' : ∀ a, off a + S1x1x512x2048.size a ≤ S2x4x512x2048.size a} {hl hx hm} {w : Vec F S1x1x512x2048 .bf16}
    {X : FVec F S512x2048 .bf16} (hw : w = up X)
    {k : PUnit → Prog (TpuEff nD τ sig (Elt F) Λ₀ .tc) α} :
    free c (accM d j) ⊢ iprop((owns (c : Thread nD τ) (accM d j) fullShare X -∗ WP c (k ⟨⟩) Q)
        -∗ WP c (.op (.load (Memref.whole cc0_scratch1) (Rect.unit (s := S2x4x512x2048) off S1x1x512x2048.size inb).toLoadRect hl)
            fun _ => .op (.store (Memref.whole cc0_scratch1) (Rect.unit (s := S2x4x512x2048) off S1x1x512x2048.size inb') w Finset.univ hx hm) k) Q) := by
  subst hw
  unfold free
  iintro ⟨%Y, H⟩ Hk
  iapply (ld_acc c d j ho fullShare Y) $$ H
  iintro H
  subst ho
  iapply (wp_st c (Memref.whole cc0_scratch1) (Rect.unit (s := S2x4x512x2048) ![d.val, j.val, 0, 0] S1x1x512x2048.size inb') (fun _ => rfl)
    squeezes_S1x1x512x2048_S512x2048 shapeCasts_S1x1x512x2048_S512x2048 (up X) Y) $$ H
  rw [show shapeCast S512x2048 (up X) _ = X from down_up X]
  iexact Hk

/-- Reading a half of the weights' columns, or all of them. -/
theorem ld_half {Q : α → sProp 𝕄} (c : Dev nD) (d : Fin 2) {off : Fin 2 → ℕ} (ho : off = ![0, 2048 * d.val])
    {inb : ∀ a, off a + S2048x2048.size a ≤ S2048x4096.size a} {hl}
    {k : Vec F S2048x2048 .bf16 → Prog (TpuEff nD τ sig (Elt F) Λ₀ .tc) α} :
    owns (c : Thread nD τ) wvM fullShare (wAll m c) ⊢ iprop((owns (c : Thread nD τ) wvM fullShare (wAll m c) -∗ WP c (k (wHalf m c d)) Q)
        -∗ WP c (.op (.load (Memref.whole cc0_scratch0) (Rect.unit (s := S2048x4096) off S2048x2048.size inb).toLoadRect hl) k) Q) := by
  subst ho
  unfold owns
  iintro ⟨%f, %hf, H⟩ Hk
  have e : f = wAll m c := hf
  have hS : wvM.view.setOn (Rect.unit (s := S2048x4096) ![0, 2048 * d.val] S2048x2048.size inb).toLoadRect.set ⊆ wvM.view.set := Finset.map_subset_map.mpr (Finset.subset_univ _)
  iapply (wp_load 𝒱₀ (c : Thread nD τ) none Set.univ (m := wvM) hS) $$ H
  iintro H
  rw [e]
  iapply Hk
  iexists _; isplitr
  swap; · iexact H
  ipureintro; rfl

theorem ld_wv {Q : α → sProp 𝕄} (c : Dev nD)
    {inb : ∀ a, (![0, 0] : Fin 2 → ℕ) a + S2048x4096.size a ≤ S2048x4096.size a} {hl}
    {k : Vec F S2048x4096 .bf16 → Prog (TpuEff nD τ sig (Elt F) Λ₀ .tc) α} :
    owns (c : Thread nD τ) wvM fullShare (wAll m c) ⊢ iprop((owns (c : Thread nD τ) wvM fullShare (wAll m c) -∗ WP c (k (wAll m c)) Q)
        -∗ WP c (.op (.load (Memref.whole cc0_scratch0) (Rect.unit (s := S2048x4096) ![0, 0] S2048x4096.size inb).toLoadRect hl) k) Q) := by
  unfold owns
  iintro ⟨%f, %hf, H⟩ Hk
  have e : f = wAll m c := hf
  have hS : wvM.view.setOn (Rect.unit (s := S2048x4096) ![0, 0] S2048x4096.size inb).toLoadRect.set ⊆ wvM.view.set := Finset.map_subset_map.mpr (Finset.subset_univ _)
  iapply (wp_load 𝒱₀ (c : Thread nD τ) none Set.univ (m := wvM) hS) $$ H
  have e' : wvM.view.readAt (Elt F) (Rect.unit (s := S2048x4096) ![0, 0] S2048x4096.size inb).toLoadRect f = f :=
    Memref.readAt_unit_zero (Elt F) cc0_scratch0 (by decide) inb f
  iintro H
  rw [e', e]
  iapply Hk
  iexists _; isplitr
  swap; · iexact H
  ipureintro; rfl

end Blocks

end Cert.KernelIdeal.Exchange
-- ==== Proof.KernelIdealCopies.lean ====
/-
Running the copies a device makes within its own memory: a block of the operand into a scratch slot, a slot into the
result.
-/
module

public import proofs.«01_k».proof.Proof.KernelIdealOps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-- What a device owes, the waits it has recorded left unnamed. -/
def owesAt (c : Dev nD) (O : CellTallies nD τ sig ℕ) : sProp 𝕄 := iprop(∃ W, owes (c : Thread nD τ) O W)

/-- The operand held whole at the share of its `i`-th reader. -/
def xtok (c : Dev nD) (i : ℕ) : sProp 𝕄 :=
  iprop(((c : Thread nD τ).loc main_arg0) ↦{shareTokN fullShare i} m ((c : Thread nD τ).loc main_arg0))

/-- The copy of block `(q, j)` of the operand into the slot `T`, under way. -/
def xfly (c : Dev nD) (sm : DmaSem sig) (T : Memref sig .tc .vmem S512x2048 .bf16) (q : Dev nD) (j : Fin 4) (i : ℕ) : sProp 𝕄 :=
  iprop(Flight EC (c : Thread nD τ) (.dma sm) 0 N iprop(owns (c : Thread nD τ) T fullShare (xblk m c q j)
      ∗ ((xM q j).view.loc (c : Thread nD τ) ↦[(xM q j).view.set]{shareTokN fullShare i} m ((c : Thread nD τ).loc main_arg0)))
    ∗ ((xM q j).view.loc (c : Thread nD τ) ↦[Finset.univ \ (xM q j).view.set]{shareTokN fullShare i} m ((c : Thread nD τ).loc main_arg0)))

section Copies
variable {α : Type}

theorem start_x {Q : α → sProp 𝕄} (c q : Dev nD) (j : Fin 4) (i : ℕ) {sm sm' : DmaSem sig} {T : Memref sig .tc .vmem S512x2048 .bf16}
    {src : Memref sig .tc .hbm S512x2048 .bf16} {dst : Memref sig .tc .vmem S512x2048 .bf16} {hsrc hdst hsem}
    (hs : src = xM q j) (hd : dst = T) (hm : sm' = sm) (hN : T.view.dmaCredit = N)
    {k : PUnit → Prog (TpuEff nD τ sig (Elt F) Λ₀ .tc) α} :
    iprop(free c T ∗ xtok m c i ∗ semVal ((c : Thread nD τ), SemLoc.dma sm) 0)
      ⊢ iprop((xfly m c sm T q j i -∗ WP c (k ⟨⟩) Q)
        -∗ WP c (.op (.enqueueDma src (.here dst) (.dma sm') hsrc hdst hsem) k) Q) := by
  subst hs hd hm
  unfold free owns xtok
  iintro ⟨⟨%X, %f, %hf, HT⟩, Hx, Hv⟩ Hk
  ihave Hx := ((pointsTo_split_subset (Finset.subset_univ (xM q j).view.set)).1) $$ Hx
  icases Hx with ⟨Hx, Hr⟩
  iapply (wp_dmaLocal EC 𝒱₀ (c : Thread nD τ) none (via := .same) (src := xM q j) (dst := dst) (sm := .dma sm') 0 N hN N_pos
    (Finset.Subset.refl _)) $$ [HT Hx Hv]
  · isplitl [Hx]; · iexact Hx
    isplitl [HT]; · iexact HT
    iexact Hv
  iintro HF
  iapply Hk
  unfold xfly
  isplitl [HF]
  · iapply (Flight_mono ?_) $$ HF
    iintro ⟨Hd, Hs⟩
    isplitl [Hd]
    · unfold owns
      iexists _; isplitr
      swap; · iexact Hd
      ipureintro
      exact View.read_write_univ (v := dst.view) f _
    · iexact Hs
  · iexact Hr

theorem wait_x {Q : α → sProp 𝕄} (c q : Dev nD) (j : Fin 4) (i : ℕ) {sm sm' : DmaSem sig} {T : Memref sig .tc .vmem S512x2048 .bf16}
    {src : Memref sig .tc .hbm S512x2048 .bf16} {dst : Memref sig .tc .vmem S512x2048 .bf16} {hsrc hdst}
    (hd : dst = T) (hm : sm' = sm) (hN : T.view.dmaCredit = N) {O : CellTallies nD τ sig ℕ}
    (hO : (levAts L lv : sProp 𝕄) ⊢ MayWait (c : Thread nD τ) (.dma sm) 0 O)
    {k : PUnit → Prog (TpuEff nD τ sig (Elt F) Λ₀ .tc) α} :
    iprop(levAts L lv ∗ xfly m c sm T q j i ∗ owesAt c O)
      ⊢ iprop((iprop(owns (c : Thread nD τ) T fullShare (xblk m c q j) ∗ xtok m c i ∗ semVal ((c : Thread nD τ), SemLoc.dma sm) 0 ∗ owesAt c O)
          -∗ WP c (k ⟨⟩) Q)
        -∗ WP c (.op (.waitDma2 sm' src dst hsrc hdst) k) Q) := by
  subst hd hm
  unfold xfly owesAt xtok
  iintro ⟨#HL, ⟨HF, Hr⟩, ⟨%W, HO⟩⟩ Hk
  iapply (wp_waitLocalO EC 𝒱₀ (c : Thread nD τ) none (sem := sm') 0 hN) $$ [HF HO]
  · isplitl [HF]; · iexact HF
    isplitl [HO]; · iexact HO
    iapply hO $$ HL
  iintro ⟨⟨HT, Hx⟩, Hv, HO⟩
  iapply Hk
  isplitl [HT]; · iexact HT
  isplitl [Hx Hr]
  · iapply ((pointsTo_split_subset (Finset.subset_univ (xM q j).view.set)).2)
    isplitl [Hx]; · iexact Hx
    iexact Hr
  isplitl [Hv]; · iexact Hv
  iexists _; iexact HO

/-- A slot copied into a block of the result: that block then reads as the slot did, every other block as before. -/
theorem store_out {Q : α → sProp 𝕄} (c q : Dev nD) (d : Fin 2) (j : Fin 4) {T : Memref sig .tc .vmem S512x2048 .bf16}
    {src srcw : Memref sig .tc .vmem S512x2048 .bf16} {dst dstw : Memref sig .tc .hbm S512x2048 .bf16} {hsrc hdst hsem hsrc' hdst'}
    (hs : src = T) (hd : dst = oM d q j) (hdw : dstw = oM d q j) {O : CellTallies nD τ sig ℕ}
    (hO : (levAts L lv : sProp 𝕄) ⊢ MayWait (c : Thread nD τ) (.dma outS) 0 O) (X : FVec F S512x2048 .bf16)
    (f : Buf (Elt F) ((c : Thread nD τ).loc main_v1))
    {k : PUnit → Prog (TpuEff nD τ sig (Elt F) Λ₀ .tc) α} :
    iprop(levAts L lv ∗ owns (c : Thread nD τ) T fullShare X ∗ (((c : Thread nD τ).loc main_v1) ↦{fullShare} f)
        ∗ semVal ((c : Thread nD τ), SemLoc.dma outS) 0 ∗ owesAt c O)
      ⊢ iprop((iprop(owns (c : Thread nD τ) T fullShare X
            ∗ (((c : Thread nD τ).loc main_v1) ↦{fullShare} ((oM d q j).view.write (Elt F) f X Finset.univ : Buf (Elt F) ((c : Thread nD τ).loc main_v1)))
            ∗ semVal ((c : Thread nD τ), SemLoc.dma outS) 0 ∗ owesAt c O)
          -∗ WP c (k ⟨⟩) Q)
        -∗ WP c (.op (.enqueueDma src (.here dst) (.dma outS) hsrc hdst hsem) fun _ => .op (.waitDma2 outS srcw dstw hsrc' hdst') k) Q) := by
  subst hs hd hdw
  unfold owns owesAt
  iintro ⟨#HL, ⟨%g, %hg, HT⟩, Ho, Hv, ⟨%W, HO⟩⟩ Hk
  iapply (wp_dmaLocal EC 𝒱₀ (c : Thread nD τ) none (via := .same) (src := src) (dst := oM d q j) (sm := .dma outS) (Sd := Finset.univ) 0 N
    (N_o d q j) N_pos (Finset.subset_univ _)) $$ [HT Ho Hv]
  · isplitl [HT]; · iexact HT
    isplitl [Ho]; · iexact Ho
    iexact Hv
  iintro HF
  iapply (wp_waitLocalO EC 𝒱₀ (c : Thread nD τ) none (sem := outS) 0 (N_o d q j)) $$ [HF HO]
  · isplitl [HF]; · iexact HF
    isplitl [HO]; · iexact HO
    iapply hO $$ HL
  iintro ⟨⟨Ho, HT⟩, Hv, HO⟩
  iapply Hk
  isplitl [HT]
  · iexists g; isplitr
    · ipureintro; exact hg
    · iexact HT
  isplitl [Ho]
  · rw [← hg]; iexact Ho
  isplitl [Hv]; · iexact Hv
  iexists _; iexact HO

/-- The weights copied whole into the scratch buffer. -/
theorem load_w {Q : α → sProp 𝕄} (c : Dev nD) {O : CellTallies nD τ sig ℕ} {hsrc hdst hsem hsrc' hdst'}
    (hO : (levAts L lv : sProp 𝕄) ⊢ MayWait (c : Thread nD τ) (.dma wS) 0 O)
    {k : PUnit → Prog (TpuEff nD τ sig (Elt F) Λ₀ .tc) α} :
    iprop(levAts L lv ∗ (((c : Thread nD τ).loc main_arg1) ↦{fullShare} m ((c : Thread nD τ).loc main_arg1))
        ∗ (∃ f : Buf (Elt F) ((c : Thread nD τ).loc cc0_scratch0), ((c : Thread nD τ).loc cc0_scratch0) ↦{fullShare} f)
        ∗ semVal ((c : Thread nD τ), SemLoc.dma wS) 0 ∗ owesAt c O)
      ⊢ iprop((iprop(owns (c : Thread nD τ) wvM fullShare (wAll m c)
            ∗ (((c : Thread nD τ).loc main_arg1) ↦{fullShare} m ((c : Thread nD τ).loc main_arg1))
            ∗ semVal ((c : Thread nD τ), SemLoc.dma wS) 0 ∗ owesAt c O)
          -∗ WP c (k ⟨⟩) Q)
        -∗ WP c (.op (.enqueueDma (Memref.whole main_arg1 : Memref sig .tc .hbm S2048x4096 .bf16) (.here wvM) (.dma wS) hsrc hdst hsem)
            fun _ => .op (.waitDma2 wS (Memref.whole main_arg1 : Memref sig .tc .hbm S2048x4096 .bf16) wvM hsrc' hdst') k) Q) := by
  unfold owesAt
  iintro ⟨#HL, Hw, ⟨%g, HT⟩, Hv, ⟨%W, HO⟩⟩ Hk
  iapply (wp_dmaLocal EC 𝒱₀ (c : Thread nD τ) none (via := .same) (src := (Memref.whole main_arg1 : Memref sig .tc .hbm S2048x4096 .bf16))
    (dst := wvM) (sm := .dma wS) (Sd := Finset.univ) 0 wvM.view.dmaCredit
    rfl (View.dmaCredit_pos _ (by decide)) (Finset.subset_univ _)) $$ [HT Hw Hv]
  · isplitl [Hw]
    · simp only [Memref.view_whole, View.set_whole]; iexact Hw
    isplitl [HT]; · iexact HT
    iexact Hv
  iintro HF
  iapply (wp_waitLocalO EC 𝒱₀ (c : Thread nD τ) none (sem := wS) 0 (N := wvM.view.dmaCredit) rfl) $$ [HF HO]
  · isplitl [HF]; · iexact HF
    isplitl [HO]; · iexact HO
    iapply hO $$ HL
  iintro ⟨⟨HT, Hw⟩, Hv, HO⟩
  iapply Hk
  isplitl [HT]
  · unfold owns
    iexists _; isplitr
    swap; · simp only [Memref.view_whole, View.set_whole]; iexact HT
    ipureintro
    exact View.read_write_univ (v := wvM.view) g _
  isplitl [Hw]
  · simp only [Memref.view_whole, View.set_whole]; iexact Hw
  isplitl [Hv]; · iexact Hv
  iexists _; iexact HO

end Copies

/-! ## The blocks of the result -/

theorem o_read_same (d : Fin 2) (q : Dev nD) (j : Fin 4) (f : (oM d q j).view.ty.Contents (Elt F)) (X : FVec F S512x2048 .bf16) :
    (oM d q j).view.read (Elt F) ((oM d q j).view.write (Elt F) f X Finset.univ) = X := View.read_write_univ (v := (oM d q j).view) f X

theorem o_read_other (d d' : Fin 2) (q q' : Dev nD) (j j' : Fin 4) (h : (d', q', j') ≠ (d, q, j))
    (f : (oM d q j).view.ty.Contents (Elt F)) (X : FVec F S512x2048 .bf16) :
    (oM d' q' j').view.read (Elt F) ((oM d q j).view.write (Elt F) f X Finset.univ) = (oM d' q' j').view.read (Elt F) f := by
  refine View.read_slice_write_slice_of_disjoint (v := (Memref.whole main_v1 : Memref sig .tc .hbm S8192x4096 .bf16).view)
    (Rect.unit (s := S8192x4096) ![2048 * q'.val + 512 * j'.val, 2048 * d'.val] S512x2048.size (o_inb d' q' j'))
    (Rect.unit (s := S8192x4096) ![2048 * q.val + 512 * j.val, 2048 * d.val] S512x2048.size (o_inb d q j)) f X Finset.univ ?_
  rw [View.setOn_univ]
  by_cases hd : d' = d
  · refine View.disjoint_slice_of_sep _ _ _ (0 : Fin 2) rfl rfl ?_
    have hq : q' ≠ q ∨ j' ≠ j := by
      by_contra hc; push Not at hc; exact h (by rw [hd, hc.1, hc.2])
    show 2048 * q'.val + 512 * j'.val + 512 ≤ 2048 * q.val + 512 * j.val ∨ 2048 * q.val + 512 * j.val + 512 ≤ 2048 * q'.val + 512 * j'.val
    have h1 : q'.val ≠ q.val ∨ j'.val ≠ j.val := hq.imp (fun h e => h (Fin.ext e)) (fun h e => h (Fin.ext e))
    have := j.isLt; have := j'.isLt
    omega
  · refine View.disjoint_slice_of_sep _ _ _ (1 : Fin 2) rfl rfl ?_
    show 2048 * d'.val + 2048 ≤ 2048 * d.val ∨ 2048 * d.val + 2048 ≤ 2048 * d'.val
    have h1 : d'.val ≠ d.val := fun e => hd (Fin.ext e)
    omega

end Cert.KernelIdeal.Exchange
-- ==== Proof.KernelIdealCross.lean ====
/-
Running the operations that reach another device: the copies round the ring, the waits for them, the credits and the
handshake at the start.
-/
module

public import proofs.«01_k».proof.Proof.KernelIdealCopies

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## The invariants -/

/-- The semaphore cells of one device, numbered. -/
def cellOf (c : Dev nD) (i : Fin 11) : GSem nD τ sig :=
  match i with
  | 0 => barCell c
  | 1 => creditCell 0 c
  | 2 => creditCell 1 c
  | 3 => sendCell 0 0 c
  | 4 => sendCell 0 1 c
  | 5 => sendCell 1 0 c
  | 6 => sendCell 1 1 c
  | 7 => recvCell 0 0 c
  | 8 => recvCell 0 1 c
  | 9 => recvCell 1 0 c
  | 10 => recvCell 1 1 c

def iCredit (d : Fin 2) : Fin 11 := match d with | 0 => 1 | 1 => 2
def iSend (d s : Fin 2) : Fin 11 := match d, s with | 0, 0 => 3 | 0, 1 => 4 | 1, 0 => 5 | 1, 1 => 6
def iRecv (d s : Fin 2) : Fin 11 := match d, s with | 0, 0 => 7 | 0, 1 => 8 | 1, 0 => 9 | 1, 1 => 10

theorem cellOf_credit (c : Dev nD) (d : Fin 2) : cellOf c (iCredit d) = creditCell d c := by fin_cases d <;> rfl
theorem cellOf_send (c : Dev nD) (d s : Fin 2) : cellOf c (iSend d s) = sendCell d s c := by fin_cases d <;> fin_cases s <;> rfl
theorem cellOf_recv (c : Dev nD) (d s : Fin 2) : cellOf c (iRecv d s) = recvCell d s c := by fin_cases d <;> fin_cases s <;> rfl

/-- The names of the invariants: one for every cell, one for every receive slot. -/
abbrev Names : Type := (Dev nD × Fin 11 → ℕ) × (Key → ℕ)

variable (K : Names)

/-- What every device may use at any time. -/
def ctx : sProp 𝕄 :=
  iprop(levAts L lv
    ∗ bigSep Finset.univ (fun x : Dev nD × Fin 11 =>
        iprop(cellInv ER (Rd m) (K.1 x) (cellOf x.1 x.2) ∗ reached ER (cellOf x.1 x.2) 0))
    ∗ bigSep Finset.univ (fun k : Key => slotInv ES (K.2 k) k (free k.1 (recvM k.2.1 k.2.2))))

instance ctx_persistent : BI.Persistent (ctx (F := F) m K) := by unfold ctx; infer_instance

theorem ctx_lev : ctx (F := F) m K ⊢ levAts L lv := by
  unfold ctx; iintro ⟨H, -, -⟩; iexact H

theorem ctx_cell (c : Dev nD) (i : Fin 11) {g : GSem nD τ sig} (hg : cellOf c i = g) :
    ctx (F := F) m K ⊢ iprop(cellInv ER (Rd m) (K.1 (c, i)) g ∗ reached ER g 0) := by
  subst hg
  unfold ctx
  iintro ⟨-, H, -⟩
  have h : (bigSep Finset.univ (fun x : Dev nD × Fin 11 =>
        iprop(cellInv ER (Rd m) (K.1 x) (cellOf x.1 x.2) ∗ reached ER (cellOf x.1 x.2) 0)) : sProp 𝕄)
      ⊢ iprop(cellInv ER (Rd m) (K.1 (c, i)) (cellOf c i) ∗ reached ER (cellOf c i) 0) := bigSep_elim (Finset.mem_univ (c, i))
  iapply h $$ H

theorem ctx_slot (c : Dev nD) (d s : Fin 2) :
    ctx (F := F) m K ⊢ slotInv ES (K.2 (c, d, s)) (c, d, s) (free c (recvM d s)) := by
  unfold ctx
  iintro ⟨-, -, H⟩
  have h : (bigSep Finset.univ (fun k : Key => slotInv ES (K.2 k) k (free k.1 (recvM k.2.1 k.2.2))) : sProp 𝕄)
      ⊢ slotInv ES (K.2 (c, d, s)) (c, d, s) (free c (recvM d s)) := bigSep_elim (Finset.mem_univ (c, d, s))
  iapply h $$ H

/-! ## Sending -/

theorem step_eq (t : ℕ) : 2 * (t / 2) + (sf t).val = t := Nat.div_add_mod t 2

/-- What step `t` of direction `d` needs to send: the right to its two rounds and to the slot it writes. -/
def sendRes (c : Dev nD) (d : Fin 2) (t : ℕ) : sProp 𝕄 :=
  iprop(dutyTok ER (sendCell d (sf t) c) (t / 2) 0 ∗ dutyTok ER (recvCell d (sf t) (nxt d c)) (t / 2) 0
    ∗ writeTok ES (nxt d c, d, sf t) (t / 2 + 1))

/-- The slot that step `t` writes has been handed over. -/
def ready (c : Dev nD) (d : Fin 2) (t : ℕ) : sProp 𝕄 := fact (nxt d c) d (sf t) (t / 2)
instance ready_persistent (c : Dev nD) (d : Fin 2) (t : ℕ) : BI.Persistent (ready (F := F) c d t) := by unfold ready; infer_instance

def sendPos (c : Dev nD) (d : Fin 2) (t : ℕ) : sProp 𝕄 :=
  iprop(atPos ER (sendCell d (sf t) c) (t / 2) ∅ 0 ∗ reached ER (sendCell d (sf t) c) (t / 2))
/-- The reader's side of the slot step `t` arrives in. -/
def recvPos (c : Dev nD) (d : Fin 2) (t : ℕ) : sProp 𝕄 :=
  iprop(readerAt ES (c, d, sf t) (t / 2 + 1) ∗ atPos ER (recvCell d (sf t) c) (t / 2) ∅ 0 ∗ fact c d (sf t) (t / 2))

theorem rest_send (c : Dev nD) (d : Fin 2) (t : ℕ) (hr : t / 2 < 12) :
    bigSep ((Rd (F := F) m).duties (sendCell d (sf t) c) (t / 2) \ ∅) (fun u => (Rd (F := F) m).payload (sendCell d (sf t) c) (t / 2) u)
      = free c (accM d (jf t)) := by
  rw [duties_send m c d (sf t) _ hr, Finset.sdiff_empty, bigSep_singleton, payload_send, step_eq]

theorem rest_recv (c : Dev nD) (d : Fin 2) (t : ℕ) (hr : t / 2 < 12) :
    bigSep ((Rd (F := F) m).duties (recvCell d (sf t) c) (t / 2) \ ∅) (fun u => (Rd (F := F) m).payload (recvCell d (sf t) c) (t / 2) u)
      = owns (c : Thread nD τ) (recvM d (sf t)) fullShare (sv m (frm d c) d t) := by
  rw [duties_recv m c d (sf t) _ hr, Finset.sdiff_empty, bigSep_singleton, payload_recv, step_eq]

section Cross
variable {α : Type}

theorem send {Q : α → sProp 𝕄} (c : Dev nD) (d : Fin 2) (t : ℕ) (ht : t < 24) {c' : Thread nD τ}
    {src : Memref sig .tc .vmem S512x2048 .bf16} {sS sR : DmaSem sig}
    (hc : c' = (nxt d c : Thread nD τ)) (hs : src = accM d (jf t))
    {dst : Memref sig c'.2.kind .vmem S512x2048 .bf16} {hsc hsrc hdst hsem}
    (hd : HEq dst (recvM d (sf t))) (h1 : sS = sendS d (sf t)) (h2 : sR = recvS d (sf t))
    {O₀ O : CellTallies nD τ sig ℕ} (hO : O₀ = O + tallyAt (recvCell d (sf t) (nxt d c)) (2 * t + 2) N)
    {k : PUnit → Prog (TpuEff nD τ sig (Elt F) Λ₀ .tc) α} :
    iprop(ctx m K ∗ owns (c : Thread nD τ) (accM d (jf t)) fullShare (sv m c d t) ∗ sendRes c d t ∗ reached ER (sendCell d (sf t) c) (t / 2)
        ∗ ready c d t ∗ owesAt c O₀)
      ⊢ iprop((iprop(cred (tallyAt (sendCell d (sf t) c) 0 N) ∗ owesAt c O) -∗ WP c (k ⟨⟩) Q)
        -∗ WP c (.op (.enqueueDma src (.remote c' dst (.dma sS) hsc) (.dma sR) hsrc hdst hsem) k) Q) := by
  subst hc hs h1 h2
  obtain rfl := eq_of_heq hd
  unfold owns owesAt sendRes ready fact
  iintro ⟨#HC, ⟨%f, %hf, Hs⟩, ⟨Ht1, Ht2, Hw⟩, #Hr, ⟨#Hrel, #Hrr⟩, ⟨%W, HO⟩⟩ Hk
  ihave #Hi1 := (ctx_cell m K c (iSend d (sf t)) (cellOf_send c d (sf t))) $$ HC
  ihave #Hi2 := (ctx_cell m K (nxt d c) (iRecv d (sf t)) (cellOf_recv (nxt d c) d (sf t))) $$ HC
  ihave #Hsl := (ctx_slot m K (nxt d c) d (sf t)) $$ HC
  icases Hi1 with ⟨#Hi1, -⟩
  icases Hi2 with ⟨#Hi2, -⟩
  imod (slot_take ES (Set.mem_univ (K.2 (nxt d c, d, sf t))) (t / 2 + 1)) $$ [Hw] with HT
  · isplitr; · iexact Hsl
    isplitr; · iexact Hrel
    iexact Hw
  unfold free owns
  icases HT with ⟨%X, %g, %hg, HT⟩
  have hr : t / 2 < 12 := by omega
  iapply (Rounds.wp_send_pointsTo 𝒱₀ ER (Rd m) (c : Thread nD τ) none (κ₁ := K.1 (c, iSend d (sf t))) (κ₂ := K.1 (nxt d c, iRecv d (sf t)))
    (c' := (nxt d c : Thread nD τ)) (src := accM d (jf t)) (dst := recvM d (sf t)) (sS := .dma (sendS d (sf t))) (sem := .dma (recvS d (sf t)))
    (r₁ := t / 2) (r₂ := t / 2) (d₁ := 0) (d₂ := 0) (fd := g)
    (by rw [duties_send m c d (sf t) _ hr]; exact Finset.mem_singleton_self _)
    (by rw [duties_recv m (nxt d c) d (sf t) _ hr]; exact Finset.mem_singleton_self _)
    (2 * t + 2) 0 N (N_recv d (sf t)) (amount_send m c d (sf t) _ _) (amount_recv m (nxt d c) d (sf t) _ _) O hO (W := W) ?_ ?_)
    $$ [Hs HT HO Ht1 Ht2]
  · rw [payload_send, step_eq]
    unfold free owns
    iintro H
    iexists _; iexists f; isplitr
    · ipureintro; exact hf
    · iexact H
  · rw [payload_recv, step_eq, frm_nxt]
    unfold owns
    iintro H
    iexists _; isplitr
    swap; · iexact H
    ipureintro
    exact (View.read_write_univ (v := (recvM d (sf t)).view) g _).trans hf
  · isplitr; · iexact Hi1
    isplitr; · iexact Hi2
    isplitl [Hs]; · iexact Hs
    isplitl [HT]; · iexact HT
    isplitl [HO]; · iexact HO
    isplitl [Ht1]; · iexact Ht1
    isplitr; · iexact Hr
    isplitl [Ht2]; · iexact Ht2
    iexact Hrr
  iintro ⟨Hcr, HO⟩
  iapply Hk
  isplitl [Hcr]; · iexact Hcr
  iexists W; iexact HO

/-! ## Waiting for a step's two ends -/

theorem wait_send {Q : α → sProp 𝕄} (c : Dev nD) (d : Fin 2) (t : ℕ) (ht : t < 24)
    {src : Memref sig .tc .vmem S512x2048 .bf16} {dst : Memref sig .tc .vmem S512x2048 .bf16} {sS : DmaSem sig} {hsrc hdst}
    {j : Fin 4} (hd : dst = accM d j) (h1 : sS = sendS d (sf t))
    {O : CellTallies nD τ sig ℕ} (hO : (levAts L lv : sProp 𝕄) ⊢ MayWait (c : Thread nD τ) (.dma (sendS d (sf t))) 0 O)
    {k : PUnit → Prog (TpuEff nD τ sig (Elt F) Λ₀ .tc) α} :
    iprop(ctx m K ∗ cred (tallyAt (sendCell d (sf t) c) 0 N) ∗ atPos ER (sendCell d (sf t) c) (t / 2) ∅ 0 ∗ owesAt c O)
      ⊢ iprop((iprop(free c (accM d (jf t)) ∗ sendPos c d (t + 2) ∗ owesAt c O) -∗ WP c (k ⟨⟩) Q)
        -∗ WP c (.op (.waitDma2 sS src dst hsrc hdst) k) Q) := by
  subst hd h1
  have hr : t / 2 < 12 := by omega
  unfold owesAt
  iintro ⟨#HC, Hcr, Hat, ⟨%W, HO⟩⟩ Hk
  ihave #Hi1 := (ctx_cell m K c (iSend d (sf t)) (cellOf_send c d (sf t))) $$ HC
  icases Hi1 with ⟨#Hi1, -⟩
  ihave #HL := (ctx_lev m K) $$ HC
  iapply (Rounds.wp_wait_rest_token 𝒱₀ ER (Rd m) (c : Thread nD τ) none (κ := K.1 (c, iSend d (sf t)))
      (wpE_waitDma2_eq 𝒱₀ (c : Thread nD τ) none Set.univ) (Set.mem_univ _) 0 (O := O) (W := W) (R := t / 2) (m := 0) (T := ∅)
      (by rw [expect_send m c d (sf t) _ hr, Nat.zero_add]; exact N_acc d j)) $$ [Hcr HO Hat]
  · isplitr; · iexact Hi1
    isplitl [Hcr]; · rw [show (accM d j).view.dmaCredit = N from N_acc d j]; iexact Hcr
    isplitl [HO]; · iexact HO
    isplitr; · iapply hO $$ HL
    iexact Hat
  iintro ⟨HO, Hat, Hre, Hp⟩
  iapply Hk
  isplitl [Hp]
  · iapply (Entails.of_eq (rest_send m c d t hr)) $$ Hp
  isplitl [Hat Hre]
  · unfold sendPos
    rw [show sf (t + 2) = sf t from Fin.ext (by show (t + 2) % 2 = t % 2; omega), show (t + 2) / 2 = t / 2 + 1 by omega]
    isplitl [Hat]; · iexact Hat
    iexact Hre
  iexists _; iexact HO

theorem wait_recv {Q : α → sProp 𝕄} (c : Dev nD) (d : Fin 2) (t : ℕ) (ht : t < 24)
    {src : Memref sig .tc .vmem S512x2048 .bf16} {dst : Memref sig .tc .vmem S512x2048 .bf16} {sS : DmaSem sig} {hsrc hdst}
    (hd : dst = recvM d (sf t)) (h1 : sS = recvS d (sf t))
    {O : CellTallies nD τ sig ℕ} (hO : (levAts L lv : sProp 𝕄) ⊢ MayWait (c : Thread nD τ) (.dma (recvS d (sf t))) (2 * t + 2) O)
    {k : PUnit → Prog (TpuEff nD τ sig (Elt F) Λ₀ .tc) α} :
    iprop(ctx m K ∗ cred (tallyAt (recvCell d (sf t) c) (2 * t + 2) N) ∗ atPos ER (recvCell d (sf t) c) (t / 2) ∅ 0 ∗ owesAt c O)
      ⊢ iprop((iprop(owns (c : Thread nD τ) (recvM d (sf t)) fullShare (sv m (frm d c) d t)
            ∗ atPos ER (recvCell d (sf t) c) (t / 2 + 1) ∅ 0 ∗ reached ER (recvCell d (sf t) c) (t / 2 + 1) ∗ owesAt c O) -∗ WP c (k ⟨⟩) Q)
        -∗ WP c (.op (.waitDma2 sS src dst hsrc hdst) k) Q) := by
  subst hd h1
  have hr : t / 2 < 12 := by omega
  unfold owesAt
  iintro ⟨#HC, Hcr, Hat, ⟨%W, HO⟩⟩ Hk
  ihave #Hi1 := (ctx_cell m K c (iRecv d (sf t)) (cellOf_recv c d (sf t))) $$ HC
  icases Hi1 with ⟨#Hi1, -⟩
  ihave #HL := (ctx_lev m K) $$ HC
  iapply (Rounds.wp_wait_rest_token 𝒱₀ ER (Rd m) (c : Thread nD τ) none (κ := K.1 (c, iRecv d (sf t)))
      (wpE_waitDma2_eq 𝒱₀ (c : Thread nD τ) none Set.univ) (Set.mem_univ _) (2 * t + 2) (O := O) (W := W) (R := t / 2) (m := 0) (T := ∅)
      (by rw [expect_recv m c d (sf t) _ hr, Nat.zero_add]; exact N_recv d (sf t))) $$ [Hcr HO Hat]
  · isplitr; · iexact Hi1
    isplitl [Hcr]; · rw [show (recvM d (sf t)).view.dmaCredit = N from N_recv d (sf t)]; iexact Hcr
    isplitl [HO]; · iexact HO
    isplitr; · iapply hO $$ HL
    iexact Hat
  iintro ⟨HO, Hat, Hre, Hp⟩
  iapply Hk
  isplitl [Hp]
  · iapply (Entails.of_eq (rest_recv m c d t hr)) $$ Hp
  isplitl [Hat]; · iexact Hat
  isplitl [Hre]; · iexact Hre
  iexists _; iexact HO

/-- A slot's contents are done with: it goes back to its writer. -/
theorem free_twice (c : Dev nD) (d s : Fin 2) : iprop(free c (recvM d s) ∗ free c (recvM d s)) ⊢ (False : sProp 𝕄) := by
  unfold free owns
  iintro ⟨⟨%X, %f, -, H⟩, ⟨%Y, %g, -, H'⟩⟩
  iapply (slot_slot_false (ℓ := (recvM d s).view.loc (c : Thread nD τ)) (View.set_nonempty (v := (recvM d s).view) (by decide)))
  unfold slot
  isplitl [H]
  · iexists f; iexact H
  · iexists g; iexact H'

theorem release {Q : α → sProp 𝕄} (c : Dev nD) (d : Fin 2) (t : ℕ) {p : Prog (TpuEff nD τ sig (Elt F) Λ₀ .tc) α} :
    iprop(ctx m K ∗ free c (recvM d (sf t)) ∗ readerAt ES (c, d, sf t) (t / 2 + 1)
        ∗ atPos ER (recvCell d (sf t) c) (t / 2 + 1) ∅ 0 ∗ reached ER (recvCell d (sf t) c) (t / 2 + 1))
      ⊢ iprop((recvPos c d (t + 2) -∗ WP c p Q) -∗ WP c p Q) := by
  iintro ⟨#HC, HT, Hrd, Hat, #Hre⟩ Hk
  ihave #Hsl := (ctx_slot m K c d (sf t)) $$ HC
  imod (slot_release ES (Set.mem_univ (K.2 (c, d, sf t))) (free_twice c d (sf t)) (t / 2 + 1)) $$ [HT Hrd] with ⟨Hrd, #Hrel⟩
  · isplitr; · iexact Hsl
    isplitl [Hrd]; · iexact Hrd
    iexact HT
  iapply Hk
  unfold recvPos fact
  rw [show sf (t + 2) = sf t from Fin.ext (by show (t + 2) % 2 = t % 2; omega), show (t + 2) / 2 = t / 2 + 1 by omega]
  isplitl [Hrd]; · iexact Hrd
  isplitl [Hat]; · iexact Hat
  isplitr; · iexact Hrel
  iexact Hre

end Cross

end Cert.KernelIdeal.Exchange
-- ==== Proof.KernelIdealCredit.lean ====
/-
The handshake at the start and the credits: how a device learns that the slot it writes next has been handed over.
-/
module

public import proofs.«01_k».proof.Proof.KernelIdealCross

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-- `n` credits of direction `d` spent: the units received so far and what each of them said. -/
def creditPos (c : Dev nD) (d : Fin 2) (n : ℕ) : sProp 𝕄 :=
  if n = 22 then iprop(atPos ER (creditCell d c) 1 ∅ 0)
  else iprop(∃ S : Finset ℕ, ⌜S ⊆ Finset.range 22 ∧ n ≤ S.card⌝ ∗ atPos ER (creditCell d c) 0 S n
    ∗ bigSep S (fun u => (Rd (F := F) m).payload (creditCell d c) 0 u))

/-- What unit `u` says is enough for every step up to `u + 2`. -/
theorem credit_ready (c : Dev nD) (d : Fin 2) {n u : ℕ} (h : n ≤ u) :
    (Rd (F := F) m).payload (creditCell d c) 0 u ⊢ ready c d (n + 2) := by
  rw [payload_credit]
  unfold ready
  rcases Nat.even_or_odd n with ⟨a, ha⟩ | ⟨a, ha⟩
  · rw [show sf (n + 2) = 0 from Fin.ext (by show (n + 2) % 2 = 0; omega)]
    iintro ⟨H, -⟩
    iapply (fact_mono (nxt d c) d 0 (n := (u + 2) / 2) (n' := (n + 2) / 2) (by omega)) $$ H
  · rw [show sf (n + 2) = 1 from Fin.ext (by show (n + 2) % 2 = 1; omega)]
    iintro ⟨-, H⟩
    iapply (fact_mono (nxt d c) d 1 (n := (u + 1) / 2) (n' := (n + 2) / 2) (by omega)) $$ H

theorem credit_ready_of (c : Dev nD) (d : Fin 2) {n u : ℕ} {S : Finset ℕ} (hu : u ∈ S) (h : n ≤ u) :
    (bigSep S (fun u => (Rd (F := F) m).payload (creditCell d c) 0 u) : sProp 𝕄) ⊢ ready c d (n + 2) :=
  (bigSep_elim hu).trans (credit_ready m c d h)

instance payload_credit_persistent (c : Dev nD) (d : Fin 2) (u : ℕ) :
    BI.Persistent ((Rd (F := F) m).payload (creditCell d c) 0 u) := by rw [payload_credit]; infer_instance

section Credit
variable {α : Type}

theorem wait_credit {Q : α → sProp 𝕄} (c : Dev nD) (d : Fin 2) (n : ℕ) (hn : n < 22) {sem : Sem sig} (hs : sem = creditS d)
    {O : CellTallies nD τ sig ℕ} (hO : (levAts L lv : sProp 𝕄) ⊢ MayWait (c : Thread nD τ) (.reg (creditS d)) (2 * n + 3) O)
    {k : PUnit → Prog (TpuEff nD τ sig (Elt F) Λ₀ .tc) α} :
    iprop(ctx m K ∗ cred (tallyAt (creditCell d c) (2 * n + 3) 1) ∗ creditPos m c d n ∗ owesAt c O)
      ⊢ iprop((iprop(creditPos m c d (n + 1) ∗ ready c d (n + 2) ∗ owesAt c O) -∗ WP c (k ⟨⟩) Q)
        -∗ WP c (.op (.semWait sem 1) k) Q) := by
  subst hs
  unfold owesAt creditPos
  rw [if_neg (by omega : n ≠ 22)]
  iintro ⟨#HC, Hcr, ⟨%S, %hS, Hat, #HS⟩, ⟨%W, HO⟩⟩ Hk
  ihave #Hi := (ctx_cell m K c (iCredit d) (cellOf_credit c d)) $$ HC
  icases Hi with ⟨#Hi, -⟩
  ihave #HL := (ctx_lev m K) $$ HC
  by_cases h21 : n = 21
  · subst h21
    rw [if_pos rfl]
    iapply (Rounds.wp_wait_rest_token 𝒱₀ ER (Rd m) (c : Thread nD τ) none (κ := K.1 (c, iCredit d))
      (wpE_semWait_eq 𝒱₀ (c : Thread nD τ) none Set.univ) (Set.mem_univ _) (2 * 21 + 3) (O := O) (W := W) (R := 0) (m := 21) (T := S)
      (by rw [expect_credit])) $$ [Hcr HO Hat]
    · isplitr; · iexact Hi
      isplitl [Hcr]; · iexact Hcr
      isplitl [HO]; · iexact HO
      isplitr; · iapply hO $$ HL
      iexact Hat
    iintro ⟨HO, Hat, -, #Hp⟩
    iapply Hk
    isplitl [Hat]; · iexact Hat
    isplitr
    · by_cases hm : 21 ∈ S
      · iapply (credit_ready_of m c d hm (le_refl 21)) $$ HS
      · have hm' : 21 ∈ (Rd (F := F) m).duties (creditCell d c) 0 \ S := by
          rw [duties_credit, Finset.mem_sdiff]; exact ⟨by decide, hm⟩
        iapply (credit_ready_of m c d hm' (le_refl 21)) $$ Hp
    iexists _; iexact HO
  · rw [if_neg (by omega : n + 1 ≠ 22)]
    iapply (Rounds.wp_wait 𝒱₀ ER (Rd m) (c : Thread nD τ) none (κ := K.1 (c, iCredit d))
      (wpE_semWait_eq 𝒱₀ (c : Thread nD τ) none Set.univ) (Set.mem_univ _) (cr := Finsupp.single (2 * n + 3) 1) (O := O) (W := W)
      {(SemLoc.reg (creditS d), 2 * n + 3)} (R := 0) (m := n) (T := S)
      (by rw [Util.total_single]) (image_single_subset _ _ _)) $$ [Hcr HO Hat]
    · isplitr; · iexact Hi
      isplitl [Hcr]; · iexact Hcr
      isplitl [HO]; · iexact HO
      isplitr; · iapply hO $$ HL
      iexact Hat
    iintro %S' ⟨%hS', HO, Hat, #Hp⟩
    rw [duties_credit, expect_credit] at hS'
    have hcard : n + 1 ≤ S'.card := by
      have h1 := Finset.card_sdiff_add_card_eq_card hS'.2.1
      have h2 : n + 1 + (Finset.range 22 \ S').card ≤ 22 := hS'.2.2
      rw [Finset.card_range] at h1
      omega
    obtain ⟨u, hu, hnu⟩ : ∃ u ∈ S', n ≤ u := by
      by_contra hc
      have hsub : S' ⊆ Finset.range n := fun u hu => Finset.mem_range.mpr (by
        by_contra h; exact hc ⟨u, hu, by omega⟩)
      have := Finset.card_le_card hsub
      rw [Finset.card_range] at this
      omega
    have hall : iprop(bigSep S (fun u => (Rd (F := F) m).payload (creditCell d c) 0 u)
        ∗ bigSep (S' \ S) (fun u => (Rd (F := F) m).payload (creditCell d c) 0 u))
        ⊢ bigSep S' (fun u => (Rd (F := F) m).payload (creditCell d c) 0 u) := by
      exact Entails.of_eq (bigSep_sdiff_split hS'.1).symm
    ihave #HS' := hall $$ [HS Hp]
    · isplitr; · iexact HS
      iexact Hp
    iapply Hk
    isplitl [Hat]
    · iexists S'; isplitr
      · ipureintro; exact ⟨hS'.2.1, hcard⟩
      isplitl [Hat]; · iexact Hat
      iexact HS'
    isplitr
    · iapply (credit_ready_of m c d hu hnu) $$ HS'
    iexists _; iexact HO

theorem give_credit {Q : α → sProp 𝕄} (c : Dev nD) (d : Fin 2) (u : ℕ) (hu : u < 22) {c' : Thread nD τ} {sem : Sem sig}
    (hc : c' = (frm d c : Thread nD τ)) (hs : sem = creditS d)
    {O₀ O : CellTallies nD τ sig ℕ} (hO : O₀ = O + tallyAt (creditCell d (frm d c)) (2 * u + 3) 1)
    {k : PUnit → Prog (TpuEff nD τ sig (Elt F) Λ₀ .tc) α} :
    iprop(ctx m K ∗ dutyTok ER (creditCell d (frm d c)) 0 u ∗ fact c d 0 ((u + 2) / 2) ∗ fact c d 1 ((u + 1) / 2) ∗ owesAt c O₀)
      ⊢ iprop((owesAt c O -∗ WP c (k ⟨⟩) Q) -∗ WP c (.op (.semSignal c' sem 1) k) Q) := by
  subst hc hs
  unfold owesAt
  iintro ⟨#HC, Ht, #Hf, #Hg, ⟨%W, HO⟩⟩ Hk
  ihave #Hi := (ctx_cell m K (frm d c) (iCredit d) (cellOf_credit (frm d c) d)) $$ HC
  icases Hi with ⟨#Hi, #Hre⟩
  iapply (Rounds.wp_signal 𝒱₀ ER (Rd m) (c : Thread nD τ) none (dst := (frm d c : Thread nD τ)) (κ := K.1 (frm d c, iCredit d)) (r := 0)
    (d := u) (by rw [duties_credit]; exact Finset.mem_range.mpr hu) (amount_credit m (frm d c) d 0 u) (2 * u + 3) O hO (W := W)) $$ [Ht HO]
  · isplitr; · iexact Hi
    isplitl [HO]; · iexact HO
    isplitl [Ht]; · iexact Ht
    isplitr
    · rw [payload_credit, nxt_frm]
      isplitr; · iexact Hf
      iexact Hg
    iexact Hre
  iintro HO
  iapply Hk
  iexists W; iexact HO

/-- What a device says at the start to the one that sends to it in direction `d`. -/
theorem payload_bar (c : Dev nD) (d : Fin 2) :
    (Rd (F := F) m).payload (barCell c) 0 d.val = iprop(fact (nxt d c) d 0 0 ∗ fact (nxt d c) d 1 0) := by
  fin_cases d
  · exact payload_bar0 m c 0
  · exact payload_bar1 m c 0

theorem bar_mem (d : Fin 2) : d.val ∈ ({0, 1} : Finset ℕ) := by revert d; decide

theorem greet {Q : α → sProp 𝕄} (c : Dev nD) (d : Fin 2) {c' : Thread nD τ} {sem : Sem sig}
    (hc : c' = (frm d c : Thread nD τ)) (hs : sem = barS)
    {O₀ O : CellTallies nD τ sig ℕ} (hO : O₀ = O + tallyAt (barCell (frm d c)) 1 1)
    {k : PUnit → Prog (TpuEff nD τ sig (Elt F) Λ₀ .tc) α} :
    iprop(ctx m K ∗ dutyTok ER (barCell (frm d c)) 0 d.val ∗ fact c d 0 0 ∗ fact c d 1 0 ∗ owesAt c O₀)
      ⊢ iprop((owesAt c O -∗ WP c (k ⟨⟩) Q) -∗ WP c (.op (.semSignal c' sem 1) k) Q) := by
  subst hc hs
  unfold owesAt
  iintro ⟨#HC, Ht, #Hf, #Hg, ⟨%W, HO⟩⟩ Hk
  ihave #Hi := (ctx_cell m K (frm d c) 0 rfl) $$ HC
  icases Hi with ⟨#Hi, #Hre⟩
  iapply (Rounds.wp_signal 𝒱₀ ER (Rd m) (c : Thread nD τ) none (dst := (frm d c : Thread nD τ)) (κ := K.1 (frm d c, 0)) (r := 0)
    (d := d.val) (by rw [duties_bar]; exact bar_mem d) (amount_bar m (frm d c) 0 d.val) 1 O hO (W := W)) $$ [Ht HO]
  · isplitr; · iexact Hi
    isplitl [HO]; · iexact HO
    isplitl [Ht]; · iexact Ht
    isplitr
    · rw [payload_bar, nxt_frm]
      isplitr; · iexact Hf
      iexact Hg
    iexact Hre
  iintro HO
  iapply Hk
  iexists W; iexact HO

theorem rest_bar (c : Dev nD) :
    bigSep ((Rd (F := F) m).duties (barCell c) 0 \ ∅) (fun u => (Rd (F := F) m).payload (barCell c) 0 u)
      = iprop((fact (nxt 0 c) 0 0 0 ∗ fact (nxt 0 c) 0 1 0) ∗ fact (nxt 1 c) 1 0 0 ∗ fact (nxt 1 c) 1 1 0) := by
  rw [duties_bar, Finset.sdiff_empty, bigSep_insert (by decide), bigSep_singleton, payload_bar0, payload_bar1]; rfl

theorem ready_start (c : Dev nD) (d s : Fin 2) : (fact (nxt d c) d s 0 : sProp 𝕄) = ready c d s.val := by
  unfold ready; fin_cases s <;> rfl

theorem meet {Q : α → sProp 𝕄} (c : Dev nD) {sem : Sem sig} (hs : sem = barS)
    {O : CellTallies nD τ sig ℕ} (hO : (levAts L lv : sProp 𝕄) ⊢ MayWait (c : Thread nD τ) (.reg barS) 1 O)
    {k : PUnit → Prog (TpuEff nD τ sig (Elt F) Λ₀ .tc) α} :
    iprop(ctx m K ∗ cred (tallyAt (barCell c) 1 2) ∗ atPos ER (barCell c) 0 ∅ 0 ∗ owesAt c O)
      ⊢ iprop((iprop(atPos ER (barCell c) 1 ∅ 0 ∗ ready c 0 0 ∗ ready c 0 1 ∗ ready c 1 0 ∗ ready c 1 1 ∗ owesAt c O) -∗ WP c (k ⟨⟩) Q)
        -∗ WP c (.op (.semWait sem 2) k) Q) := by
  subst hs
  unfold owesAt
  iintro ⟨#HC, Hcr, Hat, ⟨%W, HO⟩⟩ Hk
  ihave #Hi := (ctx_cell m K c 0 rfl) $$ HC
  icases Hi with ⟨#Hi, -⟩
  ihave #HL := (ctx_lev m K) $$ HC
  iapply (Rounds.wp_wait_rest_token 𝒱₀ ER (Rd m) (c : Thread nD τ) none (κ := K.1 (c, 0))
      (wpE_semWait_eq 𝒱₀ (c : Thread nD τ) none Set.univ) (Set.mem_univ _) 1 (O := O) (W := W) (R := 0) (m := 0) (T := ∅)
      (by rw [expect_bar])) $$ [Hcr HO Hat]
  · isplitr; · iexact Hi
    isplitl [Hcr]; · iexact Hcr
    isplitl [HO]; · iexact HO
    isplitr; · iapply hO $$ HL
    iexact Hat
  iintro ⟨HO, Hat, -, Hp⟩
  ihave Hp := (Entails.of_eq (rest_bar m c)) $$ Hp
  icases Hp with ⟨⟨#H0, #H1⟩, #H2, #H3⟩
  iapply Hk
  isplitl [Hat]; · iexact Hat
  isplitr; · iapply (Entails.of_eq (ready_start c 0 0)) $$ H0
  isplitr; · iapply (Entails.of_eq (ready_start c 0 1)) $$ H1
  isplitr; · iapply (Entails.of_eq (ready_start c 1 0)) $$ H2
  isplitr; · iapply (Entails.of_eq (ready_start c 1 1)) $$ H3
  iexists _; iexact HO

end Credit

end Cert.KernelIdeal.Exchange
-- ==== Proof.KernelIdealPlaces.lean ====
/-
Where each trip of the kernel's loop reads and writes, and which of its branches it takes, in terms of the step.
-/
module

public import proofs.«01_k».proof.Proof.KernelIdealCredit

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

/-! ## The branches -/

abbrev Trip : Type := Fin k0_t1_loop.trips

theorem trips_eq : k0_t1_loop.trips = 24 := by decide +kernel
theorem start_cond : ∀ k : Trip, (Scalar.cmpi .ne (Scalar.extui (Scalar.cmpi .sge (Scf.iv 0#32 1#32 k) 2#32) : BitVec 32) 0#32 = 1#1) ↔ 2 ≤ k.val := by decide +kernel
theorem cond2 : ∀ k : Trip, (k0_cond2 k = 1#1 ↔ k.val < 12) := by decide +kernel
theorem cond3 : ∀ k : Trip, k.val < 12 → (k0_cond3 k = 1#1 ↔ k.val / 4 = 1) := by decide +kernel
theorem cond4 : ∀ k : Trip, (k0_cond4 k = 1#1 ↔ k.val < 3) := by decide +kernel
theorem cond5 : ∀ k : Trip, (k0_cond5 k = 1#1 ↔ k.val < 2) := by decide +kernel
theorem cond6 : ∀ k : Trip, (k0_cond6 k = 1#1 ↔ 1 ≤ k.val) := by decide +kernel
theorem cond7 : ∀ k : Trip, 1 ≤ k.val → (k0_cond7 k = 1#1 ↔ k.val - 1 < 12) := by decide +kernel
theorem cond8 : ∀ k : Trip, 1 ≤ k.val → k.val - 1 < 12 → (k0_cond8 k = 1#1 ↔ (k.val - 1) / 4 = 1) := by decide +kernel
theorem cond9 : ∀ k : Trip, 1 ≤ k.val → k.val - 1 < 12 → (k0_cond9 k = 1#1 ↔ (k.val - 1) / 4 ≠ 1) := by decide +kernel
theorem cond10 : ∀ k : Trip, 1 ≤ k.val → k.val - 1 < 12 → (k0_cond10 k = 1#1 ↔ (k.val - 1) / 4 = 0) := by decide +kernel
theorem cond11 : ∀ k : Trip, 1 ≤ k.val → k.val - 1 < 12 → (k0_cond11 k = 1#1 ↔ (k.val - 1) / 4 = 2) := by decide +kernel
theorem cond12 : ∀ k : Trip, 1 ≤ k.val → k.val - 1 < 12 → (k0_cond12 k = 1#1 ↔ (k.val - 1) / 4 = 0) := by decide +kernel
theorem cond13 : ∀ k : Trip, 1 ≤ k.val → k.val - 1 < 12 → (k0_cond13 k = 1#1 ↔ (k.val - 1) / 4 = 2) := by decide +kernel
theorem cond14 : ∀ k : Trip, 1 ≤ k.val → (k0_cond14 k = 1#1 ↔ 12 ≤ k.val - 1) := by decide +kernel
theorem cond15 : ∀ k : Trip, 1 ≤ k.val → 12 ≤ k.val - 1 → (k0_cond15 k = 1#1 ↔ (k.val - 1) / 4 < 5) := by decide +kernel
theorem cond16 : ∀ k : Trip, 1 ≤ k.val → 12 ≤ k.val - 1 → (k0_cond16 k = 1#1 ↔ (k.val - 1) / 4 < 5) := by decide +kernel
theorem cond17 : ∀ k : Trip, 1 ≤ k.val → (k0_cond17 k = 1#1 ↔ k.val - 1 < 22) := by decide +kernel
theorem cond18 : k0_cond18 = 1#1 := by decide +kernel
theorem cond19 : ¬ k0_cond19 = 1#1 := by decide +kernel
theorem cond20 : ¬ k0_cond20 = 1#1 := by decide +kernel

/-! ## The places -/

theorem off3 : ∀ k : Trip, k0_off3 k = ![0, (sf k.val).val] := by decide +kernel
theorem off4 : ∀ k : Trip, k0_off4 k = ![0, (sf k.val).val, 0, 0] := by decide +kernel
theorem off5 : ∀ k : Trip, k0_off5 k = ![0, (jf k.val).val, 0, 0] := by decide +kernel
theorem off6 : ∀ k : Trip, k0_off6 k = ![1, (sf k.val).val] := by decide +kernel
theorem off7 : ∀ k : Trip, k0_off7 k = ![1, (sf k.val).val, 0, 0] := by decide +kernel
theorem off8 : ∀ k : Trip, k0_off8 k = ![1, (jf k.val).val, 0, 0] := by decide +kernel
theorem off9 : ∀ k : Trip, k0_cond2 k = 1#1 → k0_off9 k = ![0, (sf k.val).val] := by decide +kernel
theorem off10 : ∀ k : Trip, k0_cond2 k = 1#1 → k0_off10 k = ![0, (sf k.val).val, 0, 0] := by decide +kernel
theorem off11 : ∀ (c : Dev nD) (k : Trip), k0_cond2 k = 1#1 → k0_off11 c k = ![2048 * (qtr 0 (k.val / 4 + 1) c).val + 512 * (jf k.val).val, 0] := by decide +kernel
theorem off12 : ∀ k : Trip, k0_cond2 k = 1#1 → k0_cond3 k = 1#1 → k0_off12 k = ![1, (sf k.val).val] := by decide +kernel
theorem off13 : ∀ k : Trip, k0_cond2 k = 1#1 → k0_cond3 k = 1#1 → k0_off13 k = ![1, (sf k.val).val, 0, 0] := by decide +kernel
theorem off14 : ∀ (c : Dev nD) (k : Trip), k0_cond2 k = 1#1 → k0_cond3 k = 1#1 → k0_off14 c k = ![2048 * (qtr 1 (k.val / 4 + 1) c).val + 512 * (jf k.val).val, 0] := by decide +kernel
theorem off15 : ∀ (c : Dev nD) (k : Trip), k0_cond4 k = 1#1 → k0_off15 c k = ![2048 * (frm 0 c).val + 512 * (jf (k.val + 1)).val, 0] := by decide +kernel
theorem off16 : ∀ k : Trip, k0_cond4 k = 1#1 → k0_off16 k = ![0, (jf (k.val + 1)).val, 0, 0] := by decide +kernel
theorem off17 : ∀ (c : Dev nD) (k : Trip), k0_cond4 k = 1#1 → k0_off17 c k = ![2048 * (frm 1 c).val + 512 * (jf (k.val + 1)).val, 0] := by decide +kernel
theorem off18 : ∀ k : Trip, k0_cond4 k = 1#1 → k0_off18 k = ![1, (jf (k.val + 1)).val, 0, 0] := by decide +kernel
theorem off19 : ∀ (c : Dev nD) (k : Trip), k0_cond4 k = 1#1 → k0_cond5 k = 1#1 → k0_off19 c k = ![2048 * (frm 0 c).val + 512 * (jf (k.val + 2)).val, 0] := by decide +kernel
theorem off20 : ∀ (c : Dev nD) (k : Trip), k0_cond4 k = 1#1 → k0_cond5 k = 1#1 → k0_off20 c k = ![2048 * (frm 1 c).val + 512 * (jf (k.val + 2)).val, 0] := by decide +kernel
theorem off21 : ∀ k : Trip, k0_cond6 k = 1#1 → k0_off21 k = ![0, (sf (k.val - 1)).val] := by decide +kernel
theorem off22 : ∀ k : Trip, k0_cond6 k = 1#1 → k0_off22 k = ![0, (jf (k.val - 1)).val, 0, 0] := by decide +kernel
theorem off23 : ∀ k : Trip, k0_cond6 k = 1#1 → k0_off23 k = ![0, (sf (k.val - 1)).val, 0, 0] := by decide +kernel
theorem off24 : ∀ k : Trip, k0_cond6 k = 1#1 → k0_off24 k = ![1, (sf (k.val - 1)).val] := by decide +kernel
theorem off25 : ∀ k : Trip, k0_cond6 k = 1#1 → k0_off25 k = ![1, (jf (k.val - 1)).val, 0, 0] := by decide +kernel
theorem off26 : ∀ k : Trip, k0_cond6 k = 1#1 → k0_off26 k = ![1, (sf (k.val - 1)).val, 0, 0] := by decide +kernel
theorem off27 : ∀ k : Trip, k0_cond6 k = 1#1 → k0_cond7 k = 1#1 → k0_cond8 k = 1#1 → k0_off27 k = ![0, (sf (k.val - 1)).val] := by decide +kernel
theorem off28 : ∀ k : Trip, k0_cond6 k = 1#1 → k0_cond7 k = 1#1 → k0_cond8 k = 1#1 → k0_off28 k = ![0, (sf (k.val - 1)).val, 0, 0] := by decide +kernel
theorem off30 : ∀ k : Trip, k0_cond6 k = 1#1 → k0_cond7 k = 1#1 → k0_cond8 k = 1#1 → k0_off30 k = ![0, (sf (k.val - 1)).val, 0, 0] := by decide +kernel
theorem off31 : ∀ k : Trip, k0_cond6 k = 1#1 → k0_cond7 k = 1#1 → k0_cond8 k = 1#1 → k0_off31 k = ![0, (jf (k.val - 1)).val, 0, 0] := by decide +kernel
theorem off32 : ∀ k : Trip, k0_cond6 k = 1#1 → k0_cond7 k = 1#1 → k0_cond8 k = 1#1 → k0_off32 k = ![1, (sf (k.val - 1)).val] := by decide +kernel
theorem off33 : ∀ k : Trip, k0_cond6 k = 1#1 → k0_cond7 k = 1#1 → k0_cond8 k = 1#1 → k0_off33 k = ![1, (sf (k.val - 1)).val, 0, 0] := by decide +kernel
theorem off35 : ∀ k : Trip, k0_cond6 k = 1#1 → k0_cond7 k = 1#1 → k0_cond8 k = 1#1 → k0_off35 k = ![1, (sf (k.val - 1)).val, 0, 0] := by decide +kernel
theorem off36 : ∀ k : Trip, k0_cond6 k = 1#1 → k0_cond7 k = 1#1 → k0_cond8 k = 1#1 → k0_off36 k = ![1, (jf (k.val - 1)).val, 0, 0] := by decide +kernel
theorem off37 : ∀ k : Trip, k0_cond6 k = 1#1 → k0_cond7 k = 1#1 → k0_cond9 k = 1#1 → k0_off37 k = ![0, (sf (k.val - 1)).val] := by decide +kernel
theorem off38 : ∀ k : Trip, k0_cond6 k = 1#1 → k0_cond7 k = 1#1 → k0_cond9 k = 1#1 → k0_off38 k = ![0, (sf (k.val - 1)).val, 0, 0] := by decide +kernel
theorem off40 : ∀ k : Trip, k0_cond6 k = 1#1 → k0_cond7 k = 1#1 → k0_cond9 k = 1#1 → k0_off40 k = ![0, (sf (k.val - 1)).val, 0, 0] := by decide +kernel
theorem off41 : ∀ k : Trip, k0_cond6 k = 1#1 → k0_cond7 k = 1#1 → k0_cond9 k = 1#1 → k0_cond10 k = 1#1 → k0_off41 k = ![0, (jf (k.val - 1)).val, 0, 0] := by decide +kernel
theorem off42 : ∀ k : Trip, k0_cond6 k = 1#1 → k0_cond7 k = 1#1 → k0_cond9 k = 1#1 → k0_cond11 k = 1#1 → k0_off42 k = ![0, (jf (k.val - 1)).val, 0, 0] := by decide +kernel
theorem off43 : ∀ (c : Dev nD) (k : Trip), k0_cond6 k = 1#1 → k0_cond7 k = 1#1 → k0_cond9 k = 1#1 → k0_cond11 k = 1#1 → k0_off43 c k = ![2048 * (c).val + 512 * (jf (k.val - 1)).val, 0] := by decide +kernel
theorem off44 : ∀ k : Trip, k0_cond6 k = 1#1 → k0_cond7 k = 1#1 → k0_cond9 k = 1#1 → k0_cond11 k = 1#1 → k0_off44 k = ![0, (jf (k.val - 1)).val, 0, 0] := by decide +kernel
theorem off45 : ∀ k : Trip, k0_cond6 k = 1#1 → k0_cond7 k = 1#1 → k0_cond9 k = 1#1 → k0_off45 k = ![1, (sf (k.val - 1)).val, 0, 0] := by decide +kernel
theorem off46 : ∀ k : Trip, k0_cond6 k = 1#1 → k0_cond7 k = 1#1 → k0_cond9 k = 1#1 → k0_cond12 k = 1#1 → k0_off46 k = ![1, (jf (k.val - 1)).val, 0, 0] := by decide +kernel
theorem off47 : ∀ k : Trip, k0_cond6 k = 1#1 → k0_cond7 k = 1#1 → k0_cond9 k = 1#1 → k0_cond13 k = 1#1 → k0_off47 k = ![1, (jf (k.val - 1)).val, 0, 0] := by decide +kernel
theorem off48 : ∀ (c : Dev nD) (k : Trip), k0_cond6 k = 1#1 → k0_cond7 k = 1#1 → k0_cond9 k = 1#1 → k0_cond13 k = 1#1 → k0_off48 c k = ![2048 * (c).val + 512 * (jf (k.val - 1)).val, 2048] := by decide +kernel
theorem off49 : ∀ k : Trip, k0_cond6 k = 1#1 → k0_cond7 k = 1#1 → k0_cond9 k = 1#1 → k0_cond13 k = 1#1 → k0_off49 k = ![1, (jf (k.val - 1)).val, 0, 0] := by decide +kernel
theorem off50 : ∀ (c : Dev nD) (k : Trip), k0_cond6 k = 1#1 → k0_cond14 k = 1#1 → k0_off50 c k = ![2048 * (qtr 0 ((k.val - 1) / 4 - 3) c).val + 512 * (jf (k.val - 1)).val, 0] := by decide +kernel
theorem off51 : ∀ k : Trip, k0_cond6 k = 1#1 → k0_cond14 k = 1#1 → k0_off51 k = ![0, (sf (k.val - 1)).val, 0, 0] := by decide +kernel
theorem off52 : ∀ k : Trip, k0_cond6 k = 1#1 → k0_cond14 k = 1#1 → k0_cond15 k = 1#1 → k0_off52 k = ![0, (sf (k.val - 1)).val, 0, 0] := by decide +kernel
theorem off53 : ∀ k : Trip, k0_cond6 k = 1#1 → k0_cond14 k = 1#1 → k0_cond15 k = 1#1 → k0_off53 k = ![0, (jf (k.val - 1)).val, 0, 0] := by decide +kernel
theorem off54 : ∀ (c : Dev nD) (k : Trip), k0_cond6 k = 1#1 → k0_cond14 k = 1#1 → k0_off54 c k = ![2048 * (qtr 1 ((k.val - 1) / 4 - 3) c).val + 512 * (jf (k.val - 1)).val, 2048] := by decide +kernel
theorem off55 : ∀ k : Trip, k0_cond6 k = 1#1 → k0_cond14 k = 1#1 → k0_off55 k = ![1, (sf (k.val - 1)).val, 0, 0] := by decide +kernel
theorem off56 : ∀ k : Trip, k0_cond6 k = 1#1 → k0_cond14 k = 1#1 → k0_cond16 k = 1#1 → k0_off56 k = ![1, (sf (k.val - 1)).val, 0, 0] := by decide +kernel
theorem off57 : ∀ k : Trip, k0_cond6 k = 1#1 → k0_cond14 k = 1#1 → k0_cond16 k = 1#1 → k0_off57 k = ![1, (jf (k.val - 1)).val, 0, 0] := by decide +kernel

theorem dev1 (c : Dev nD) : (⟨k0_dev1 c, k0_dev1_lt c⟩ : Dev nD) = frm 0 c := by revert c; decide +kernel
theorem dev2 (c : Dev nD) : (⟨k0_dev2 c, k0_dev2_lt c⟩ : Dev nD) = frm 1 c := by revert c; decide +kernel
theorem dev3 (c : Dev nD) : (⟨k0_dev3 c, k0_dev3_lt c⟩ : Dev nD) = nxt 0 c := by revert c; decide +kernel
theorem dev4 (c : Dev nD) : (⟨k0_dev4 c, k0_dev4_lt c⟩ : Dev nD) = nxt 1 c := by revert c; decide +kernel
theorem dev5 : ∀ (c : Dev nD) (h : k0_dev5 c < nD), (⟨k0_dev5 c, h⟩ : Dev nD) = frm 0 c := by decide +kernel
theorem dev6 : ∀ (c : Dev nD) (h : k0_dev6 c < nD), (⟨k0_dev6 c, h⟩ : Dev nD) = frm 1 c := by decide +kernel
theorem off1_0 : ∀ c : Dev nD, k0_off1 c 0#32 = ![2048 * (frm 0 c).val + 512 * (jf 0).val, 0] := by decide +kernel
theorem off1_1 : ∀ c : Dev nD, k0_off1 c 512#32 = ![2048 * (frm 0 c).val + 512 * (jf 1).val, 0] := by decide +kernel
theorem off2_0 : ∀ c : Dev nD, k0_off2 c 0#32 = ![2048 * (frm 1 c).val + 512 * (jf 0).val, 0] := by decide +kernel
theorem off2_1 : ∀ c : Dev nD, k0_off2 c 512#32 = ![2048 * (frm 1 c).val + 512 * (jf 1).val, 0] := by decide +kernel
theorem off58 : k0_off58 = ![0, (sf 23).val] := by decide +kernel
theorem off59 : k0_off59 = ![0, (jf 23).val, 0, 0] := by decide +kernel
theorem off60 : k0_off60 = ![0, (sf 23).val, 0, 0] := by decide +kernel
theorem off61 : k0_off61 = ![1, (sf 23).val] := by decide +kernel
theorem off62 : k0_off62 = ![1, (jf 23).val, 0, 0] := by decide +kernel
theorem off63 : k0_off63 = ![1, (sf 23).val, 0, 0] := by decide +kernel
theorem off65 : k0_off65 = ![0, (sf 23).val, 0, 0] := by decide +kernel
theorem off69 : k0_off69 = ![1, (sf 23).val, 0, 0] := by decide +kernel
theorem off64 : ∀ c : Dev nD, k0_off64 c = ![2048 * (qtr 0 2 c).val + 512 * (jf 23).val, 0] := by decide +kernel
theorem off68 : ∀ c : Dev nD, k0_off68 c = ![2048 * (qtr 1 2 c).val + 512 * (jf 23).val, 2048] := by decide +kernel

end Cert.KernelIdeal.Exchange
-- ==== Proof.KernelIdealPays.lean ====
/-
What the values the kernel stores are, in terms of the blocks that travel.
-/
module

public import proofs.«01_k».proof.Proof.KernelIdealPlaces

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## The arithmetic, one store at a time -/

abbrev up1 (X : FVec F S512x2048 .bf16) : FVec F S1x512x2048 .bf16 := shapeCast S1x512x2048 X shapeCasts_S1x512x2048_S512x2048.symm
theorem down1 (X : FVec F S512x2048 .bf16) : shapeCast S512x2048 (up1 X) shapeCasts_S1x512x2048_S512x2048 = X := by
  unfold up1; rw [shapeCast_shapeCast]; try exact shapeCast_self _ _

section Pays
variable (X r : FVec F S512x2048 .bf16) (w : FVec F S2048x2048 .bf16) (W : FVec F S2048x4096 .bf16) (p : FVec F S512x2048 .f32)

theorem pay14 : k0_pay14 (up1 X) w = up (rndV (prodV X w)) := by
  show up (rndV (prodV (shapeCast S512x2048 (up1 X) shapeCasts_S1x512x2048_S512x2048) w)) = _; rw [down1]
theorem pay2 : k0_pay2 (up1 X) w = up (rndV (prodV X w)) := by
  show up (rndV (prodV (shapeCast S512x2048 (up1 X) shapeCasts_S1x512x2048_S512x2048) w)) = _; rw [down1]
theorem pay15 : k0_pay15 (up1 X) w = rndV (prodV X w) := by
  show rndV (prodV (shapeCast S512x2048 (up1 X) shapeCasts_S1x512x2048_S512x2048) w) = _; rw [down1]
theorem pay3 : k0_pay3 (up1 X) = X := down1 X
theorem pay16 : k0_pay16 X = up X := rfl
theorem pay12 : k0_pay12 X w = up (rndV (prodV X w)) := rfl
theorem pay4 : k0_pay4 (up X) w (up r) = up (rndV (addV (prodV X w) r)) := by
  show up (rndV (addV (prodV (down (up X)) w) (down (up r)))) = _; rw [down_up, down_up]
theorem pay17 : k0_pay17 (up X) w (up r) = up (rndV (addV (prodV X w) r)) := by
  show up (rndV (addV (prodV (down (up X)) w) (down (up r)))) = _; rw [down_up, down_up]
theorem pay7 : k0_pay7 (up X) W (up r) = up (rndV (addV (halfV 0 (fullV X W)) r)) := by
  show up (rndV (addV (halfV 0 (fullV (down (up X)) W)) (down (up r)))) = _; rw [down_up, down_up]
theorem pay8 : k0_pay8 (up X) W (up r) = up (rndV (reluV (addV (halfV 0 (fullV X W)) r))) := by
  show up (rndV (reluV (addV (halfV 0 (fullV (down (up X)) W)) (down (up r))))) = _; rw [down_up, down_up]
theorem pay9 : k0_pay9 (up X) W = halfV 1 (fullV X W) := by
  show halfV 1 (fullV (down (up X)) W) = _; rw [down_up]
theorem pay10 : k0_pay10 (up r) = r := down_up r
theorem pay19 : k0_pay19 p r = up (rndV (addV p r)) := rfl
theorem pay20 : k0_pay20 p r = up (rndV (reluV (addV p r))) := rfl
theorem pay11 : k0_pay11 (up r) = up r := by show up (down (up r)) = _; rw [down_up]
theorem pay21 : k0_pay21 (up r) = up r := by show up (down (up r)) = _; rw [down_up]

end Pays

/-! ## The blocks that travel, one stage after another -/

section Stages
variable (c : Dev nD) (d : Fin 2) (q : ℕ)

theorem jf_add4 : jf (q + 4) = jf q := Fin.ext (by show (q + 4) % 4 = q % 4; omega)
theorem qtr_one : qtr 0 1 c = hop 2 c := by revert c; decide
theorem qtr_three : qtr 0 3 c = c := by revert c; decide

theorem sv_first (h : q < 4) : sv m c d q = rndV (prodV (xblk m c (frm d c) (jf q)) (wHalf m c d)) := by
  unfold sv; rw [show q / 4 = 0 by omega, sval]
theorem sv_second (h : q / 4 = 0) :
    sv m c d (q + 4) = rndV (addV (halfV d (fullV (xblk m c (qtr 0 (q / 4 + 1) c) (jf q)) (wAll m c))) (sv m (frm d c) d q)) := by
  unfold sv; rw [show (q + 4) / 4 = 1 by omega, h, jf_add4, qtr_one]; conv_lhs => rw [sval]
theorem sv_third (h : q / 4 = 1) :
    sv m c d (q + 4) = rndV (addV (prodV (xblk m c (qtr d (q / 4 + 1) c) (jf q)) (wHalf m c d)) (sv m (frm d c) d q)) := by
  unfold sv; rw [show (q + 4) / 4 = 2 by omega, h, jf_add4]; conv_lhs => rw [sval]
theorem sv_fourth (h : q / 4 = 2) :
    sv m c d (q + 4) = rndV (reluV (addV (halfV d (fullV (xblk m c (qtr 0 (q / 4 + 1) c) (jf q)) (wAll m c))) (sv m (frm d c) d q))) := by
  unfold sv; rw [show (q + 4) / 4 = 3 by omega, h, jf_add4, qtr_three]; conv_lhs => rw [sval]
theorem sv_later (h : 12 ≤ q) : sv m c d (q + 4) = sv m (frm d c) d q := by
  unfold sv; obtain ⟨k, hk⟩ : ∃ k, q / 4 = k + 3 := ⟨q / 4 - 3, by omega⟩
  rw [show (q + 4) / 4 = k + 4 by omega, hk, jf_add4, sval]

/-- What a finished block of the result reads as. -/
def outV (d : Fin 2) (q : Dev nD) (j : Fin 4) : FVec F S512x2048 .bf16 := sval m 3 q d j

theorem sv_own (h : q / 4 = 2) : sv m c d (q + 4) = outV m d c (jf q) := by
  unfold sv outV; rw [show (q + 4) / 4 = 3 by omega, jf_add4]

theorem qtr_zero (d : Fin 2) (c : Dev nD) : qtr d 0 c = frm d c := by revert c d; decide
theorem qtr_first : qtr d 0 (frm d c) = qtr d 1 c := by revert c d; decide
theorem qtr_second : qtr d 0 (frm d (frm d c)) = qtr d 2 c := by revert c d; decide

theorem sv_received (h : 12 ≤ q) (h' : q < 24) : sv m (frm d c) d q = outV m d (qtr d (q / 4 - 3) c) (jf q) := by
  unfold sv outV
  rcases (by omega : q / 4 = 3 ∨ q / 4 = 4 ∨ q / 4 = 5) with e | e | e
  · rw [e, qtr_zero]
  · have h4 : sval m 4 (frm d c) d (jf q) = sval m 3 (frm d (frm d c)) d (jf q) := by conv_lhs => rw [sval]
    rw [e, h4, ← qtr_zero d (frm d c), qtr_first]
  · have h4 : sval m 5 (frm d c) d (jf q) = sval m 3 (frm d (frm d (frm d c))) d (jf q) := by
      conv_lhs => rw [sval]
      conv_lhs => rw [sval]
    rw [e, h4, ← qtr_zero d (frm d (frm d c)), qtr_second]

end Stages

end Cert.KernelIdeal.Exchange
-- ==== Proof.KernelIdealState.lean ====
/-
What one device holds between two trips of its loop.  Everything indexed by a step of the exchange is a run of
consecutive steps: a send takes the front of one run and adds to the end of another.
-/

module

public import proofs.«01_k».proof.Proof.KernelIdealPays
public import proofs.«01_k».proof.Proof.KernelIdealCredit
public import proofs.«01_k».proof.Proof.KernelIdealPlaces

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-! ## The blocks and the semaphores at printed offsets -/

theorem acc_at (d : Fin 2) (j : Fin 4) {off : Fin 4 → ℕ} (ho : off = ![d.val, j.val, 0, 0]) {inb hst hq} :
    ((Memref.whole cc0_scratch1 : Memref sig .tc .vmem S2x4x512x2048 .bf16).slice
      (Rect.unit (s := S2x4x512x2048) off S1x1x512x2048.size inb) hst).squeeze S512x2048 hq = accM d j := by subst ho; rfl
theorem recv_at (d s : Fin 2) {off : Fin 4 → ℕ} (ho : off = ![d.val, s.val, 0, 0]) {inb hst hq} :
    ((Memref.whole cc0_scratch2 : Memref sig .tc .vmem S2x2x512x2048 .bf16).slice
      (Rect.unit (s := S2x2x512x2048) off S1x1x512x2048.size inb) hst).squeeze S512x2048 hq = recvM d s := by subst ho; rfl
theorem cx_at (d s : Fin 2) {off : Fin 4 → ℕ} (ho : off = ![d.val, s.val, 0, 0]) {inb hst hq} :
    ((Memref.whole cc0_scratch3 : Memref sig .tc .vmem S2x2x512x2048 .bf16).slice
      (Rect.unit (s := S2x2x512x2048) off S1x1x512x2048.size inb) hst).squeeze S512x2048 hq = cxM d s := by subst ho; rfl
theorem px_at (d : Fin 2) {off : Fin 3 → ℕ} (ho : off = ![d.val, 0, 0]) {inb hst hq} :
    ((Memref.whole cc0_scratch4 : Memref sig .tc .vmem S2x512x2048 .bf16).slice
      (Rect.unit (s := S2x512x2048) off S1x512x2048.size inb) hst).squeeze S512x2048 hq = pxM d := by subst ho; rfl
theorem x_at (q : Dev nD) (j : Fin 4) {off : Fin 2 → ℕ} (ho : off = ![2048 * q.val + 512 * j.val, 0]) {inb hst} :
    (Memref.whole main_arg0 : Memref sig .tc .hbm S8192x2048 .bf16).slice
      (Rect.unit (s := S8192x2048) off S512x2048.size inb) hst = xM q j := by subst ho; rfl
theorem o_at (d : Fin 2) (q : Dev nD) (j : Fin 4) {off : Fin 2 → ℕ} (ho : off = ![2048 * q.val + 512 * j.val, 2048 * d.val]) {inb hst} :
    (Memref.whole main_v1 : Memref sig .tc .hbm S8192x4096 .bf16).slice
      (Rect.unit (s := S8192x4096) off S512x2048.size inb) hst = oM d q j := by subst ho; rfl
theorem send_at (d s : Fin 2) {off : Fin 2 → ℕ} (ho : off = ![d.val, s.val]) {inb hq} :
    ((cc0_scratch5.slice (Rect.unit (s := S2x2) off S1x1.size inb)).squeeze S_ hq).sem = sendS d s := by subst ho; rfl
theorem recvs_at (d s : Fin 2) {off : Fin 2 → ℕ} (ho : off = ![d.val, s.val]) {inb hq} :
    ((cc0_scratch6.slice (Rect.unit (s := S2x2) off S1x1.size inb)).squeeze S_ hq).sem = recvS d s := by subst ho; rfl
theorem cxs_at (d s : Fin 2) {off : Fin 2 → ℕ} (ho : off = ![d.val, s.val]) {inb hq} :
    ((cc0_scratch7.slice (Rect.unit (s := S2x2) off S1x1.size inb)).squeeze S_ hq).sem = cxS d s := by subst ho; rfl
theorem pxs_at (d : Fin 2) {off : Fin 1 → ℕ} (ho : off = ![d.val]) {inb hq} :
    ((cc0_scratch8.slice (Rect.unit (s := S2) off S1.size inb)).squeeze S_ hq).sem = pxS d := by subst ho; rfl
theorem credit_at (d : Fin 2) {off : Fin 1 → ℕ} (ho : off = ![d.val]) {inb hq} :
    ((cc0_scratch11.slice (Rect.unit (s := S2) off S1.size inb)).squeeze S_ hq).sem = creditS d := by subst ho; rfl

theorem sf_two (q : ℕ) : sf (q + 2) = sf q := Fin.ext (by show (q + 2) % 2 = q % 2; omega)
theorem jf_four (q : ℕ) : jf (q + 4) = jf q := Fin.ext (by show (q + 4) % 4 = q % 4; omega)

/-! ## The runs -/

/-- The block that step `t` sends: computed if `t` is one of the first `r`, or is a later step's; free otherwise. -/
def accRes (c : Dev nD) (d : Fin 2) (r t : ℕ) : sProp 𝕄 :=
  if (t < r ∨ 4 ≤ t) ∧ t < 24 then owns (c : Thread nD τ) (accM d (jf t)) fullShare (sv m c d t) else free c (accM d (jf t))
def accB (c : Dev nD) (d : Fin 2) (r p e : ℕ) : sProp 𝕄 := seq (accRes m c d r) p e

/-- Sends not yet made, sends under way, and the positions of the rounds they report to. -/
def sndR (c : Dev nD) (d : Fin 2) (p : ℕ) : sProp 𝕄 := seq (sendRes c d) p 24
def sndC (c : Dev nD) (d : Fin 2) (q p : ℕ) : sProp 𝕄 := seq (fun t => cred (tallyAt (sendCell d (sf t) c) 0 N)) q p
def sndP (c : Dev nD) (d : Fin 2) (q : ℕ) : sProp 𝕄 := seq (sendPos c d) q (q + 2)

/-- Credits still to be received. -/
def crdB (c : Dev nD) (d : Fin 2) (n : ℕ) : sProp 𝕄 :=
  iprop(seq (fun u => cred (tallyAt (creditCell d c) (2 * u + 3) 1)) n 22 ∗ creditPos m c d n)

/-- Arrivals still to be awaited, and the reader's positions. -/
def rcvC (c : Dev nD) (d : Fin 2) (q : ℕ) : sProp 𝕄 := seq (fun t => cred (tallyAt (recvCell d (sf t) c) (2 * t + 2) N)) q 24
def rcvP (c : Dev nD) (d : Fin 2) (q : ℕ) : sProp 𝕄 := seq (recvPos c d) q (q + 2)
/-- The same while the slot of step `q` is held. -/
def rcvH (c : Dev nD) (d : Fin 2) (q : ℕ) : sProp 𝕄 :=
  iprop(recvPos c d (q + 1) ∗ readerAt ES (c, d, sf q) (q / 2 + 1) ∗ atPos ER (recvCell d (sf q) c) (q / 2 + 1) ∅ 0
    ∗ reached ER (recvCell d (sf q) c) (q / 2 + 1))

/-- Credits still to be given. -/
def tokB (c : Dev nD) (d : Fin 2) (q : ℕ) : sProp 𝕄 := seq (fun u => dutyTok ER (creditCell d (frm d c)) 0 u) q 22

/-- The steps for which a block of the operand is fetched ahead. -/
def copied (d : Fin 2) (t : ℕ) : Prop := t < 12 ∧ (d = 0 ∨ t / 4 = 1)
instance (d : Fin 2) (t : ℕ) : Decidable (copied d t) := by unfold copied; infer_instance

def cxFree (c : Dev nD) (d : Fin 2) (t : ℕ) : sProp 𝕄 :=
  iprop(semVal ((c : Thread nD τ), SemLoc.dma (cxS d (sf t))) 0 ∗ free c (cxM d (sf t)) ∗ xtok m c (2 + 2 * d.val + (sf t).val))
def cxRes (c : Dev nD) (d : Fin 2) (t : ℕ) : sProp 𝕄 :=
  if copied d t then xfly m c (cxS d (sf t)) (cxM d (sf t)) (qtr d (t / 4 + 1) c) (jf t) (2 + 2 * d.val + (sf t).val) else cxFree m c d t
def cxB (c : Dev nD) (d : Fin 2) (q p : ℕ) : sProp 𝕄 := iprop(seq (cxRes m c d) q p ∗ seq (cxFree m c d) p (q + 2))
/-- The same while the block of step `q` is held. -/
def cxH (c : Dev nD) (d : Fin 2) (q p : ℕ) : sProp 𝕄 :=
  iprop(semVal ((c : Thread nD τ), SemLoc.dma (cxS d (sf q))) 0 ∗ xtok m c (2 + 2 * d.val + (sf q).val)
    ∗ seq (cxRes m c d) (q + 1) p ∗ seq (cxFree m c d) p (q + 2))

def pxFree (c : Dev nD) (d : Fin 2) : sProp 𝕄 :=
  iprop(free c (pxM d) ∗ xtok m c d.val ∗ semVal ((c : Thread nD τ), SemLoc.dma (pxS d)) 0)
/-- The slot for the first four blocks, with block `r` under way. -/
def pxB (c : Dev nD) (d : Fin 2) (r : ℕ) : sProp 𝕄 :=
  if r < 4 then xfly m c (pxS d) (pxM d) (frm d c) (jf r) d.val else pxFree m c d

/-- Whose rows step `t` completes. -/
def home (c : Dev nD) (d : Fin 2) (t : ℕ) : Dev nD := if t < 12 then c else qtr d (t / 4 - 3) c
/-- The result array, with the blocks completed before step `n d` written. -/
def outP (c : Dev nD) (n : Fin 2 → ℕ) : sProp 𝕄 :=
  iprop((∃ f : Buf (Elt F) ((c : Thread nD τ).loc main_v1), (((c : Thread nD τ).loc main_v1) ↦{fullShare} f)
      ∗ ⌜∀ d t, 8 ≤ t → t < n d → t < 24 → (oM d (home c d t) (jf t)).view.read (Elt F) f = outV m d (home c d t) (jf t)⌝)
    ∗ semVal ((c : Thread nD τ), SemLoc.dma outS) 0)

/-! ## Facts about the runs -/

theorem accRes_own (c : Dev nD) (d : Fin 2) {r t : ℕ} (h : (t < r ∨ 4 ≤ t) ∧ t < 24) :
    accRes m c d r t = owns (c : Thread nD τ) (accM d (jf t)) fullShare (sv m c d t) := if_pos h
theorem accRes_free (c : Dev nD) (d : Fin 2) {r t : ℕ} (h : ¬((t < r ∨ 4 ≤ t) ∧ t < 24)) :
    accRes m c d r t = free c (accM d (jf t)) := if_neg h

theorem accB_next (c : Dev nD) (d : Fin 2) {r p e : ℕ} (h : r < p ∨ 4 ≤ r) : accB m c d r p e = accB m c d (r + 1) p e := by
  unfold accB
  refine seq_congr fun t h1 h2 => ?_
  unfold accRes
  refine if_congr ?_ rfl rfl
  constructor <;> rintro ⟨h3, h4⟩ <;> exact ⟨by omega, h4⟩

theorem accB_push (c : Dev nD) (d : Fin 2) {r p q : ℕ} (h : p ≤ q + 4) (hq : q + 4 < 24) :
    iprop(owns (c : Thread nD τ) (accM d (jf q)) fullShare (sv m c d (q + 4)) ∗ accB m c d r p (q + 4)) ⊢ accB m c d r p (q + 5) := by
  unfold accB
  rw [show q + 5 = (q + 4) + 1 from rfl, seq_push _ h, accRes_own m c d ⟨Or.inr (by omega), hq⟩, jf_four]

theorem accB_push_free (c : Dev nD) (d : Fin 2) {r p q : ℕ} (h : p ≤ q + 4) (hq : ¬ q + 4 < 24) :
    iprop(free c (accM d (jf q)) ∗ accB m c d r p (q + 4)) ⊢ accB m c d r p (q + 5) := by
  unfold accB
  rw [show q + 5 = (q + 4) + 1 from rfl, seq_push _ h, accRes_free m c d (fun h => hq h.2), jf_four]

/-- Block `r` is the next to be computed. -/
theorem accB_take (c : Dev nD) (d : Fin 2) {r e : ℕ} (h : r < e) (h4 : r < 4) :
    accB m c d r r e ⊢ iprop(free c (accM d (jf r)) ∗ accB m c d r (r + 1) e) := by
  unfold accB
  rw [seq_pop _ h, accRes_free m c d (by omega)]

theorem accB_put (c : Dev nD) (d : Fin 2) {r e : ℕ} (h : r < e) (h4 : r < 4) :
    iprop(owns (c : Thread nD τ) (accM d (jf r)) fullShare (sv m c d r) ∗ accB m c d r (r + 1) e) ⊢ accB m c d (r + 1) r e := by
  rw [accB_next m c d (Or.inl (Nat.lt_succ_self r))]
  unfold accB
  rw [seq_pop _ h, accRes_own m c d ⟨Or.inl (Nat.lt_succ_self r), by omega⟩]

theorem cxB_skip (c : Dev nD) (d : Fin 2) {q p : ℕ} (hq : q ≤ p) (hp : p < q + 2) (h : ¬ copied d p) : cxB m c d q p ⊢ cxB m c d q (p + 1) := by
  unfold cxB
  rw [seq_pop (cxFree m c d) hp, seq_push (cxRes m c d) hq, show cxRes m c d p = cxFree m c d p from if_neg h]
  iintro ⟨H1, H2, H3⟩; iframe

theorem cxFree_two (c : Dev nD) (d : Fin 2) (q : ℕ) : cxFree m c d (q + 2) = cxFree m c d q := by unfold cxFree; rw [sf_two]

theorem cxB_pass (c : Dev nD) (d : Fin 2) {q p : ℕ} (hq : q < p) (hp : p ≤ q + 2) (h : ¬ copied d q) : cxB m c d q p ⊢ cxB m c d (q + 1) p := by
  unfold cxB
  rw [show q + 1 + 2 = (q + 2) + 1 from rfl, seq_pop (cxRes m c d) hq, seq_push (cxFree m c d) hp, cxFree_two,
    show cxRes m c d q = cxFree m c d q from if_neg h]
  iintro ⟨⟨H1, H2⟩, H3⟩; iframe

theorem cxB_close (c : Dev nD) (d : Fin 2) {q p : ℕ} (hp : p ≤ q + 2) (X : FVec F S512x2048 .bf16) :
    iprop(owns (c : Thread nD τ) (cxM d (sf q)) fullShare X ∗ cxH m c d q p) ⊢ cxB m c d (q + 1) p := by
  unfold cxB cxH
  rw [show q + 1 + 2 = (q + 2) + 1 from rfl, seq_push (cxFree m c d) hp, cxFree_two]
  unfold cxFree free
  iintro ⟨H1, H2, H3, H4, H5⟩
  iframe H2 H3 H4 H5
  iexists X
  iexact H1

theorem sndP_reached (c : Dev nD) (d : Fin 2) {q p : ℕ} (hq : q ≤ p) (hp : p < q + 2) :
    (sndP c d q : sProp 𝕄) ⊢ reached ER (sendCell d (sf p) c) (p / 2) := by
  have h : (sndP c d q : sProp 𝕄) ⊢ sendPos c d p := bigSep_elim (Finset.mem_Ico.mpr ⟨hq, hp⟩)
  refine h.trans ?_
  unfold sendPos
  iintro ⟨-, H⟩; iexact H

theorem rcvP_facts (c : Dev nD) (d : Fin 2) (q : ℕ) :
    (rcvP c d (q + 1) : sProp 𝕄) ⊢ iprop(fact c d 0 ((q + 2) / 2) ∗ fact c d 1 ((q + 1) / 2)) := by
  have h (t : ℕ) (h1 : q + 1 ≤ t) (h2 : t < q + 3) : (rcvP c d (q + 1) : sProp 𝕄) ⊢ fact c d (sf t) (t / 2) := by
    have h : (rcvP c d (q + 1) : sProp 𝕄) ⊢ recvPos c d t := bigSep_elim (Finset.mem_Ico.mpr ⟨h1, h2⟩)
    refine h.trans ?_
    unfold recvPos
    iintro ⟨-, -, H⟩; iexact H
  have h1 := h (q + 1) (by omega) (by omega)
  have h2 := h (q + 2) (by omega) (by omega)
  rcases Nat.even_or_odd q with ⟨a, ha⟩ | ⟨a, ha⟩
  · rw [show sf (q + 1) = 1 from Fin.ext (by show (q + 1) % 2 = 1; omega)] at h1
    rw [show sf (q + 2) = 0 from Fin.ext (by show (q + 2) % 2 = 0; omega)] at h2
    iintro H
    ihave #A := h1 $$ H
    ihave #B := h2 $$ H
    isplitl; · iexact B
    iexact A
  · rw [show sf (q + 1) = 0 from Fin.ext (by show (q + 1) % 2 = 0; omega), show (q + 1) / 2 = (q + 2) / 2 by omega] at h1
    rw [show sf (q + 2) = 1 from Fin.ext (by show (q + 2) % 2 = 1; omega), show (q + 2) / 2 = (q + 1) / 2 by omega] at h2
    iintro H
    ihave #A := h1 $$ H
    ihave #B := h2 $$ H
    isplitl; · iexact A
    iexact B

theorem outP_early (c : Dev nD) {n n' : Fin 2 → ℕ} (h : ∀ d, n' d ≤ 8) : outP m c n ⊢ outP m c n' := by
  unfold outP
  iintro ⟨⟨%f, H, %hf⟩, Hs⟩
  iframe Hs
  iexists f
  iframe H
  ipureintro
  intro d t h1 h2
  have := h d
  omega

end Cert.KernelIdeal.Exchange
-- ==== Proof.KernelIdealSteps.lean ====
/-
One step of the exchange on what a device holds: awaiting a credit, sending a block, awaiting a block, giving a credit.
-/
module

public import proofs.«01_k».proof.Proof.KernelIdealState

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

section Steps
variable {α : Type}

theorem st_credit {Q : α → sProp 𝕄} (c : Dev nD) (d : Fin 2) (n : ℕ) (hn : n < 22) {sem : Sem sig} (hs : sem = creditS d)
    {O : CellTallies nD τ sig ℕ} (hO : (levAts L lv : sProp 𝕄) ⊢ MayWait (c : Thread nD τ) (.reg (creditS d)) (2 * n + 3) O)
    {k : PUnit → Prog (TpuEff nD τ sig (Elt F) Λ₀ .tc) α} :
    iprop(ctx m K ∗ crdB m c d n ∗ owesAt c O)
      ⊢ iprop((iprop(crdB m c d (n + 1) ∗ ready c d (n + 2) ∗ owesAt c O) -∗ WP c (k ⟨⟩) Q)
        -∗ WP c (.op (.semWait sem 1) k) Q) := by
  unfold crdB
  rw [seq_pop _ hn]
  iintro ⟨#Hctx, ⟨⟨Hc, Hcs⟩, Hp⟩, Ho⟩ Hk
  iapply (wait_credit m K c d n hn hs hO) $$ [Hc Hp Ho]
  · iframe Hctx Hc Hp Ho
  iintro ⟨Hp, Hr, Ho⟩
  iapply Hk
  iframe

theorem st_send {Q : α → sProp 𝕄} (c : Dev nD) (d : Fin 2) (r q p e : ℕ) (hp : p < 24) (hq : q ≤ p) (hqp : p < q + 2) (he : p < e)
    (hr : p < r ∨ 4 ≤ p) {c' : Thread nD τ}
    {src : Memref sig .tc .vmem S512x2048 .bf16} {sS sR : DmaSem sig}
    (hc : c' = (nxt d c : Thread nD τ)) (hs : src = accM d (jf p))
    {dst : Memref sig c'.2.kind .vmem S512x2048 .bf16} {hsc hsrc hdst hsem}
    (hd : HEq dst (recvM d (sf p))) (h1 : sS = sendS d (sf p)) (h2 : sR = recvS d (sf p))
    {O₀ O : CellTallies nD τ sig ℕ} (hO : O₀ = O + tallyAt (recvCell d (sf p) (nxt d c)) (2 * p + 2) N)
    {k : PUnit → Prog (TpuEff nD τ sig (Elt F) Λ₀ .tc) α} :
    iprop(ctx m K ∗ accB m c d r p e ∗ sndR c d p ∗ sndC c d q p ∗ sndP c d q ∗ ready c d p ∗ owesAt c O₀)
      ⊢ iprop((iprop(accB m c d r (p + 1) e ∗ sndR c d (p + 1) ∗ sndC c d q (p + 1) ∗ sndP c d q ∗ owesAt c O) -∗ WP c (k ⟨⟩) Q)
        -∗ WP c (.op (.enqueueDma src (.remote c' dst (.dma sS) hsc) (.dma sR) hsrc hdst hsem) k) Q) := by
  unfold accB sndR sndC
  rw [seq_pop _ he, accRes_own m c d ⟨hr, hp⟩, seq_pop _ hp, seq_push _ hq]
  iintro ⟨#Hctx, ⟨Ha, Has⟩, ⟨Hs, Hss⟩, Hc, Hp, Hr, Ho⟩ Hk
  ihave #Hre := (sndP_reached c d hq hqp) $$ Hp
  iapply (send m K c d p hp hc hs hd h1 h2 hO) $$ [Ha Hs Hr Ho]
  · iframe Hctx Ha Hs Hre Hr Ho
  iintro ⟨Hcr, Ho⟩
  iapply Hk
  iframe

theorem st_sent {Q : α → sProp 𝕄} (c : Dev nD) (d : Fin 2) (q p : ℕ) (hq : q < 24) (hqp : q < p)
    {src : Memref sig .tc .vmem S512x2048 .bf16} {dst : Memref sig .tc .vmem S512x2048 .bf16} {sS : DmaSem sig} {hsrc hdst}
    {j : Fin 4} (hd : dst = accM d j) (h1 : sS = sendS d (sf q))
    {O : CellTallies nD τ sig ℕ} (hO : (levAts L lv : sProp 𝕄) ⊢ MayWait (c : Thread nD τ) (.dma (sendS d (sf q))) 0 O)
    {k : PUnit → Prog (TpuEff nD τ sig (Elt F) Λ₀ .tc) α} :
    iprop(ctx m K ∗ sndC c d q p ∗ sndP c d q ∗ owesAt c O)
      ⊢ iprop((iprop(free c (accM d (jf q)) ∗ sndC c d (q + 1) p ∗ sndP c d (q + 1) ∗ owesAt c O) -∗ WP c (k ⟨⟩) Q)
        -∗ WP c (.op (.waitDma2 sS src dst hsrc hdst) k) Q) := by
  unfold sndC sndP
  rw [seq_pop _ hqp, seq_pop (sendPos c d) (show q < q + 2 by omega), show q + 1 + 2 = (q + 2) + 1 from rfl,
    seq_push (sendPos c d) (show q + 1 ≤ q + 2 by omega)]
  iintro ⟨#Hctx, ⟨Hc, Hcs⟩, ⟨Hp, Hps⟩, Ho⟩ Hk
  unfold sendPos
  icases Hp with ⟨Hp, -⟩
  iapply (wait_send m K c d q hq hd h1 hO) $$ [Hc Hp Ho]
  · iframe Hctx Hc Hp Ho
  iintro ⟨Hf, Hp, Ho⟩
  iapply Hk
  unfold sendPos
  iframe

theorem st_arrived {Q : α → sProp 𝕄} (c : Dev nD) (d : Fin 2) (q : ℕ) (hq : q < 24)
    {src : Memref sig .tc .vmem S512x2048 .bf16} {dst : Memref sig .tc .vmem S512x2048 .bf16} {sS : DmaSem sig} {hsrc hdst}
    (hd : dst = recvM d (sf q)) (h1 : sS = recvS d (sf q))
    {O : CellTallies nD τ sig ℕ} (hO : (levAts L lv : sProp 𝕄) ⊢ MayWait (c : Thread nD τ) (.dma (recvS d (sf q))) (2 * q + 2) O)
    {k : PUnit → Prog (TpuEff nD τ sig (Elt F) Λ₀ .tc) α} :
    iprop(ctx m K ∗ rcvC c d q ∗ rcvP c d q ∗ owesAt c O)
      ⊢ iprop((iprop(owns (c : Thread nD τ) (recvM d (sf q)) fullShare (sv m (frm d c) d q) ∗ rcvC c d (q + 1) ∗ rcvH c d q ∗ owesAt c O)
          -∗ WP c (k ⟨⟩) Q)
        -∗ WP c (.op (.waitDma2 sS src dst hsrc hdst) k) Q) := by
  unfold rcvC rcvP rcvH
  rw [seq_pop _ hq, seq_pop (recvPos c d) (show q < q + 2 by omega), seq_pop (recvPos c d) (show q + 1 < q + 2 by omega),
    seq_nil (recvPos c d) (show q + 2 ≤ q + 1 + 1 by omega)]
  iintro ⟨#Hctx, ⟨Hc, Hcs⟩, ⟨Hp, Hps, -⟩, Ho⟩ Hk
  unfold recvPos
  icases Hp with ⟨Hrd, Hp, -⟩
  iapply (wait_recv m K c d q hq hd h1 hO) $$ [Hc Hp Ho]
  · iframe Hctx Hc Hp Ho
  iintro ⟨Hf, Hp, Hre, Ho⟩
  iapply Hk
  iframe

theorem st_release {Q : α → sProp 𝕄} (c : Dev nD) (d : Fin 2) (q : ℕ) (X : FVec F S512x2048 .bf16)
    {p : Prog (TpuEff nD τ sig (Elt F) Λ₀ .tc) α} :
    iprop(ctx m K ∗ owns (c : Thread nD τ) (recvM d (sf q)) fullShare X ∗ rcvH c d q)
      ⊢ iprop((rcvP c d (q + 1) -∗ WP c p Q) -∗ WP c p Q) := by
  unfold rcvP rcvH
  rw [seq_pop (recvPos c d) (show q + 1 < q + 1 + 2 by omega), seq_pop (recvPos c d) (show q + 1 + 1 < q + 1 + 2 by omega),
    seq_nil (recvPos c d) (show q + 1 + 2 ≤ q + 1 + 1 + 1 by omega)]
  iintro ⟨#Hctx, Hf, H1, H2, H3, H4⟩ Hk
  iapply (release m K c d q) $$ [Hf H2 H3 H4]
  · iframe Hctx H2 H3 H4
    unfold free
    iexists X
    iexact Hf
  iintro H
  iapply Hk
  iframe

theorem st_signal {Q : α → sProp 𝕄} (c : Dev nD) (d : Fin 2) (q : ℕ) (hq : q < 22) {c' : Thread nD τ} {sem : Sem sig}
    (hc : c' = (frm d c : Thread nD τ)) (hs : sem = creditS d) {O₀ O : CellTallies nD τ sig ℕ}
    (hO : O₀ = O + tallyAt (creditCell d (frm d c)) (2 * q + 3) 1) {k : PUnit → Prog (TpuEff nD τ sig (Elt F) Λ₀ .tc) α} :
    iprop(ctx m K ∗ tokB c d q ∗ rcvP c d (q + 1) ∗ owesAt c O₀)
      ⊢ iprop((iprop(tokB c d (q + 1) ∗ rcvP c d (q + 1) ∗ owesAt c O) -∗ WP c (k ⟨⟩) Q)
        -∗ WP c (.op (.semSignal c' sem 1) k) Q) := by
  unfold tokB
  rw [seq_pop _ hq]
  iintro ⟨#Hctx, ⟨Ht, Hts⟩, Hp, Ho⟩ Hk
  ihave #Hf := (rcvP_facts c d q) $$ Hp
  icases Hf with ⟨#Hf0, #Hf1⟩
  iapply (give_credit m K c d q hq hc hs hO) $$ [Ht Ho]
  · iframe Hctx Ht Hf0 Hf1 Ho
  iintro Ho
  iapply Hk
  iframe

/-- Starting the fetch of a block of the operand ahead of its step. -/
theorem st_fetch {Q : α → sProp 𝕄} (c : Dev nD) (d : Fin 2) (q p : ℕ) (hq : q ≤ p) (hqp : p < q + 2) (hcp : copied d p) {sm' : DmaSem sig}
    {src : Memref sig .tc .hbm S512x2048 .bf16} {dst : Memref sig .tc .vmem S512x2048 .bf16} {hsrc hdst hsem}
    (hs : src = xM (qtr d (p / 4 + 1) c) (jf p)) (hd : dst = cxM d (sf p)) (hm : sm' = cxS d (sf p))
    {k : PUnit → Prog (TpuEff nD τ sig (Elt F) Λ₀ .tc) α} :
    cxB m c d q p
      ⊢ iprop((cxB m c d q (p + 1) -∗ WP c (k ⟨⟩) Q)
        -∗ WP c (.op (.enqueueDma src (.here dst) (.dma sm') hsrc hdst hsem) k) Q) := by
  unfold cxB
  rw [seq_pop (cxFree m c d) hqp, seq_push (cxRes m c d) hq, show cxRes m c d p = _ from if_pos hcp]
  iintro ⟨Hr, Hf, Hfs⟩ Hk
  unfold cxFree
  icases Hf with ⟨H1, H2, H3⟩
  iapply (start_x m c (qtr d (p / 4 + 1) c) (jf p) (2 + 2 * d.val + (sf p).val) hs hd hm (N_cx d (sf p))) $$ [H1 H2 H3]
  · iframe
  iintro H
  iapply Hk
  iframe

/-- Awaiting it. -/
theorem st_fetched {Q : α → sProp 𝕄} (c : Dev nD) (d : Fin 2) (q p : ℕ) (hq : q < p) (hcp : copied d q) {sm' : DmaSem sig}
    {src : Memref sig .tc .hbm S512x2048 .bf16} {dst : Memref sig .tc .vmem S512x2048 .bf16} {hsrc hdst}
    (hd : dst = cxM d (sf q)) (hm : sm' = cxS d (sf q)) {O : CellTallies nD τ sig ℕ}
    (hO : (levAts L lv : sProp 𝕄) ⊢ MayWait (c : Thread nD τ) (.dma (cxS d (sf q))) 0 O)
    {k : PUnit → Prog (TpuEff nD τ sig (Elt F) Λ₀ .tc) α} :
    iprop(ctx m K ∗ cxB m c d q p ∗ owesAt c O)
      ⊢ iprop((iprop(owns (c : Thread nD τ) (cxM d (sf q)) fullShare (xblk m c (qtr d (q / 4 + 1) c) (jf q)) ∗ cxH m c d q p ∗ owesAt c O)
          -∗ WP c (k ⟨⟩) Q)
        -∗ WP c (.op (.waitDma2 sm' src dst hsrc hdst) k) Q) := by
  unfold cxB cxH
  rw [seq_pop (cxRes m c d) hq, show cxRes m c d q = _ from if_pos hcp]
  iintro ⟨#Hctx, ⟨⟨Hx, Hr⟩, Hf⟩, Ho⟩ Hk
  ihave #Hlev := (ctx_lev m K) $$ Hctx
  iapply (wait_x m c (qtr d (q / 4 + 1) c) (jf q) (2 + 2 * d.val + (sf q).val) hd hm (N_cx d (sf q)) hO) $$ [Hx Ho]
  · iframe Hlev Hx Ho
  iintro ⟨H1, H2, H3, Ho⟩
  iapply Hk
  iframe

theorem st_px {Q : α → sProp 𝕄} (c : Dev nD) (d : Fin 2) (r : ℕ) (hr : r < 4) {sm' : DmaSem sig}
    {src : Memref sig .tc .hbm S512x2048 .bf16} {dst : Memref sig .tc .vmem S512x2048 .bf16} {hsrc hdst hsem}
    (hs : src = xM (frm d c) (jf r)) (hd : dst = pxM d) (hm : sm' = pxS d)
    {k : PUnit → Prog (TpuEff nD τ sig (Elt F) Λ₀ .tc) α} :
    pxFree m c d
      ⊢ iprop((pxB m c d r -∗ WP c (k ⟨⟩) Q)
        -∗ WP c (.op (.enqueueDma src (.here dst) (.dma sm') hsrc hdst hsem) k) Q) := by
  unfold pxB
  rw [if_pos hr]
  unfold pxFree
  exact start_x m c (frm d c) (jf r) d.val hs hd hm (N_px d)

theorem st_pxed {Q : α → sProp 𝕄} (c : Dev nD) (d : Fin 2) (r : ℕ) (hr : r < 4) {sm' : DmaSem sig}
    {src : Memref sig .tc .hbm S512x2048 .bf16} {dst : Memref sig .tc .vmem S512x2048 .bf16} {hsrc hdst}
    (hd : dst = pxM d) (hm : sm' = pxS d) {O : CellTallies nD τ sig ℕ}
    (hO : (levAts L lv : sProp 𝕄) ⊢ MayWait (c : Thread nD τ) (.dma (pxS d)) 0 O)
    {k : PUnit → Prog (TpuEff nD τ sig (Elt F) Λ₀ .tc) α} :
    iprop(ctx m K ∗ pxB m c d r ∗ owesAt c O)
      ⊢ iprop((iprop(owns (c : Thread nD τ) (pxM d) fullShare (xblk m c (frm d c) (jf r)) ∗ xtok m c d.val
            ∗ semVal ((c : Thread nD τ), SemLoc.dma (pxS d)) 0 ∗ owesAt c O)
          -∗ WP c (k ⟨⟩) Q)
        -∗ WP c (.op (.waitDma2 sm' src dst hsrc hdst) k) Q) := by
  unfold pxB
  rw [if_pos hr]
  iintro ⟨#Hctx, Hx, Ho⟩ Hk
  ihave #Hlev := (ctx_lev m K) $$ Hctx
  iapply (wait_x m c (frm d c) (jf r) d.val hd hm (N_px d) hO) $$ [Hx Ho]
  · iframe Hlev Hx Ho
  iexact Hk

/-- Writing out the block that step `t` completes. -/
theorem st_out {Q : α → sProp 𝕄} (c : Dev nD) (d : Fin 2) (t : ℕ) (n n' : Fin 2 → ℕ) (hn : n d = t) (hn' : ∀ d', n' d' ≤ if d' = d then t + 1 else n d')
    (ht : 8 ≤ t) {T : Memref sig .tc .vmem S512x2048 .bf16}
    {src srcw : Memref sig .tc .vmem S512x2048 .bf16} {dst dstw : Memref sig .tc .hbm S512x2048 .bf16} {hsrc hdst hsem hsrc' hdst'}
    (hs : src = T) (hd : dst = oM d (home c d t) (jf t)) (hdw : dstw = oM d (home c d t) (jf t)) {O : CellTallies nD τ sig ℕ}
    (hO : (levAts L lv : sProp 𝕄) ⊢ MayWait (c : Thread nD τ) (.dma outS) 0 O)
    {k : PUnit → Prog (TpuEff nD τ sig (Elt F) Λ₀ .tc) α} :
    iprop(ctx m K ∗ owns (c : Thread nD τ) T fullShare (outV m d (home c d t) (jf t)) ∗ outP m c n ∗ owesAt c O)
      ⊢ iprop((iprop(owns (c : Thread nD τ) T fullShare (outV m d (home c d t) (jf t)) ∗ outP m c n' ∗ owesAt c O)
          -∗ WP c (k ⟨⟩) Q)
        -∗ WP c (.op (.enqueueDma src (.here dst) (.dma outS) hsrc hdst hsem) fun _ => .op (.waitDma2 outS srcw dstw hsrc' hdst') k) Q) := by
  unfold outP
  iintro ⟨#Hctx, HT, ⟨⟨%f, Hf, %hf⟩, Hsem⟩, Ho⟩ Hk
  ihave #Hlev := (ctx_lev m K) $$ Hctx
  iapply (store_out c (home c d t) d (jf t) hs hd hdw hO (outV m d (home c d t) (jf t)) f) $$ [HT Hf Hsem Ho]
  · iframe Hlev HT Hf Hsem Ho
  iintro ⟨HT, Hf, Hsem, Ho⟩
  iapply Hk
  iframe HT Hsem Ho
  iexists _
  iframe Hf
  ipureintro
  intro d' t' h8 hlt h24
  have hle := hn' d'
  by_cases hsame : (d', home c d' t', jf t') = (d, home c d t, jf t)
  · obtain ⟨e1, e2⟩ := Prod.mk.inj hsame
    obtain ⟨e2, e3⟩ := Prod.mk.inj e2
    subst e1
    rw [e2, e3]
    exact o_read_same _ _ _ _ _
  · rw [o_read_other d d' (home c d t) (home c d' t') (jf t) (jf t') hsame f _]
    refine hf d' t' h8 ?_ h24
    by_cases hdd : d' = d
    · subst hdd
      rw [if_pos rfl] at hle
      rcases Nat.lt_or_ge t' t with h | h
      · omega
      · exact absurd (by rw [show t' = t by omega]) hsame
    · rw [if_neg hdd] at hle; omega

end Steps

end Cert.KernelIdeal.Exchange
-- ==== Proof.KernelIdealProduce.lean ====
/-
The first half of a trip: both sends, the fetches ahead of them, and the computation of the next of the first four blocks.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-! ## What a device holds -/

def side (c : Dev nD) (d : Fin 2) (r p q n x : ℕ) : sProp 𝕄 :=
  iprop(accB m c d r p (q + 4) ∗ sndR c d p ∗ sndC c d q p ∗ sndP c d q ∗ crdB m c d n ∗ rcvC c d q ∗ rcvP c d q ∗ tokB c d q
    ∗ cxB m c d q x ∗ pxB m c d r)

/-- What both directions hold, and what they share. -/
def mid (c : Dev nD) (r p q n x : ℕ) : sProp 𝕄 :=
  iprop(side m c 0 r p q n x ∗ side m c 1 r p q n x ∗ owesAt c (owed c p p q q) ∗ owns (c : Thread nD τ) wvM fullShare (wAll m c)
    ∗ outP m c (fun _ => q))

/-- The state once `p` blocks have been sent each way and `q` awaited. -/
def st (c : Dev nD) (p q : ℕ) : sProp 𝕄 := mid m c (p + 1) p q (p - 2) p

/-- What every device knows throughout. -/
def env (c : Dev nD) : sProp 𝕄 := iprop(ctx m K ∗ ready c 0 0 ∗ ready c 0 1 ∗ ready c 1 0 ∗ ready c 1 1)
instance env_persistent (c : Dev nD) : BI.Persistent (env m K c) := by unfold env; infer_instance

theorem env_ctx (c : Dev nD) : env m K c ⊢ ctx m K := by unfold env; iintro ⟨H, -⟩; iexact H
theorem env_ready (c : Dev nD) {t : ℕ} (h : t < 2) : env m K c ⊢ iprop(ready c 0 t ∗ ready c 1 t) := by
  unfold env
  rcases (by omega : t = 0 ∨ t = 1) with rfl | rfl
  · iintro ⟨-, H1, H2, H3, H4⟩; iframe
  · iintro ⟨-, H1, H2, H3, H4⟩; iframe

theorem owed_send0 (c : Dev nD) {p q p' q' : ℕ} (h : p < 24) :
    owed c p p' q q' = owed c (p + 1) p' q q' + tallyAt (recvCell 0 (sf p) (nxt 0 c)) (2 * p + 2) N := by
  unfold owed; rw [owed1_send c 0 q h, add_right_comm]
theorem owed_send1 (c : Dev nD) {p q p' q' : ℕ} (h : p < 24) :
    owed c p' p q' q = owed c p' (p + 1) q' q + tallyAt (recvCell 1 (sf p) (nxt 1 c)) (2 * p + 2) N := by
  unfold owed; rw [owed1_send c 1 q h, add_assoc]
theorem owed_credit0 (c : Dev nD) {p q p' q' : ℕ} (h : q < 22) :
    owed c p p' q q' = owed c p p' (q + 1) q' + tallyAt (creditCell 0 (frm 0 c)) (2 * q + 3) 1 := by
  unfold owed; rw [owed1_credit c 0 p h, add_right_comm]
theorem owed_credit1 (c : Dev nD) {p q p' q' : ℕ} (h : q < 22) :
    owed c p' p q' q = owed c p' p q' (q + 1) + tallyAt (creditCell 1 (frm 1 c)) (2 * q + 3) 1 := by
  unfold owed; rw [owed1_credit c 1 p h, add_assoc]

/-- A local copy is awaited while anything may be owed. -/
theorem wait0 (c : Dev nD) (sm : SemLoc sig) (p p' q q' : ℕ) :
    (levAts L lv : sProp 𝕄) ⊢ MayWait (c : Thread nD τ) sm 0 (owed c p p' q q') :=
  mayWait_owed c sm 0 p p' q q' (by omega) (by omega) (by omega) (by omega) (by omega)

theorem heq_recv {c' : Thread nD τ} {M : Memref sig .tc .vmem S512x2048 .bf16} {d s : Fin 2} (h : M = recvM d s) : HEq M (recvM d s) := heq_of_eq h

/-- A program run up to a place where what is held is `R`. -/
theorem seg {α β : Type} {Q : β → sProp 𝕄} (c : Dev nD) {p : Prog (TpuEff nD τ sig (Elt F) Λ₀ .tc) α}
    {kk : α → Prog (TpuEff nD τ sig (Elt F) Λ₀ .tc) β} (P : sProp 𝕄) (R : α → sProp 𝕄)
    (h : P ⊢ WP c p R) : P ⊢ iprop((∀ a, R a -∗ WP c (kk a) Q) -∗ WP c (p >>= kk) Q) := by
  unfold WP
  rw [wp_bind]
  exact h.trans (wp_wand _ _ _)

/-- A conditional whose two arms end in the same continuation. -/
theorem join {β : Type} {Q : β → sProp 𝕄} (c : Dev nD) {b : Prop} [Decidable b] {A : b → Prog (TpuEff nD τ sig (Elt F) Λ₀ .tc) β}
    {jp : Prog (TpuEff nD τ sig (Elt F) Λ₀ .tc) β} (P R : sProp 𝕄)
    (h1 : ∀ h : b, P ⊢ iprop((R -∗ WP c jp Q) -∗ WP c (A h) Q)) (h0 : ¬b → P ⊢ R) :
    P ⊢ iprop((R -∗ WP c jp Q) -∗ WP c (dite b A (fun _ => jp)) Q) := by
  by_cases h : b
  · rw [dif_pos h]; exact h1 h
  · rw [dif_neg h]
    iintro HP Hk
    iapply Hk
    iapply (h0 h) $$ HP

theorem fin {α : Type} {Q : α → sProp 𝕄} (c : Dev nD) (a : α) :
    Q a ⊢ WP c (Prog.ret a : Prog (TpuEff nD τ sig (Elt F) Λ₀ .tc) α) Q := by
  unfold WP
  rw [wp_ret]
  exact fupd_intro

/-! ## Computing a block -/

theorem part1_wp (c : Dev nD) (v10 v12 : BitVec 32) (k : Trip) (arg15 : BitVec 32) (h4 : k0_cond4 k = 1#1) (r : ℕ) (hr : r = k.val + 1) (hr4 : r < 4)
    (O : CellTallies nD τ sig ℕ) (hO : ∀ d, (levAts L lv : sProp 𝕄) ⊢ MayWait (c : Thread nD τ) (.dma (pxS d)) 0 O) :
    iprop(ctx m K ∗ pxB m c 0 r ∗ pxB m c 1 r ∗ free c (accM 0 (jf r)) ∗ owns (c : Thread nD τ) wvM fullShare (wAll m c) ∗ owesAt c O)
      ⊢ WP c (k0_part1 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v10 v12 k arg15 h4)
        (fun a => iprop(⌜a.2 = xblk m c (frm 1 c) (jf r)⌝ ∗ pxFree m c 0 ∗ pxFree m c 1
          ∗ owns (c : Thread nD τ) (accM 0 (jf r)) fullShare (sv m c 0 r) ∗ owns (c : Thread nD τ) wvM fullShare (wAll m c) ∗ owesAt c O)) := by
  subst hr
  simp only [k0_part1_eq_skeleton]
  unfold k0_part1_skel
  simp only [semSignalWord, semWaitWord, Prog.lift, Prog.bind_op, Prog.bind_ret, Prog.pure_eq_ret]
  iintro ⟨#Hctx, Hx0, Hx1, Hf, Hw, Ho⟩
  iapply (st_pxed m K c 0 (k.val + 1) hr4 (px_at 0 rfl) (pxs_at 0 rfl) (hO 0)) $$ [Hx0 Ho]
  · iframe Hctx Hx0 Ho
  iintro ⟨Hx0, Ht0, Hs0, Ho⟩
  iapply (ld_px c 0 rfl _ _) $$ Hx0
  iintro Hx0
  iapply (ld_half m c 0 rfl) $$ Hw
  iintro Hw
  iapply (upd_acc c 0 (jf (k.val + 1)) (off16 k h4) (pay2 _ _)) $$ Hf
  iintro Ha
  iapply (st_pxed m K c 1 (k.val + 1) hr4 (px_at 1 rfl) (pxs_at 1 rfl) (hO 1)) $$ [Hx1 Ho]
  · iframe Hctx Hx1 Ho
  iintro ⟨Hx1, Ht1, Hs1, Ho⟩
  iapply (ld_px c 1 rfl _ _) $$ Hx1
  iintro Hx1
  iapply (fin c)
  isplitr
  · ipureintro; exact pay3 (xblk m c (frm 1 c) (jf (k.val + 1)))
  rw [sv_first m c 0 (k.val + 1) hr4]
  unfold pxFree free
  iframe Hw Ho Ha Ht0 Hs0 Ht1 Hs1
  isplitl [Hx0]
  · iexists _; iexact Hx0
  · iexists _; iexact Hx1

set_option maxHeartbeats 2000000 in
theorem part8_wp (c : Dev nD) (v2 v4 v7 v10 v12 : BitVec 32) (k : Trip) (v111 : BitVec 1) (v147 v148 : BitVec 32) (q : ℕ) (hq : q = k.val - 1) :
    iprop(env m K c ∗ st m c k.val q)
      ⊢ WP c (k0_part8 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v4 v7 v10 v12 k (Scf.iv 0#32 1#32 k) v111 v147 v148
          (Scalar.cmpi .sge (Scf.iv 0#32 1#32 k) 2#32))
        (fun _ => st m c (k.val + 1) q) := by
  have hk : k.val < 24 := lt_of_lt_of_eq k.isLt trips_eq
  simp only [k0_part8_eq_skeleton]
  unfold k0_part8_skel
  simp only [semSignalWord, semWaitWord, Prog.lift, Prog.bind_op, Prog.bind_ret, Prog.pure_eq_ret]
  unfold st mid side
  iintro ⟨#He, ⟨Ha0, Hsr0, Hsc0, Hsp0, Hc0, A1, A2, A3, Hx0, Hp0⟩, ⟨Ha1, Hsr1, Hsc1, Hsp1, Hc1, B1, B2, B3, Hx1, Hp1⟩, Ho, Hw, Hout⟩
  ihave #Hctx := (env_ctx m K c) $$ He
  -- a slot to send into is granted by a credit from the third step on
  iapply (join c (iprop(env m K c ∗ crdB m c 0 (k.val - 2) ∗ crdB m c 1 (k.val - 2) ∗ owesAt c (owed c k.val k.val q q)))
    (iprop(crdB m c 0 (k.val - 1) ∗ crdB m c 1 (k.val - 1) ∗ owesAt c (owed c k.val k.val q q)
      ∗ ready c 0 k.val ∗ ready c 1 k.val)) ?_ ?_) $$ [Hc0 Hc1 Ho]
  rotate_left 2
  · iframe He; iframe
  iintro ⟨Hc0, Hc1, Ho, Hr0, Hr1⟩
  iapply (st_send m K c 0 (k.val + 1) q k.val (q + 4) hk (by omega) (by omega) (by omega) (by omega)
    (congrArg Dev.tc (dev3 c)) (acc_at 0 _ (off5 k)) (heq_of_eq (recv_at 0 _ (off4 k))) (send_at 0 _ (off3 k)) (recvs_at 0 _ (off3 k))
    (owed_send0 c hk)) $$ [Ha0 Hsr0 Hsc0 Hsp0 Hr0 Ho]
  · iframe Hctx; iframe
  iintro ⟨Ha0, Hsr0, Hsc0, Hsp0, Ho⟩
  iapply (st_send m K c 1 (k.val + 1) q k.val (q + 4) hk (by omega) (by omega) (by omega) (by omega)
    (congrArg Dev.tc (dev4 c)) (acc_at 1 _ (off8 k)) (heq_of_eq (recv_at 1 _ (off7 k))) (send_at 1 _ (off6 k)) (recvs_at 1 _ (off6 k))
    (owed_send1 c hk)) $$ [Ha1 Hsr1 Hsc1 Hsp1 Hr1 Ho]
  · iframe Hctx; iframe
  iintro ⟨Ha1, Hsr1, Hsc1, Hsp1, Ho⟩
  -- fetching ahead
  iapply (join c (iprop(cxB m c 0 q k.val ∗ cxB m c 1 q k.val)) (iprop(cxB m c 0 q (k.val + 1) ∗ cxB m c 1 q (k.val + 1))) ?_ ?_) $$ [Hx0 Hx1]
  rotate_left 2
  · iframe
  iintro ⟨Hx0, Hx1⟩
  -- computing the next block
  iapply (join c (iprop(ctx m K ∗ (accB m c 0 (k.val + 1) (k.val + 1) (q + 4) ∗ pxB m c 0 (k.val + 1))
      ∗ (accB m c 1 (k.val + 1) (k.val + 1) (q + 4) ∗ pxB m c 1 (k.val + 1))
      ∗ owns (c : Thread nD τ) wvM fullShare (wAll m c) ∗ owesAt c (owed c (k.val + 1) (k.val + 1) q q)))
    (iprop((accB m c 0 (k.val + 2) (k.val + 1) (q + 4) ∗ pxB m c 0 (k.val + 2))
      ∗ (accB m c 1 (k.val + 2) (k.val + 1) (q + 4) ∗ pxB m c 1 (k.val + 2))
      ∗ owns (c : Thread nD τ) wvM fullShare (wAll m c) ∗ owesAt c (owed c (k.val + 1) (k.val + 1) q q))) ?_ ?_)
    $$ [Ha0 Hp0 Ha1 Hp1 Hw Ho]
  rotate_left 2
  · iframe Hctx; iframe
  iintro ⟨⟨Ha0, Hp0⟩, ⟨Ha1, Hp1⟩, Hw, Ho⟩
  iapply (fin c)
  rw [show k.val + 1 - 2 = k.val - 1 by omega]
  iframe
  · intro hc
    have h2 := (start_cond k).mp hc
    iintro ⟨#He, Hc0, Hc1, Ho⟩ Hk
    ihave #Hctx := (env_ctx m K c) $$ He
    have hw : ∀ d : Fin 2, (levAts L lv : sProp 𝕄) ⊢ MayWait (c : Thread nD τ) (.reg (creditS d)) (2 * (k.val - 2) + 3) (owed c k.val k.val q q) :=
      fun d => mayWait_owed c _ _ _ _ _ _ (by omega) (by omega) (by omega) (by omega) (by omega)
    iapply (st_credit m K c 0 (k.val - 2) (by omega) (credit_at 0 rfl) (hw 0)) $$ [Hc0 Ho]
    · iframe Hctx Hc0 Ho
    iintro ⟨Hc0, Hr0, Ho⟩
    iapply (st_credit m K c 1 (k.val - 2) (by omega) (credit_at 1 rfl) (hw 1)) $$ [Hc1 Ho]
    · iframe Hctx Hc1 Ho
    iintro ⟨Hc1, Hr1, Ho⟩
    iapply Hk
    rw [show k.val - 2 + 1 = k.val - 1 by omega, show k.val - 2 + 2 = k.val by omega]
    iframe
  · intro hc
    have h2 : ¬ 2 ≤ k.val := fun h => hc ((start_cond k).mpr h)
    iintro ⟨#He, Hc0, Hc1, Ho⟩
    rw [show k.val - 2 = k.val - 1 by omega]
    ihave #Hr := (env_ready m K c (t := k.val) (by omega)) $$ He
    icases Hr with ⟨#Hr0, #Hr1⟩
    iframe Hc0 Hc1 Ho Hr0 Hr1
  · intro c2
    have h2 := (cond2 k).mp c2
    iintro ⟨Hx0, Hx1⟩ Hk
    iapply (st_fetch m c 0 q k.val (by omega) (by omega) ⟨h2, Or.inl rfl⟩ (x_at _ _ (off11 c k c2)) (cx_at 0 _ (off10 k c2))
      (cxs_at 0 _ (off9 k c2))) $$ Hx0
    iintro Hx0
    by_cases h3 : k.val / 4 = 1
    · have c3 := (cond3 k h2).mpr h3
      rw [dif_pos c3]
      iapply (st_fetch m c 1 q k.val (by omega) (by omega) ⟨h2, Or.inr h3⟩ (x_at _ _ (off14 c k c2 c3)) (cx_at 1 _ (off13 k c2 c3))
        (cxs_at 1 _ (off12 k c2 c3))) $$ Hx1
      iintro Hx1
      iapply Hk
      iframe
    · rw [dif_neg (fun h => h3 ((cond3 k h2).mp h))]
      iapply Hk
      iframe Hx0
      iapply (cxB_skip m c 1 (by omega) (by omega) (fun h => h.2.elim (by decide) h3)) $$ Hx1
  · intro hc
    have h2 : ¬ k.val < 12 := fun h => hc ((cond2 k).mpr h)
    iintro ⟨Hx0, Hx1⟩
    isplitl [Hx0]
    · iapply (cxB_skip m c 0 (by omega) (by omega) (fun h => h2 h.1)) $$ Hx0
    · iapply (cxB_skip m c 1 (by omega) (by omega) (fun h => h2 h.1)) $$ Hx1
  · intro c4
    have h4 := (cond4 k).mp c4
    iintro ⟨#Hctx, ⟨Ha0, Hp0⟩, ⟨Ha1, Hp1⟩, Hw, Ho⟩ Hk
    ihave Ha0 := (accB_take m c 0 (r := k.val + 1) (e := q + 4) (by omega) (by omega)) $$ Ha0
    icases Ha0 with ⟨Hf0, Ha0⟩
    ihave Ha1 := (accB_take m c 1 (r := k.val + 1) (e := q + 4) (by omega) (by omega)) $$ Ha1
    icases Ha1 with ⟨Hf1, Ha1⟩
    iapply (seg c _ _ (part1_wp m K c v10 v12 k _ c4 (k.val + 1) rfl (by omega) (owed c (k.val + 1) (k.val + 1) q q)
      (fun d => wait0 c _ _ _ _ _))) $$ [Hp0 Hp1 Hf0 Hw Ho]
    · iframe Hctx; iframe
    iintro %a ⟨%ha, Hp0, Hp1, Hb0, Hw, Ho⟩
    obtain ⟨a1, a2⟩ := a
    subst ha
    iapply (ld_half m c 1 rfl) $$ Hw
    iintro Hw
    iapply (upd_acc c 1 (jf (k.val + 1)) (off18 k c4) (pay12 _ _)) $$ Hf1
    iintro Hb1
    ihave Ha0 := (accB_put m c 0 (r := k.val + 1) (e := q + 4) (by omega) (by omega)) $$ [Hb0 Ha0]
    · iframe
    ihave Ha1 := (accB_put m c 1 (r := k.val + 1) (e := q + 4) (by omega) (by omega)) $$ [Hb1 Ha1]
    · rw [sv_first m c 1 (k.val + 1) (by omega)]
      iframe
    by_cases h5 : k.val < 2
    · have c5 := (cond5 k).mpr h5
      rw [dif_pos c5]
      iapply (st_px m c 0 (k.val + 2) (by omega) (x_at _ _ (off19 c k c4 c5)) (px_at 0 rfl) (pxs_at 0 rfl)) $$ Hp0
      iintro Hp0
      iapply (st_px m c 1 (k.val + 2) (by omega) (x_at _ _ (off20 c k c4 c5)) (px_at 1 rfl) (pxs_at 1 rfl)) $$ Hp1
      iintro Hp1
      iapply Hk
      iframe
    · rw [dif_neg (fun h => h5 ((cond5 k).mp h))]
      iapply Hk
      have hp : ∀ d, pxB m c d (k.val + 2) = pxFree m c d := fun d => if_neg (by omega)
      rw [hp 0, hp 1]
      iframe
  · intro hc
    have h4 : ¬ k.val < 3 := fun h => hc ((cond4 k).mpr h)
    have hp : ∀ d, pxB m c d (k.val + 1) = pxB m c d (k.val + 2) := fun d => by
      unfold pxB; rw [if_neg (by omega), if_neg (by omega)]
    have ha : ∀ d, accB m c d (k.val + 1) (k.val + 1) (q + 4) = accB m c d (k.val + 2) (k.val + 1) (q + 4) :=
      fun d => accB_next m c d (Or.inr (by omega))
    rw [hp 0, hp 1, ha 0, ha 1]
    iintro ⟨#Hctx, ⟨Ha0, Hp0⟩, ⟨Ha1, Hp1⟩, Hw, Ho⟩
    iframe

end Cert.KernelIdeal.Exchange
-- ==== Proof.KernelIdealConsume.lean ====
/-
What a device does with a block that has arrived: it adds its own share and keeps the sum for the next step, or writes the
finished block out and passes it on.
-/
module

public import proofs.«01_k».proof.Proof.KernelIdealProduce

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-- A block of step `q` has arrived, and the slot of the block sent at that step is free. -/
def held (c : Dev nD) (d : Fin 2) (q : ℕ) : sProp 𝕄 :=
  iprop(free c (accM d (jf q)) ∗ accB m c d (q + 3) (q + 2) (q + 4)
    ∗ owns (c : Thread nD τ) (recvM d (sf q)) fullShare (sv m (frm d c) d q) ∗ cxB m c d q (q + 2))
/-- It has been used. -/
def used (c : Dev nD) (d : Fin 2) (q : ℕ) : sProp 𝕄 :=
  iprop(accB m c d (q + 3) (q + 2) (q + 5)
    ∗ owns (c : Thread nD τ) (recvM d (sf q)) fullShare (sv m (frm d c) d q) ∗ cxB m c d (q + 1) (q + 2))

theorem held_open (c : Dev nD) (d : Fin 2) (q : ℕ) :
    held m c d q ⊢ iprop(free c (accM d (jf q)) ∗ accB m c d (q + 3) (q + 2) (q + 4)
      ∗ owns (c : Thread nD τ) (recvM d (sf q)) fullShare (sv m (frm d c) d q) ∗ cxB m c d q (q + 2)) := .rfl
theorem used_of (c : Dev nD) (d : Fin 2) (q : ℕ) :
    iprop(accB m c d (q + 3) (q + 2) (q + 5)
      ∗ owns (c : Thread nD τ) (recvM d (sf q)) fullShare (sv m (frm d c) d q) ∗ cxB m c d (q + 1) (q + 2)) ⊢ used m c d q := .rfl

theorem home_own (c : Dev nD) (d : Fin 2) {q : ℕ} (h : q < 12) : home c d q = c := if_pos h
theorem home_other (c : Dev nD) (d : Fin 2) {q : ℕ} (h : ¬ q < 12) : home c d q = qtr d (q / 4 - 3) c := if_neg h

theorem step_lt (k : Trip) : k.val < 24 := lt_of_lt_of_eq k.isLt trips_eq

/-- The middle stage, one direction's first half. -/
theorem part2_wp (c : Dev nD) (v2 : BitVec 32) (k : Trip) (c6 : k0_cond6 k = 1#1) (v218 v219 v220 : BitVec 32) (c7 : k0_cond7 k = 1#1)
    (c8 : k0_cond8 k = 1#1) (q : ℕ) (hq : k.val - 1 = q) (h4 : q / 4 = 1)
    (O : CellTallies nD τ sig ℕ) (hO : ∀ sm, (levAts L lv : sProp 𝕄) ⊢ MayWait (c : Thread nD τ) sm 0 O) :
    iprop(ctx m K ∗ held m c 0 q ∗ owns (c : Thread nD τ) wvM fullShare (wAll m c) ∗ owesAt c O)
      ⊢ WP c (k0_part2 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 k c6 v218 v219 v220 c7 c8)
        (fun _ => iprop(used m c 0 q ∗ owns (c : Thread nD τ) wvM fullShare (wAll m c) ∗ owesAt c O)) := by
  subst hq
  simp only [k0_part2_eq_skeleton]
  unfold k0_part2_skel held used
  simp only [semSignalWord, semWaitWord, Prog.lift, Prog.bind_op, Prog.bind_ret, Prog.pure_eq_ret]
  iintro ⟨#Hctx, ⟨Hf, Ha, Hr, Hx⟩, Hw, Ho⟩
  iapply (st_fetched m K c 0 (k.val - 1) (k.val - 1 + 2) (by omega) ⟨by omega, Or.inl rfl⟩ (cx_at 0 _ (off28 k c6 c7 c8))
    (cxs_at 0 _ (off27 k c6 c7 c8)) (hO _)) $$ [Hx Ho]
  · iframe Hctx Hx Ho
  iintro ⟨Hc, Hx, Ho⟩
  iapply (ld_cx c 0 (sf (k.val - 1)) (off30 k c6 c7 c8) _ _) $$ Hc
  iintro Hc
  iapply (ld_half m c 0 rfl) $$ Hw
  iintro Hw
  iapply (ld_recv c 0 (sf (k.val - 1)) (off30 k c6 c7 c8) _ _) $$ Hr
  iintro Hr
  iapply (upd_acc c 0 (jf (k.val - 1)) (off31 k c6 c7 c8) (pay4 _ _ _)) $$ Hf
  iintro Hb
  iapply (fin c)
  ihave Hx := (cxB_close m c 0 (q := k.val - 1) (p := k.val - 1 + 2) (by omega) _) $$ [Hc Hx]
  · iframe
  ihave Ha := (accB_push m c 0 (r := k.val - 1 + 3) (p := k.val - 1 + 2) (q := k.val - 1) (by omega) (by omega)) $$ [Hb Ha]
  · rw [sv_third m c 0 (k.val - 1) h4]
    iframe
  iframe

/-- The first and the last stage, up to the second direction's own sum. -/
theorem part3_wp (c : Dev nD) (v2 : BitVec 32) (k : Trip) (c6 : k0_cond6 k = 1#1) (v218 v219 v220 : BitVec 32) (c7 : k0_cond7 k = 1#1)
    (c9 : k0_cond9 k = 1#1) (q : ℕ) (hq : k.val - 1 = q) (h1 : 1 ≤ k.val) (h12 : q < 12) (h4 : q / 4 ≠ 1)
    (O : CellTallies nD τ sig ℕ) (hO : ∀ sm, (levAts L lv : sProp 𝕄) ⊢ MayWait (c : Thread nD τ) sm 0 O) :
    iprop(ctx m K ∗ held m c 0 q ∗ owns (c : Thread nD τ) (recvM 1 (sf q)) fullShare (sv m (frm 1 c) 1 q)
        ∗ owns (c : Thread nD τ) wvM fullShare (wAll m c) ∗ owesAt c O ∗ outP m c (fun _ => q))
      ⊢ WP c (k0_part3 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 k c6 v218 v219 v220 c7 c9)
        (fun a => iprop(⌜a = ⟨halfV 1 (fullV (xblk m c (qtr 0 (q / 4 + 1) c) (jf q)) (wAll m c)), sv m (frm 1 c) 1 q⟩⌝
          ∗ used m c 0 q ∗ owns (c : Thread nD τ) (recvM 1 (sf q)) fullShare (sv m (frm 1 c) 1 q)
          ∗ owns (c : Thread nD τ) wvM fullShare (wAll m c) ∗ owesAt c O ∗ outP m c ![q + 1, q])) := by
  subst hq
  simp only [k0_part3_eq_skeleton]
  unfold k0_part3_skel held used
  simp only [semSignalWord, semWaitWord, Prog.lift, Prog.bind_op, Prog.bind_ret, Prog.pure_eq_ret]
  iintro ⟨#Hctx, ⟨Hf, Ha, Hr, Hx⟩, Hr1, Hw, Ho, Hout⟩
  iapply (st_fetched m K c 0 (k.val - 1) (k.val - 1 + 2) (by omega) ⟨by omega, Or.inl rfl⟩ (cx_at 0 _ (off38 k c6 c7 c9))
    (cxs_at 0 _ (off37 k c6 c7 c9)) (hO _)) $$ [Hx Ho]
  · iframe Hctx Hx Ho
  iintro ⟨Hc, Hx, Ho⟩
  iapply (ld_cx c 0 (sf (k.val - 1)) (off40 k c6 c7 c9) _ _) $$ Hc
  iintro Hc
  iapply (ld_wv m c) $$ Hw
  iintro Hw
  iapply (ld_recv c 0 (sf (k.val - 1)) (off40 k c6 c7 c9) _ _) $$ Hr
  iintro Hr
  ihave Hx := (cxB_close m c 0 (q := k.val - 1) (p := k.val - 1 + 2) (by omega) _) $$ [Hc Hx]
  · iframe
  rcases (by omega : (k.val - 1) / 4 = 0 ∨ (k.val - 1) / 4 = 2) with h | h
  · have c10 := (cond10 k h1 h12).mpr h
    rw [dif_pos c10, dif_neg (fun h' => by have := (cond11 k h1 h12).mp h'; omega)]
    iapply (upd_acc c 0 (jf (k.val - 1)) (off41 k c6 c7 c9 c10) (pay7 _ _ _)) $$ Hf
    iintro Hb
    iapply (ld_recv c 1 (sf (k.val - 1)) (off45 k c6 c7 c9) _ _) $$ Hr1
    iintro Hr1
    iapply (fin c)
    isplitr
    · ipureintro; rw [pay9, pay10]
    ihave Ha := (accB_push m c 0 (r := k.val - 1 + 3) (p := k.val - 1 + 2) (q := k.val - 1) (by omega) (by omega)) $$ [Hb Ha]
    · rw [sv_second m c 0 (k.val - 1) h]
      iframe
    ihave Hout := (outP_early m c (n := fun _ => k.val - 1) (n' := ![k.val - 1 + 1, k.val - 1]) (fun d => by fin_cases d <;> simp <;> omega)) $$ Hout
    iframe
  · have c11 := (cond11 k h1 h12).mpr h
    rw [dif_neg (fun h' => by have := (cond10 k h1 h12).mp h'; omega), dif_pos c11]
    iapply (upd_acc c 0 (jf (k.val - 1)) (off42 k c6 c7 c9 c11) (pay8 _ _ _)) $$ Hf
    iintro Hb
    have e : rndV (reluV (addV (halfV 0 (fullV (xblk m c (qtr 0 ((k.val - 1) / 4 + 1) c) (jf (k.val - 1))) (wAll m c)))
        (sv m (frm 0 c) 0 (k.val - 1)))) = outV m 0 (home c 0 (k.val - 1)) (jf (k.val - 1)) := by
      rw [← sv_fourth m c 0 (k.val - 1) h, home_own c 0 h12, sv_own m c 0 (k.val - 1) h]
    ihave Hb := (Entails.of_eq (congrArg (owns (c : Thread nD τ) (accM 0 (jf (k.val - 1))) fullShare) e)) $$ Hb
    iapply (st_out m K c 0 (k.val - 1) (fun _ => k.val - 1) ![k.val - 1 + 1, k.val - 1] rfl (fun d => by fin_cases d <;> simp) (by omega)
      (acc_at 0 _ (off44 k c6 c7 c9 c11)) (o_at 0 _ _ (by rw [home_own c 0 h12]; exact off43 c k c6 c7 c9 c11))
      (o_at 0 _ _ (by rw [home_own c 0 h12]; exact off43 c k c6 c7 c9 c11)) (hO _)) $$ [Hb Hout Ho]
    · iframe Hctx Hb Hout Ho
    iintro ⟨Hb, Hout, Ho⟩
    iapply (ld_recv c 1 (sf (k.val - 1)) (off45 k c6 c7 c9) _ _) $$ Hr1
    iintro Hr1
    iapply (fin c)
    isplitr
    · ipureintro; rw [pay9, pay10]
    ihave Ha := (accB_push m c 0 (r := k.val - 1 + 3) (p := k.val - 1 + 2) (q := k.val - 1) (by omega) (by omega)) $$ [Hb Ha]
    · rw [sv_own m c 0 (k.val - 1) h, home_own c 0 h12]
      iframe
    iframe

/-- The blocks that come finished, up to the second direction's. -/
theorem part4_wp (c : Dev nD) (v2 : BitVec 32) (k : Trip) (c6 : k0_cond6 k = 1#1) (v218 v219 v220 : BitVec 32) (c14 : k0_cond14 k = 1#1)
    (q : ℕ) (hq : k.val - 1 = q) (h1 : 1 ≤ k.val) (h12 : 12 ≤ q)
    (O : CellTallies nD τ sig ℕ) (hO : ∀ sm, (levAts L lv : sProp 𝕄) ⊢ MayWait (c : Thread nD τ) sm 0 O) :
    iprop(ctx m K ∗ held m c 0 q ∗ owns (c : Thread nD τ) (recvM 1 (sf q)) fullShare (sv m (frm 1 c) 1 q) ∗ owesAt c O ∗ outP m c (fun _ => q))
      ⊢ WP c (k0_part4 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 k c6 v218 v219 v220 c14)
        (fun _ => iprop(used m c 0 q ∗ owns (c : Thread nD τ) (recvM 1 (sf q)) fullShare (sv m (frm 1 c) 1 q) ∗ owesAt c O
          ∗ outP m c (fun _ => q + 1))) := by
  subst hq
  have hk := step_lt k
  have e (d : Fin 2) : sv m (frm d c) d (k.val - 1) = outV m d (home c d (k.val - 1)) (jf (k.val - 1)) := by
    rw [home_other c d (by omega)]; exact sv_received m c d (k.val - 1) h12 (by omega)
  have hh (d : Fin 2) : home c d (k.val - 1) = qtr d ((k.val - 1) / 4 - 3) c := home_other c d (by omega)
  simp only [k0_part4_eq_skeleton]
  unfold k0_part4_skel held used
  simp only [semSignalWord, semWaitWord, Prog.lift, Prog.bind_op, Prog.bind_ret, Prog.pure_eq_ret]
  iintro ⟨#Hctx, ⟨Hf, Ha, Hr, Hx⟩, Hr1, Ho, Hout⟩
  ihave Hr := (Entails.of_eq (congrArg (owns (c : Thread nD τ) (recvM 0 (sf (k.val - 1))) fullShare) (e 0))) $$ Hr
  iapply (st_out m K c 0 (k.val - 1) (fun _ => k.val - 1) ![k.val - 1 + 1, k.val - 1] rfl (fun d => by fin_cases d <;> simp) (by omega)
    (recv_at 0 _ (off51 k c6 c14)) (o_at 0 _ _ (by rw [hh]; exact off50 c k c6 c14)) (o_at 0 _ _ (by rw [hh]; exact off50 c k c6 c14)) (hO _))
    $$ [Hr Hout Ho]
  · iframe Hctx Hr Hout Ho
  iintro ⟨Hr, Hout, Ho⟩
  ihave Hr := (Entails.of_eq (congrArg (owns (c : Thread nD τ) (recvM 0 (sf (k.val - 1))) fullShare) (e 0).symm)) $$ Hr
  ihave Hx := (cxB_pass m c 0 (q := k.val - 1) (p := k.val - 1 + 2) (by omega) (by omega) (fun h => by have := h.1; omega)) $$ Hx
  iapply (join c (iprop(free c (accM 0 (jf (k.val - 1))) ∗ accB m c 0 (k.val - 1 + 3) (k.val - 1 + 2) (k.val - 1 + 4)
      ∗ owns (c : Thread nD τ) (recvM 0 (sf (k.val - 1))) fullShare (sv m (frm 0 c) 0 (k.val - 1))))
    (iprop(accB m c 0 (k.val - 1 + 3) (k.val - 1 + 2) (k.val - 1 + 5)
      ∗ owns (c : Thread nD τ) (recvM 0 (sf (k.val - 1))) fullShare (sv m (frm 0 c) 0 (k.val - 1)))) ?_ ?_) $$ [Hf Ha Hr]
  rotate_left 2
  · iframe
  · iintro ⟨Ha, Hr⟩
    ihave Hr1 := (Entails.of_eq (congrArg (owns (c : Thread nD τ) (recvM 1 (sf (k.val - 1))) fullShare) (e 1))) $$ Hr1
    iapply (st_out m K c 1 (k.val - 1) ![k.val - 1 + 1, k.val - 1] (fun _ => k.val - 1 + 1) rfl (fun d => by fin_cases d <;> simp) (by omega)
      (recv_at 1 _ (off55 k c6 c14)) (o_at 1 _ _ (by rw [hh]; exact off54 c k c6 c14)) (o_at 1 _ _ (by rw [hh]; exact off54 c k c6 c14)) (hO _))
      $$ [Hr1 Hout Ho]
    · iframe Hctx Hr1 Hout Ho
    iintro ⟨Hr1, Hout, Ho⟩
    ihave Hr1 := (Entails.of_eq (congrArg (owns (c : Thread nD τ) (recvM 1 (sf (k.val - 1))) fullShare) (e 1).symm)) $$ Hr1
    iapply (fin c)
    iframe
  · intro c15
    have h5 := (cond15 k h1 h12).mp c15
    iintro ⟨Hf, Ha, Hr⟩ Hk
    iapply (ld_recv c 0 (sf (k.val - 1)) (off52 k c6 c14 c15) _ _) $$ Hr
    iintro Hr
    iapply (upd_acc c 0 (jf (k.val - 1)) (off53 k c6 c14 c15) (pay11 _)) $$ Hf
    iintro Hb
    iapply Hk
    iframe Hr
    iapply (accB_push m c 0 (r := k.val - 1 + 3) (p := k.val - 1 + 2) (q := k.val - 1) (by omega) (by omega)) $$ [Hb Ha]
    rw [sv_later m c 0 (k.val - 1) h12]
    iframe
  · intro hc
    have h5 : ¬ (k.val - 1) / 4 < 5 := fun h => hc ((cond15 k h1 h12).mpr h)
    iintro ⟨Hf, Ha, Hr⟩
    iframe Hr
    iapply (accB_push_free m c 0 (r := k.val - 1 + 3) (p := k.val - 1 + 2) (q := k.val - 1) (by omega) (by omega)) $$ [Hf Ha]
    iframe

end Cert.KernelIdeal.Exchange
-- ==== Proof.KernelIdealTrip.lean ====
/-
One trip of the loop.
-/
module

public import proofs.«01_k».proof.Proof.KernelIdealConsume

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

theorem part7_wp (c : Dev nD) (k : Trip) :
    (iprop(emp) : sProp 𝕄) ⊢ WP c (k0_part7 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 0#32 1#32 k)
      (fun a => iprop(⌜a.1 = Scf.iv 0#32 1#32 k ∧ a.2.2.2.2 = Scalar.cmpi .sge (Scf.iv 0#32 1#32 k) 2#32⌝)) := by
  simp only [k0_part7_eq_skeleton]
  unfold k0_part7_skel
  simp only [semSignalWord, semWaitWord, Prog.lift, Prog.bind_op, Prog.bind_ret, Prog.pure_eq_ret]
  iintro -
  iapply (fin c)
  ipureintro
  exact ⟨rfl, rfl⟩

theorem part5_wp (c : Dev nD) (v : BitVec 32) :
    (iprop(emp) : sProp 𝕄) ⊢ WP c (k0_part5 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v) (fun _ => iprop(emp)) := by
  simp only [k0_part5_eq_skeleton]
  unfold k0_part5_skel
  simp only [semSignalWord, semWaitWord, Prog.lift, Prog.bind_op, Prog.bind_ret, Prog.pure_eq_ret]
  iintro -
  iapply (fin c)
  iempintro

/-- Awaiting step `q`'s send and arrival one way, and its send the other way. -/
theorem part6_wp (c : Dev nD) (v4 v7 : BitVec 32) (k : Trip) (c6 : k0_cond6 k = 1#1) (q p : ℕ) (hq : k.val - 1 = q) (hp : q < p)
    (O : CellTallies nD τ sig ℕ) (hO : ∀ sm, (levAts L lv : sProp 𝕄) ⊢ MayWait (c : Thread nD τ) sm 0 O)
    (hO' : ∀ sm, (levAts L lv : sProp 𝕄) ⊢ MayWait (c : Thread nD τ) sm (2 * q + 2) O) :
    iprop(ctx m K ∗ (sndC c 0 q p ∗ sndP c 0 q ∗ rcvC c 0 q ∗ rcvP c 0 q) ∗ (sndC c 1 q p ∗ sndP c 1 q) ∗ owesAt c O)
      ⊢ WP c (k0_part6 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v4 v7 k c6)
        (fun _ => iprop((free c (accM 0 (jf q)) ∗ sndC c 0 (q + 1) p ∗ sndP c 0 (q + 1)
            ∗ owns (c : Thread nD τ) (recvM 0 (sf q)) fullShare (sv m (frm 0 c) 0 q) ∗ rcvC c 0 (q + 1) ∗ rcvH c 0 q)
          ∗ (free c (accM 1 (jf q)) ∗ sndC c 1 (q + 1) p ∗ sndP c 1 (q + 1)) ∗ owesAt c O)) := by
  subst hq
  have hk := step_lt k
  simp only [k0_part6_eq_skeleton]
  unfold k0_part6_skel
  simp only [semSignalWord, semWaitWord, Prog.lift, Prog.bind_op, Prog.bind_ret, Prog.pure_eq_ret]
  iintro ⟨#Hctx, ⟨Hc0, Hp0, Hr0, Hq0⟩, ⟨Hc1, Hp1⟩, Ho⟩
  iapply (st_sent m K c 0 (k.val - 1) p (by omega) hp (acc_at 0 _ (off22 k c6)) (send_at 0 _ (off21 k c6)) (hO _)) $$ [Hc0 Hp0 Ho]
  · iframe Hctx Hc0 Hp0 Ho
  iintro ⟨Hf0, Hc0, Hp0, Ho⟩
  iapply (st_arrived m K c 0 (k.val - 1) (by omega) (recv_at 0 _ (off23 k c6)) (recvs_at 0 _ (off21 k c6)) (hO' _)) $$ [Hr0 Hq0 Ho]
  · iframe Hctx Hr0 Hq0 Ho
  iintro ⟨Hv0, Hr0, Hq0, Ho⟩
  iapply (st_sent m K c 1 (k.val - 1) p (by omega) hp (acc_at 1 _ (off25 k c6)) (send_at 1 _ (off24 k c6)) (hO _)) $$ [Hc1 Hp1 Ho]
  · iframe Hctx Hc1 Hp1 Ho
  iintro ⟨Hf1, Hc1, Hp1, Ho⟩
  iapply (fin c)
  iframe

set_option maxHeartbeats 4000000 in
theorem trip_wp (c : Dev nD) (v2 v4 v7 v10 v12 : BitVec 32) (v53 : FVec F S512x2048 .bf16) (k : Trip) (u : Unit) :
    iprop(env m K c ∗ st m c k.val (k.val - 1))
      ⊢ WP c (k0_t1_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v4 v7 v10 v12 v53 k u) (fun _ => iprop(env m K c ∗ st m c (k.val + 1) (k.val + 1 - 1))) := by
  have hk := step_lt k
  unfold k0_t1_body
  simp only [semSignalWord, semWaitWord, Prog.lift, Prog.bind_op, Prog.bind_ret, Prog.pure_eq_ret]
  iintro ⟨#He, Hst⟩
  ihave #Hctx := (env_ctx m K c) $$ He
  iapply (seg c _ _ (part7_wp c k)) $$ []
  · iempintro
  iintro %a %ha
  obtain ⟨a1, a2, a3, a4, a5⟩ := a
  obtain ⟨e1, e2⟩ := ha
  dsimp only at e1 e2
  subst e1 e2
  iapply (seg c _ _ (part8_wp m K c v2 v4 v7 v10 v12 k a2 a3 a4 (k.val - 1) rfl)) $$ [Hst]
  · iframe He Hst
  iintro %a8 Hst
  by_cases h1 : 1 ≤ k.val
  swap
  · rw [dif_neg (fun h => h1 ((cond6 k).mp h))]
    iapply (fin c)
    rw [show k.val - 1 = k.val + 1 - 1 by omega]
    iframe He Hst
  have c6 := (cond6 k).mpr h1
  rw [dif_pos c6]
  iapply (seg c _ _ (part5_wp c _)) $$ []
  · iempintro
  iintro %a5 -
  obtain ⟨w1, w2, v218, v219, v220⟩ := a5
  obtain ⟨q, hq⟩ : ∃ q, k.val - 1 = q := ⟨_, rfl⟩
  have hkq : k.val = q + 1 := by omega
  have hO : ∀ sm, (levAts L lv : sProp 𝕄) ⊢ MayWait (c : Thread nD τ) sm 0 (owed c (q + 2) (q + 2) q q) := fun sm => wait0 c sm _ _ _ _
  have hO' : ∀ sm, (levAts L lv : sProp 𝕄) ⊢ MayWait (c : Thread nD τ) sm (2 * q + 2) (owed c (q + 2) (q + 2) q q) :=
    fun sm => mayWait_owed c sm _ _ _ _ _ (by omega) (by omega) (by omega) (by omega) (by omega)
  unfold st mid side
  rw [hq, hkq, show q + 1 + 1 - 1 = q + 1 by omega, show q + 1 + 1 = q + 2 by omega, show q + 2 + 1 = q + 3 by omega, show q + 2 - 2 = q by omega]
  icases Hst with ⟨⟨Ha0, Hs0, Hc0, Hp0, Hd0, Hr0, Hq0, Ht0, Hx0, Hg0⟩, ⟨Ha1, Hs1, Hc1, Hp1, Hd1, Hr1, Hq1, Ht1, Hx1, Hg1⟩, Ho, Hw, Hout⟩
  iapply (seg c _ _ (part6_wp m K c v4 v7 k c6 q (q + 2) hq (by omega) _ hO hO')) $$ [Hc0 Hp0 Hr0 Hq0 Hc1 Hp1 Ho]
  · iframe Hctx; iframe
  iintro %_ ⟨⟨Hf0, Hc0, Hp0, Hv0, Hr0, Hq0⟩, ⟨Hf1, Hc1, Hp1⟩, Ho⟩
  iapply (st_arrived m K c 1 q (by omega) (recv_at 1 _ (by rw [← hq]; exact off26 k c6)) (recvs_at 1 _ (by rw [← hq]; exact off24 k c6)) (hO' _))
    $$ [Hr1 Hq1 Ho]
  · iframe Hctx Hr1 Hq1 Ho
  iintro ⟨Hv1, Hr1, Hq1, Ho⟩
  ihave H0 : held m c 0 q $$ [Hf0 Ha0 Hv0 Hx0]
  · unfold held; iframe
  ihave H1 : held m c 1 q $$ [Hf1 Ha1 Hv1 Hx1]
  · unfold held; iframe
  -- what is done with the two blocks while summing
  iapply (join c (iprop(ctx m K ∗ held m c 0 q ∗ held m c 1 q ∗ owns (c : Thread nD τ) wvM fullShare (wAll m c)
      ∗ owesAt c (owed c (q + 2) (q + 2) q q) ∗ outP m c (fun _ => q)))
    (iprop((if q < 12 then iprop(used m c 0 q ∗ used m c 1 q ∗ outP m c (fun _ => q + 1)) else iprop(held m c 0 q ∗ held m c 1 q ∗ outP m c (fun _ => q)))
      ∗ owns (c : Thread nD τ) wvM fullShare (wAll m c) ∗ owesAt c (owed c (q + 2) (q + 2) q q))) ?_ ?_) $$ [H0 H1 Hw Ho Hout]
  rotate_left 2
  · iframe Hctx; iframe
  · iintro ⟨H, Hw, Ho⟩
    -- and while passing finished blocks on
    iapply (join c (iprop(ctx m K ∗ (if q < 12 then iprop(used m c 0 q ∗ used m c 1 q ∗ outP m c (fun _ => q + 1)) else iprop(held m c 0 q ∗ held m c 1 q ∗ outP m c (fun _ => q)))
        ∗ owesAt c (owed c (q + 2) (q + 2) q q)))
      (iprop((used m c 0 q ∗ used m c 1 q ∗ outP m c (fun _ => q + 1)) ∗ owesAt c (owed c (q + 2) (q + 2) q q))) ?_ ?_) $$ [H Ho]
    rotate_left 2
    · iframe Hctx; iframe
    · iintro ⟨⟨H0, H1, Hout⟩, Ho⟩
      unfold used
      icases H0 with ⟨Ha0, Hv0, Hx0⟩
      icases H1 with ⟨Ha1, Hv1, Hx1⟩
      iapply (st_release m K c 0 q _) $$ [Hv0 Hq0]
      · iframe Hctx Hv0 Hq0
      iintro Hq0
      iapply (st_release m K c 1 q _) $$ [Hv1 Hq1]
      · iframe Hctx Hv1 Hq1
      iintro Hq1
      by_cases h17 : q < 22
      · have c17 := (cond17 k h1).mpr (by omega)
        rw [dif_pos c17]
        iapply (st_signal m K c 0 q h17 (congrArg Dev.tc (dev5 c _)) (credit_at 0 rfl) (owed_credit0 c h17)) $$ [Ht0 Hq0 Ho]
        · iframe Hctx Ht0 Hq0 Ho
        iintro ⟨Ht0, Hq0, Ho⟩
        iapply (st_signal m K c 1 q h17 (congrArg Dev.tc (dev6 c _)) (credit_at 1 rfl) (owed_credit1 c h17)) $$ [Ht1 Hq1 Ho]
        · iframe Hctx Ht1 Hq1 Ho
        iintro ⟨Ht1, Hq1, Ho⟩
        iapply (fin c)
        iframe He; iframe
      · rw [dif_neg (fun h => h17 (by have := (cond17 k h1).mp h; omega))]
        iapply (fin c)
        have ht (d : Fin 2) : (tokB c d q : sProp 𝕄) = tokB c d (q + 1) := by
          unfold tokB; rw [seq_nil _ (by omega), seq_nil _ (by omega)]
        have ho : owed c (q + 2) (q + 2) q q = owed c (q + 2) (q + 2) (q + 1) (q + 1) := by
          unfold owed; rw [owed1_skip c 0 _ (by omega), owed1_skip c 1 _ (by omega)]
        rw [← ht 0, ← ht 1, ← ho]
        iframe He; iframe
    · intro c14
      have h12 : 12 ≤ q := by have := (cond14 k h1).mp c14; omega
      rw [if_neg (by omega)]
      iintro ⟨#Hctx, ⟨H0, H1, Hout⟩, Ho⟩ Hk
      ihave H1 := (held_open m c 1 q) $$ H1
      icases H1 with ⟨Hf1, Ha1, Hv1, Hx1⟩
      ihave Hx1 := (cxB_pass m c 1 (q := q) (p := q + 2) (by omega) (by omega) (fun h => by have := h.1; omega)) $$ Hx1
      iapply (seg c _ _ (part4_wp m K c v2 k c6 v218 v219 v220 c14 q hq h1 h12 _ hO)) $$ [H0 Hv1 Ho Hout]
      · iframe Hctx H0 Hv1 Ho Hout
        try iexact Hw
      iintro %_ ⟨H0, Hv1, Ho, Hout⟩
      by_cases h16 : q / 4 < 5
      · have c16 := (cond16 k h1 (by omega)).mpr (by rw [hq]; exact h16)
        rw [dif_pos c16]
        iapply (ld_recv c 1 (sf q) (by rw [← hq]; exact off56 k c6 c14 c16) _ _) $$ Hv1
        iintro Hv1
        iapply (upd_acc c 1 (jf q) (by rw [← hq]; exact off57 k c6 c14 c16) (pay21 _)) $$ Hf1
        iintro Hb1
        iapply Hk
        ihave Ha1 := (accB_push m c 1 (r := q + 3) (p := q + 2) (q := q) (by omega) (by omega)) $$ [Hb1 Ha1]
        · rw [sv_later m c 1 q h12]
          iframe
        ihave H1 := (used_of m c 1 q) $$ [Ha1 Hv1 Hx1]
        · iframe
        iframe
      · have c16 : ¬ k0_cond16 k = 1#1 := fun h => by
          have := (cond16 k h1 (by omega)).mp h
          omega
        rw [dif_neg c16]
        iapply Hk
        ihave Ha1 := (accB_push_free m c 1 (r := q + 3) (p := q + 2) (q := q) (by omega) (by omega)) $$ [Hf1 Ha1]
        · iframe
        ihave H1 := (used_of m c 1 q) $$ [Ha1 Hv1 Hx1]
        · iframe
        iframe
    · intro hc
      have h12 : q < 12 := by
        by_contra h
        exact hc ((cond14 k h1).mpr (by omega))
      rw [if_pos h12]
      iintro ⟨#Hctx, H, Ho⟩
      iframe
  · intro c7
    have h12 : q < 12 := by have := (cond7 k h1).mp c7; omega
    rw [if_pos h12]
    iintro ⟨#Hctx, H0, H1, Hw, Ho, Hout⟩ Hk
    by_cases h8 : q / 4 = 1
    · have c8 := (cond8 k h1 (by omega)).mpr (by rw [hq]; exact h8)
      rw [dif_pos c8]
      iapply (seg c _ _ (part2_wp m K c v2 k c6 v218 v219 v220 c7 c8 q hq h8 _ hO)) $$ [H0 Hw Ho]
      · iframe Hctx; iframe
      iintro %_ ⟨H0, Hw, Ho⟩
      ihave H1 := (held_open m c 1 q) $$ H1
      icases H1 with ⟨Hf1, Ha1, Hv1, Hx1⟩
      iapply (st_fetched m K c 1 q (q + 2) (by omega) ⟨by omega, Or.inr h8⟩ (cx_at 1 _ (by rw [← hq]; exact off33 k c6 c7 c8))
        (cxs_at 1 _ (by rw [← hq]; exact off32 k c6 c7 c8)) (hO _)) $$ [Hx1 Ho]
      · iframe Hctx Hx1 Ho
      iintro ⟨Hc1, Hx1, Ho⟩
      iapply (ld_cx c 1 (sf q) (by rw [← hq]; exact off35 k c6 c7 c8) _ _) $$ Hc1
      iintro Hc1
      iapply (ld_half m c 1 rfl) $$ Hw
      iintro Hw
      iapply (ld_recv c 1 (sf q) (by rw [← hq]; exact off35 k c6 c7 c8) _ _) $$ Hv1
      iintro Hv1
      iapply (upd_acc c 1 (jf q) (by rw [← hq]; exact off36 k c6 c7 c8) (pay17 _ _ _)) $$ Hf1
      iintro Hb1
      have c9 : ¬ k0_cond9 k = 1#1 := fun h => by
        have := (cond9 k h1 (by omega)).mp h
        omega
      rw [dif_neg c9]
      iapply Hk
      ihave Hx1 := (cxB_close m c 1 (q := q) (p := q + 2) (by omega) _) $$ [Hc1 Hx1]
      · iframe
      ihave Ha1 := (accB_push m c 1 (r := q + 3) (p := q + 2) (q := q) (by omega) (by omega)) $$ [Hb1 Ha1]
      · rw [sv_third m c 1 q h8]
        iframe
      ihave Hout := (outP_early m c (n := fun _ => q) (n' := fun _ => q + 1) (fun d => by omega)) $$ Hout
      ihave H1 := (used_of m c 1 q) $$ [Ha1 Hv1 Hx1]
      · iframe
      iframe
    · have c8 : ¬ k0_cond8 k = 1#1 := fun h => by
        have := (cond8 k h1 (by omega)).mp h
        omega
      rw [dif_neg c8]
      have c9 := (cond9 k h1 (by omega)).mpr (by rw [hq]; exact h8)
      rw [dif_pos c9]
      ihave H1 := (held_open m c 1 q) $$ H1
      icases H1 with ⟨Hf1, Ha1, Hv1, Hx1⟩
      iapply (seg c _ _ (part3_wp m K c v2 k c6 v218 v219 v220 c7 c9 q hq h1 h12 h8 _ hO)) $$ [H0 Hv1 Hw Ho Hout]
      · iframe Hctx H0 Hv1 Ho Hout
        try iexact Hw
      iintro %b ⟨%hb, H0, Hv1, Hw, Ho, Hout⟩
      subst hb
      ihave Hx1 := (cxB_pass m c 1 (q := q) (p := q + 2) (by omega) (by omega) (fun h => by have := h.2; revert this; simp [h8])) $$ Hx1
      rcases (by omega : q / 4 = 0 ∨ q / 4 = 2) with h | h
      · have c12 := (cond12 k h1 (by omega)).mpr (by rw [hq]; exact h)
        have c13 : ¬ k0_cond13 k = 1#1 := fun h => by
          have := (cond13 k h1 (by omega)).mp h
          omega
        rw [dif_pos c12, dif_neg c13]
        iapply (upd_acc c 1 (jf q) (by rw [← hq]; exact off46 k c6 c7 c9 c12) (pay19 _ _)) $$ Hf1
        iintro Hb1
        iapply Hk
        ihave Ha1 := (accB_push m c 1 (r := q + 3) (p := q + 2) (q := q) (by omega) (by omega)) $$ [Hb1 Ha1]
        · rw [sv_second m c 1 q h]
          iframe
        ihave Hout := (outP_early m c (n := ![q + 1, q]) (n' := fun _ => q + 1) (fun d => by omega)) $$ Hout
        ihave H1 := (used_of m c 1 q) $$ [Ha1 Hv1 Hx1]
        · iframe
        iframe
      · have c13 := (cond13 k h1 (by omega)).mpr (by rw [hq]; exact h)
        have c12 : ¬ k0_cond12 k = 1#1 := fun h => by
          have := (cond12 k h1 (by omega)).mp h
          omega
        rw [dif_neg c12, dif_pos c13]
        iapply (upd_acc c 1 (jf q) (by rw [← hq]; exact off47 k c6 c7 c9 c13) (pay20 _ _)) $$ Hf1
        iintro Hb1
        have e : rndV (reluV (addV (halfV 1 (fullV (xblk m c (qtr 0 (q / 4 + 1) c) (jf q)) (wAll m c)))
            (sv m (frm 1 c) 1 q))) = outV m 1 (home c 1 q) (jf q) := by
          rw [← sv_fourth m c 1 q h, home_own c 1 h12, sv_own m c 1 q h]
        ihave Hb1 := (Entails.of_eq (congrArg (owns (c : Thread nD τ) (accM 1 (jf q)) fullShare) e)) $$ Hb1
        iapply (st_out m K c 1 q ![q + 1, q] (fun _ => q + 1) rfl (fun d => by fin_cases d <;> simp) (by omega)
          (acc_at 1 (jf q) (by rw [← hq]; exact off49 k c6 c7 c9 c13)) (o_at 1 (home c 1 q) (jf q) (by rw [home_own c 1 h12, ← hq]; exact off48 c k c6 c7 c9 c13))
          (o_at 1 (home c 1 q) (jf q) (by rw [home_own c 1 h12, ← hq]; exact off48 c k c6 c7 c9 c13)) (hO _)) $$ [Hb1 Hout Ho]
        · iframe Hctx Hb1 Hout Ho
        iintro ⟨Hb1, Hout, Ho⟩
        iapply Hk
        ihave Ha1 := (accB_push m c 1 (r := q + 3) (p := q + 2) (q := q) (by omega) (by omega)) $$ [Hb1 Ha1]
        · rw [sv_own m c 1 q h, home_own c 1 h12]
          iframe
        ihave H1 := (used_of m c 1 q) $$ [Ha1 Hv1 Hx1]
        · iframe
        iframe
  · intro hc
    have h12 : ¬ q < 12 := fun h => hc ((cond7 k h1).mpr (by omega))
    rw [if_neg h12]
    iintro ⟨#Hctx, H0, H1, Hw, Ho, Hout⟩
    iframe

end Cert.KernelIdeal.Exchange
-- ==== Proof.KernelIdealStart.lean ====
/-
From the first operation to the end of the loop: the weights and the first blocks are fetched, the first blocks computed,
the neighbours greeted, and the loop run by its invariant.
-/
module

public import proofs.«01_k».proof.Proof.KernelIdealTrip

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-- Before the handshake a device waits on its own copies. -/
theorem wait_start (c : Dev nD) (sm : DmaSem sig) : (levAts L lv : sProp 𝕄) ⊢ MayWait (c : Thread nD τ) (.dma sm) 0 (owedStart c) :=
  mayWait c (.dma sm) 0 _ (by omega) fun _ _ h => owedStart_pos h

/-- The weights, and the first block of each direction under way. -/
theorem part10_wp (c : Dev nD) :
    iprop(ctx m K ∗ (((c : Thread nD τ).loc main_arg1) ↦{fullShare} m ((c : Thread nD τ).loc main_arg1))
        ∗ (∃ f : Buf (Elt F) ((c : Thread nD τ).loc cc0_scratch0), ((c : Thread nD τ).loc cc0_scratch0) ↦{fullShare} f)
        ∗ semVal ((c : Thread nD τ), SemLoc.dma wS) 0 ∗ pxFree m c 0 ∗ pxFree m c 1 ∗ owesAt c (owedStart c))
      ⊢ WP c (k0_part10 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
        (fun a => iprop(⌜a.1 = c⌝ ∗ owns (c : Thread nD τ) wvM fullShare (wAll m c)
          ∗ (((c : Thread nD τ).loc main_arg1) ↦{fullShare} m ((c : Thread nD τ).loc main_arg1))
          ∗ semVal ((c : Thread nD τ), SemLoc.dma wS) 0 ∗ pxB m c 0 0 ∗ pxB m c 1 0 ∗ owesAt c (owedStart c))) := by
  simp only [k0_part10_eq_skeleton]
  unfold k0_part10_skel
  simp only [semSignalWord, semWaitWord, Prog.lift, Prog.bind_op, Prog.bind_ret, Prog.pure_eq_ret]
  iintro ⟨#Hctx, Hw, Hs, Hv, Hx0, Hx1, Ho⟩
  ihave #HL := (ctx_lev m K) $$ Hctx
  rw [WP, wp_deviceId, ← WP]
  iapply (load_w m c (wait_start c wS)) $$ [Hw Hs Hv Ho]
  · iframe HL; iframe
  iintro ⟨Hw, Hg, Hv, Ho⟩
  iapply (st_px m c 0 0 (by omega) (x_at _ _ (off1_0 c)) (px_at 0 rfl) (pxs_at 0 rfl)) $$ Hx0
  iintro Hx0
  iapply (st_px m c 1 0 (by omega) (x_at _ _ (off2_0 c)) (px_at 1 rfl) (pxs_at 1 rfl)) $$ Hx1
  iintro Hx1
  iapply (fin c)
  isplitr
  · ipureintro; rfl
  iframe

/-- The first block of each direction computed. -/
theorem part11_wp (c : Dev nD) (v12 v27 : BitVec 32) :
    iprop(ctx m K ∗ owns (c : Thread nD τ) wvM fullShare (wAll m c) ∗ pxB m c 0 0 ∗ pxB m c 1 0 ∗ free c (accM 0 (jf 0)) ∗ owesAt c (owedStart c))
      ⊢ WP c (k0_part11 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v12 v27)
        (fun a => iprop(⌜a = sv m c 1 0⌝ ∗ owns (c : Thread nD τ) wvM fullShare (wAll m c) ∗ pxFree m c 0 ∗ pxFree m c 1
          ∗ owns (c : Thread nD τ) (accM 0 (jf 0)) fullShare (sv m c 0 0) ∗ owesAt c (owedStart c))) := by
  simp only [k0_part11_eq_skeleton]
  unfold k0_part11_skel
  simp only [semSignalWord, semWaitWord, Prog.lift, Prog.bind_op, Prog.bind_ret, Prog.pure_eq_ret]
  iintro ⟨#Hctx, Hw, Hx0, Hx1, Hf, Ho⟩
  iapply (st_pxed m K c 0 0 (by omega) (px_at 0 rfl) (pxs_at 0 rfl) (wait_start c _)) $$ [Hx0 Ho]
  · iframe Hctx Hx0 Ho
  iintro ⟨Hx0, Ht0, Hs0, Ho⟩
  iapply (ld_px c 0 rfl _ _) $$ Hx0
  iintro Hx0
  iapply (ld_half m c 0 rfl) $$ Hw
  iintro Hw
  iapply (upd_acc c 0 (jf 0) rfl (pay14 _ _)) $$ Hf
  iintro Ha
  iapply (st_pxed m K c 1 0 (by omega) (px_at 1 rfl) (pxs_at 1 rfl) (wait_start c _)) $$ [Hx1 Ho]
  · iframe Hctx Hx1 Ho
  iintro ⟨Hx1, Ht1, Hs1, Ho⟩
  iapply (ld_px c 1 rfl _ _) $$ Hx1
  iintro Hx1
  iapply (ld_half m c 1 rfl) $$ Hw
  iintro Hw
  iapply (fin c)
  isplitr
  · ipureintro
    rw [sv_first m c 1 0 (by omega)]
    exact pay15 _ _
  rw [sv_first m c 0 0 (by omega)]
  unfold pxFree free
  iframe Hw Ho Ha Ht0 Hs0 Ht1 Hs1
  isplitl [Hx0]
  · iexists _; iexact Hx0
  · iexists _; iexact Hx1

/-- What one direction starts with, its copies ahead of the first blocks aside. -/
def pre (c : Dev nD) (d : Fin 2) : sProp 𝕄 :=
  iprop(sndR c d 0 ∗ sndC c d 0 0 ∗ sndP c d 0 ∗ crdB m c d 0 ∗ rcvC c d 0 ∗ rcvP c d 0 ∗ tokB c d 0 ∗ cxB m c d 0 0)

/-- What the handshake takes. -/
def shake (c : Dev nD) : sProp 𝕄 :=
  iprop(cred (tallyAt (barCell c) 1 2) ∗ atPos ER (barCell c) 0 ∅ 0 ∗ dutyTok ER (barCell (frm 0 c)) 0 0 ∗ dutyTok ER (barCell (frm 1 c)) 0 1)

theorem rcvP_start (c : Dev nD) (d : Fin 2) : (rcvP c d 0 : sProp 𝕄) ⊢ iprop(fact c d 0 0 ∗ fact c d 1 0) := by
  have h (s : Fin 2) : (rcvP c d 0 : sProp 𝕄) ⊢ fact c d s 0 := by
    have h : (rcvP c d 0 : sProp 𝕄) ⊢ recvPos c d s.val := by
      unfold rcvP seq; exact bigSep_elim (Finset.mem_Ico.mpr ⟨Nat.zero_le _, s.isLt⟩)
    refine h.trans ?_
    unfold recvPos
    rw [show sf s.val = s from Fin.ext (Nat.mod_eq_of_lt s.isLt), show s.val / 2 = 0 by omega]
    iintro ⟨-, -, H⟩; iexact H
  iintro H
  ihave #A := (h 0) $$ H
  ihave #B := (h 1) $$ H
  isplitl
  · iexact A
  · iexact B

theorem owedStart_greet0 (c : Dev nD) :
    owedStart c = (owed c 0 0 0 0 + tallyAt (barCell (frm 1 c)) 1 1) + tallyAt (barCell (frm 0 c)) 1 1 := by
  unfold owedStart; rw [show frm 1 c = hop 1 c by revert c; decide, show frm 0 c = hop 3 c by revert c; decide]

set_option maxHeartbeats 1000000 in
/-- The handshake and the loop. -/
theorem part12_wp (c : Dev nD) (v2 v4 v7 v10 v12 : BitVec 32) :
    iprop(ctx m K ∗ (accB m c 0 1 0 4 ∗ pre m c 0 ∗ pxFree m c 0) ∗ (free c (accM 1 (jf 0)) ∗ accB m c 1 0 1 4 ∗ pre m c 1 ∗ pxFree m c 1)
        ∗ shake c ∗ owns (c : Thread nD τ) wvM fullShare (wAll m c) ∗ outP m c (fun _ => 0) ∗ owesAt c (owedStart c))
      ⊢ WP c (k0_part12 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v4 v7 v10 v12 (sv m c 1 0))
        (fun _ => iprop(st m c 24 23 ∗ atPos ER (barCell c) 1 ∅ 0)) := by
  simp only [k0_part12_eq_skeleton]
  unfold k0_part12_skel
  simp only [semSignalWord, semWaitWord, Prog.lift, Prog.bind_op, Prog.bind_ret, Prog.pure_eq_ret]
  unfold pre shake
  iintro ⟨#Hctx, ⟨Ha0, ⟨A1, A2, A3, A4, A5, Hr0, A7, A8⟩, Hx0⟩, ⟨Hf, Ha1, ⟨B1, B2, B3, B4, B5, Hr1, B7, B8⟩, Hx1⟩, ⟨Hcr, Hat, Hd0, Hd1⟩, Hw, Hout, Ho⟩
  iapply (upd_acc c 1 (jf 0) rfl (pay16 _)) $$ Hf
  iintro Hf
  ihave Ha1 := (accB_put m c 1 (r := 0) (e := 4) (by omega) (by omega)) $$ [Hf Ha1]
  · iframe
  iapply (st_px m c 0 1 (by omega) (x_at _ _ (off1_1 c)) (px_at 0 rfl) (pxs_at 0 rfl)) $$ Hx0
  iintro Hx0
  iapply (st_px m c 1 1 (by omega) (x_at _ _ (off2_1 c)) (px_at 1 rfl) (pxs_at 1 rfl)) $$ Hx1
  iintro Hx1
  ihave #Hg0 := (rcvP_start c 0) $$ Hr0
  ihave #Hg1 := (rcvP_start c 1) $$ Hr1
  icases Hg0 with ⟨#Hg00, #Hg01⟩
  icases Hg1 with ⟨#Hg10, #Hg11⟩
  iapply (greet m K c 0 (congrArg Dev.tc (dev1 c)) rfl (owedStart_greet0 c)) $$ [Hd0 Ho]
  · iframe Hctx Hd0 Hg00 Hg01 Ho
  iintro Ho
  iapply (greet m K c 1 (congrArg Dev.tc (dev2 c)) rfl rfl) $$ [Hd1 Ho]
  · iframe Hctx Hd1 Hg10 Hg11 Ho
  iintro Ho
  iapply (meet m K c rfl (mayWait_owed c (.reg barS) 1 0 0 0 0 (by omega) (by omega) (by omega) (by omega) (by omega))) $$ [Hcr Hat Ho]
  · iframe Hctx Hcr Hat Ho
  iintro ⟨Hat, #R00, #R01, #R10, #R11, Ho⟩
  ihave #He : env m K c $$ []
  · unfold env; iframe Hctx R00 R01 R10 R11
  ihave Hst : st m c 0 (0 - 1) $$ [Ha0 A1 A2 A3 A4 A5 Hr0 A7 A8 Hx0 Ha1 B1 B2 B3 B4 B5 Hr1 B7 B8 Hx1 Hw Hout Ho]
  · unfold st mid side
    iframe
  iapply (Scf.wp_for_bind _ _ _ _ _ _ k0_t1_ok ⟨⟩ _ (fun i _ => iprop(env m K c ∗ st m c i (i - 1)))
    (fun k u => trip_wp m K c v2 v4 v7 v10 v12 (sv m c 1 0) k u)) $$ [Hst]
  · iframe He Hst
  iintro %_ ⟨-, Hst⟩
  iapply (fin c)
  iframe Hat
  rw [show Scf.trips k0_t1_loop.lb k0_t1_loop.ub k0_t1_loop.st = 24 from trips_eq]
  iexact Hst

end Cert.KernelIdeal.Exchange
-- ==== Proof.KernelIdealFinish.lean ====
/-
After the loop: the last step's two ends are awaited, its blocks written out, and everything a device was lent or made an
invariant of comes back to it.
-/
module

public import proofs.«01_k».proof.Proof.KernelIdealStart

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (K : Names)

/-! ## Getting everything back -/

/-- A cell past its last round is a plain semaphore at zero again. -/
theorem close (c : Dev nD) (i : Fin 11) {g : GSem nD τ sig} (hg : cellOf c i = g) (R : ℕ)
    (hR : ∀ r, R ≤ r → (Rd (F := F) m).duties g r = ∅) :
    iprop(ctx m K ∗ atPos ER g R ∅ 0) ⊢ iprop(|={Set.univ}=> semVal g 0) := by
  iintro ⟨#Hctx, Hat⟩
  ihave #Hi := (ctx_cell m K c i hg) $$ Hctx
  icases Hi with ⟨#Hi, -⟩
  iapply (Rounds.cell_close ER (Rd m) (Set.mem_univ (K.1 (c, i))) (fun h => h) (R := R) hR) $$ [Hat]
  iframe Hi Hat

/-- What one direction holds when the last step's ends have been awaited and its block written out. -/
def rest (c : Dev nD) (d : Fin 2) : sProp 𝕄 :=
  iprop(accB m c d 25 24 27 ∗ free c (accM d (jf 23)) ∗ sndP c d 24 ∗ crdB m c d 22 ∗ rcvH c d 23
    ∗ owns (c : Thread nD τ) (recvM d (sf 23)) fullShare (sv m (frm d c) d 23) ∗ cxB m c d 23 24 ∗ pxB m c d 25)

/-- One direction's memory and semaphores, whole again. -/
def back (c : Dev nD) (d : Fin 2) : sProp 𝕄 :=
  iprop((free c (accM d 0) ∗ free c (accM d 1) ∗ free c (accM d 2) ∗ free c (accM d 3))
    ∗ (free c (recvM d 0) ∗ free c (recvM d 1)) ∗ (free c (cxM d 0) ∗ free c (cxM d 1)) ∗ free c (pxM d)
    ∗ (xtok m c d.val ∗ xtok m c (2 + 2 * d.val) ∗ xtok m c (2 + 2 * d.val + 1))
    ∗ (semVal (sendCell d 0 c) 0 ∗ semVal (sendCell d 1 c) 0) ∗ (semVal (recvCell d 0 c) 0 ∗ semVal (recvCell d 1 c) 0)
    ∗ (semVal ((c : Thread nD τ), SemLoc.dma (cxS d 0)) 0 ∗ semVal ((c : Thread nD τ), SemLoc.dma (cxS d 1)) 0)
    ∗ semVal ((c : Thread nD τ), SemLoc.dma (pxS d)) 0 ∗ semVal (creditCell d c) 0)

theorem back_acc (c : Dev nD) (d : Fin 2) :
    iprop(accB m c d 25 24 27 ∗ free c (accM d (jf 23)))
      ⊢ iprop(free c (accM d 0) ∗ free c (accM d 1) ∗ free c (accM d 2) ∗ free c (accM d 3)) := by
  unfold accB
  rw [seq_pop _ (show 24 < 27 by omega), seq_pop _ (show 24 + 1 < 27 by omega), seq_pop _ (show 24 + 1 + 1 < 27 by omega),
    seq_nil _ (show 27 ≤ 24 + 1 + 1 + 1 by omega), accRes_free m c d (by omega), accRes_free m c d (by omega), accRes_free m c d (by omega)]
  show iprop((free c (accM d 0) ∗ free c (accM d 1) ∗ free c (accM d 2) ∗ emp) ∗ free c (accM d 3)) ⊢ _
  iintro ⟨⟨H0, H1, H2, -⟩, H3⟩
  iframe

theorem back_cx (c : Dev nD) (d : Fin 2) :
    cxB m c d 23 24 ⊢ iprop((free c (cxM d 0) ∗ free c (cxM d 1)) ∗ (xtok m c (2 + 2 * d.val) ∗ xtok m c (2 + 2 * d.val + 1))
      ∗ (semVal ((c : Thread nD τ), SemLoc.dma (cxS d 0)) 0 ∗ semVal ((c : Thread nD τ), SemLoc.dma (cxS d 1)) 0)) := by
  unfold cxB
  rw [seq_pop _ (show 23 < 24 by omega), seq_nil _ (show 24 ≤ 23 + 1 by omega), seq_pop _ (show 24 < 23 + 2 by omega),
    seq_nil _ (show 23 + 2 ≤ 24 + 1 by omega), show cxRes m c d 23 = cxFree m c d 23 from if_neg (fun h => by have := h.1; omega)]
  unfold cxFree
  show iprop(((semVal ((c : Thread nD τ), SemLoc.dma (cxS d 1)) 0 ∗ free c (cxM d 1) ∗ xtok m c (2 + 2 * d.val + 1)) ∗ emp)
    ∗ (semVal ((c : Thread nD τ), SemLoc.dma (cxS d 0)) 0 ∗ free c (cxM d 0) ∗ xtok m c (2 + 2 * d.val + 0)) ∗ emp) ⊢ _
  iintro ⟨⟨⟨A, B, C⟩, -⟩, ⟨⟨A', B', C'⟩, -⟩⟩
  iframe

theorem back_px (c : Dev nD) (d : Fin 2) :
    pxB m c d 25 ⊢ iprop(free c (pxM d) ∗ xtok m c d.val ∗ semVal ((c : Thread nD τ), SemLoc.dma (pxS d)) 0) := by
  unfold pxB
  rw [if_neg (by omega)]
  unfold pxFree
  exact .rfl

theorem back_snd (c : Dev nD) (d : Fin 2) :
    iprop(ctx m K ∗ sndP c d 24) ⊢ iprop(|={Set.univ}=> (semVal (sendCell d 0 c) 0 ∗ semVal (sendCell d 1 c) 0)) := by
  unfold sndP
  rw [seq_pop _ (show 24 < 24 + 2 by omega), seq_pop _ (show 24 + 1 < 24 + 2 by omega), seq_nil _ (show 24 + 2 ≤ 24 + 1 + 1 by omega)]
  unfold sendPos
  show iprop(ctx m K ∗ (atPos ER (sendCell d 0 c) 12 ∅ 0 ∗ reached ER (sendCell d 0 c) 12)
    ∗ (atPos ER (sendCell d 1 c) 12 ∅ 0 ∗ reached ER (sendCell d 1 c) 12) ∗ emp) ⊢ _
  iintro ⟨#Hctx, ⟨H0, -⟩, ⟨H1, -⟩, -⟩
  imod (close m K c (iSend d 0) (cellOf_send c d 0) 12 (fun r h => duties_send_done m c d 0 r h)) $$ [H0] with H0
  · iframe Hctx H0
  imod (close m K c (iSend d 1) (cellOf_send c d 1) 12 (fun r h => duties_send_done m c d 1 r h)) $$ [H1] with H1
  · iframe Hctx H1
  imodintro
  iframe

theorem back_rcv (c : Dev nD) (d : Fin 2) (X : FVec F S512x2048 .bf16) :
    iprop(ctx m K ∗ rcvH c d 23 ∗ owns (c : Thread nD τ) (recvM d (sf 23)) fullShare X ∗ writeTok ES (c, d, 0) 13)
      ⊢ iprop(|={Set.univ}=> ((free c (recvM d 0) ∗ free c (recvM d 1)) ∗ (semVal (recvCell d 0 c) 0 ∗ semVal (recvCell d 1 c) 0))) := by
  unfold rcvH recvPos fact
  show iprop(ctx m K ∗ ((readerAt ES (c, d, 0) 13 ∗ atPos ER (recvCell d 0 c) 12 ∅ 0 ∗ (released ES (c, d, 0) 13 ∗ reached ER (recvCell d 0 c) 12))
      ∗ readerAt ES (c, d, 1) 12 ∗ atPos ER (recvCell d 1 c) 12 ∅ 0 ∗ reached ER (recvCell d 1 c) 12)
    ∗ owns (c : Thread nD τ) (recvM d 1) fullShare X ∗ writeTok ES (c, d, 0) 13) ⊢ _
  iintro ⟨#Hctx, ⟨⟨-, H0, #Hrel, -⟩, -, H1, -⟩, HX, Ht⟩
  ihave #Hsl := (ctx_slot m K c d 0) $$ Hctx
  imod (slot_take ES (Set.mem_univ (K.2 (c, d, 0))) 13) $$ [Ht] with HT
  · isplitr; · iexact Hsl
    isplitr; · iexact Hrel
    iexact Ht
  imod (close m K c (iRecv d 0) (cellOf_recv c d 0) 12 (fun r h => duties_recv_done m c d 0 r h)) $$ [H0] with H0
  · iframe Hctx H0
  imod (close m K c (iRecv d 1) (cellOf_recv c d 1) 12 (fun r h => duties_recv_done m c d 1 r h)) $$ [H1] with H1
  · iframe Hctx H1
  imodintro
  iframe H0 H1 HT
  unfold free
  iexists X
  iexact HX

theorem back_crd (c : Dev nD) (d : Fin 2) : iprop(ctx m K ∗ crdB m c d 22) ⊢ iprop(|={Set.univ}=> semVal (creditCell d c) 0) := by
  unfold crdB creditPos
  rw [if_pos rfl]
  iintro ⟨#Hctx, -, H⟩
  iapply (close m K c (iCredit d) (cellOf_credit c d) 1 (fun r h => duties_credit_done m c d r h))
  iframe Hctx H

theorem back_side (c : Dev nD) (d : Fin 2) :
    iprop(ctx m K ∗ rest m c d ∗ writeTok ES (c, d, 0) 13) ⊢ iprop(|={Set.univ}=> back m c d) := by
  unfold rest
  iintro ⟨#Hctx, ⟨Ha, Hf, Hs, Hc, Hr, HX, Hx, Hp⟩, Ht⟩
  imod (back_snd m K c d) $$ [Hs] with Hs
  · iframe Hctx Hs
  imod (back_rcv m K c d _) $$ [Hr HX Ht] with ⟨Hr, Hrs⟩
  · iframe Hctx Hr HX Ht
  imod (back_crd m K c d) $$ [Hc] with Hc
  · iframe Hctx Hc
  imodintro
  ihave Ha := (back_acc m c d) $$ [Ha Hf]
  · iframe
  ihave Hx := (back_cx m c d) $$ Hx
  icases Hx with ⟨Hx, ⟨Ht0, Ht1⟩, Hxs⟩
  ihave Hp := (back_px m c d) $$ Hp
  icases Hp with ⟨Hp, Ht, Hps⟩
  unfold back
  iframe

/-! ## The last step -/

/-- Both ends of the last step, all but one awaited. -/
theorem part13_wp (c : Dev nD) (v4 : BitVec 32) (v5 : BitVec 1) (v6 : BitVec 32)
    (O : CellTallies nD τ sig ℕ) (hO : ∀ sm, (levAts L lv : sProp 𝕄) ⊢ MayWait (c : Thread nD τ) sm 0 O)
    (hO' : ∀ sm, (levAts L lv : sProp 𝕄) ⊢ MayWait (c : Thread nD τ) sm (2 * 23 + 2) O) :
    iprop(ctx m K ∗ (sndC c 0 23 24 ∗ sndP c 0 23 ∗ rcvC c 0 23 ∗ rcvP c 0 23) ∗ (sndC c 1 23 24 ∗ sndP c 1 23) ∗ owesAt c O)
      ⊢ WP c (k0_part13 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v4 v5 v6)
        (fun _ => iprop((free c (accM 0 (jf 23)) ∗ sndP c 0 24 ∗ owns (c : Thread nD τ) (recvM 0 (sf 23)) fullShare (sv m (frm 0 c) 0 23) ∗ rcvH c 0 23)
          ∗ (free c (accM 1 (jf 23)) ∗ sndP c 1 24) ∗ owesAt c O)) := by
  simp only [k0_part13_eq_skeleton]
  unfold k0_part13_skel
  simp only [semSignalWord, semWaitWord, Prog.lift, Prog.bind_op, Prog.bind_ret, Prog.pure_eq_ret]
  iintro ⟨#Hctx, ⟨A1, A2, A3, A4⟩, ⟨B1, B2⟩, Ho⟩
  iapply (st_sent m K c 0 23 24 (by omega) (by omega) (acc_at 0 _ off59) (send_at 0 _ off58) (hO _)) $$ [A1 A2 Ho]
  · iframe Hctx A1 A2 Ho
  iintro ⟨Hf0, -, A2, Ho⟩
  iapply (st_arrived m K c 0 23 (by omega) (recv_at 0 _ off60) (recvs_at 0 _ off58) (hO' _)) $$ [A3 A4 Ho]
  · iframe Hctx A3 A4 Ho
  iintro ⟨Hv, -, A4, Ho⟩
  iapply (st_sent m K c 1 23 24 (by omega) (by omega) (acc_at 1 _ off62) (send_at 1 _ off61) (hO _)) $$ [B1 B2 Ho]
  · iframe Hctx B1 B2 Ho
  iintro ⟨Hf1, -, B2, Ho⟩
  iapply (fin c)
  iframe

/-- The last block of each direction written out. -/
theorem part9_wp (c : Dev nD) (v2 v77 v78 v79 : BitVec 32) (c18 : k0_cond18 = 1#1)
    (O : CellTallies nD τ sig ℕ) (hO : ∀ sm, (levAts L lv : sProp 𝕄) ⊢ MayWait (c : Thread nD τ) sm 0 O) :
    iprop(ctx m K ∗ owns (c : Thread nD τ) (recvM 0 (sf 23)) fullShare (sv m (frm 0 c) 0 23)
        ∗ owns (c : Thread nD τ) (recvM 1 (sf 23)) fullShare (sv m (frm 1 c) 1 23) ∗ outP m c (fun _ => 23) ∗ owesAt c O)
      ⊢ WP c (k0_part9 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v77 v78 v79 c18)
        (fun _ => iprop(owns (c : Thread nD τ) (recvM 0 (sf 23)) fullShare (sv m (frm 0 c) 0 23)
          ∗ owns (c : Thread nD τ) (recvM 1 (sf 23)) fullShare (sv m (frm 1 c) 1 23) ∗ outP m c (fun _ => 24) ∗ owesAt c O)) := by
  have e (d : Fin 2) : sv m (frm d c) d 23 = outV m d (home c d 23) (jf 23) := by
    rw [home_other c d (by omega)]; exact sv_received m c d 23 (by omega) (by omega)
  have hh (d : Fin 2) : home c d 23 = qtr d 2 c := home_other c d (by omega)
  simp only [k0_part9_eq_skeleton]
  unfold k0_part9_skel
  simp only [semSignalWord, semWaitWord, Prog.lift, Prog.bind_op, Prog.bind_ret, Prog.pure_eq_ret]
  rw [dif_neg cond19, e 0, e 1]
  iintro ⟨#Hctx, H0, H1, Hout, Ho⟩
  iapply (st_out m K c 0 23 (fun _ => 23) ![24, 23] rfl (fun d => by fin_cases d <;> simp) (by omega)
    (recv_at 0 _ off65) (o_at 0 _ _ (by rw [hh]; exact off64 c)) (o_at 0 _ _ (by rw [hh]; exact off64 c)) (hO _)) $$ [H0 Hout Ho]
  · iframe Hctx H0 Hout Ho
  iintro ⟨H0, Hout, Ho⟩
  iapply (st_out m K c 1 23 ![24, 23] (fun _ => 24) rfl (fun d => by fin_cases d <;> simp) (by omega)
    (recv_at 1 _ off69) (o_at 1 _ _ (by rw [hh]; exact off68 c)) (o_at 1 _ _ (by rw [hh]; exact off68 c)) (hO _)) $$ [H1 Hout Ho]
  · iframe Hctx H1 Hout Ho
  iintro ⟨H1, Hout, Ho⟩
  iapply (fin c)
  iframe

/-! ## The whole program of one device -/

/-- What a device starts with. -/
def first (c : Dev nD) (d : Fin 2) : sProp 𝕄 := iprop(accB m c d 0 0 4 ∗ pre m c d ∗ pxFree m c d ∗ writeTok ES (c, d, 0) 13)
def start (c : Dev nD) : sProp 𝕄 :=
  iprop(first m c 0 ∗ first m c 1 ∗ shake c ∗ (((c : Thread nD τ).loc main_arg1) ↦{fullShare} m ((c : Thread nD τ).loc main_arg1))
    ∗ (∃ f : Buf (Elt F) ((c : Thread nD τ).loc cc0_scratch0), ((c : Thread nD τ).loc cc0_scratch0) ↦{fullShare} f)
    ∗ semVal ((c : Thread nD τ), SemLoc.dma wS) 0 ∗ outP m c (fun _ => 0))
/-- What it ends with. -/
def done (c : Dev nD) : sProp 𝕄 :=
  iprop(back m c 0 ∗ back m c 1 ∗ semVal (barCell c) 0 ∗ (((c : Thread nD τ).loc main_arg1) ↦{fullShare} m ((c : Thread nD τ).loc main_arg1))
    ∗ owns (c : Thread nD τ) wvM fullShare (wAll m c) ∗ semVal ((c : Thread nD τ), SemLoc.dma wS) 0 ∗ outP m c (fun _ => 24))

theorem owed_rest (c : Dev nD) : owed c 24 24 23 23 = 0 := by
  unfold owed; rw [owed1_skip c 0 24 (by omega), owed1_skip c 1 24 (by omega)]; exact owed_done c

set_option maxHeartbeats 1000000 in
theorem body_wp (c : Dev nD) :
    iprop(ctx m K ∗ start m c ∗ owesAt c (owedStart c)) ⊢ WP c (cc0_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) (fun _ => iprop(done m c ∗ owesAt c 0)) := by
  simp only [cc0_body_eq_skeleton]
  unfold cc0_body_skel
  simp only [semSignalWord, semWaitWord, Prog.lift, Prog.bind_op, Prog.bind_ret, Prog.pure_eq_ret]
  unfold start first
  iintro ⟨#Hctx, ⟨⟨Ha0, Hp0, Hx0, Ht0⟩, ⟨Ha1, Hp1, Hx1, Ht1⟩, Hsh, Hw, Hs, Hv, Hout⟩, Ho⟩
  iapply (seg c _ _ (part10_wp m K c)) $$ [Hw Hs Hv Hx0 Hx1 Ho]
  · iframe Hctx; iframe
  iintro %a ⟨%ha, Hwv, Hw, Hv, Hx0, Hx1, Ho⟩
  obtain ⟨a1, a2, a3, a4, a5, a6, a7⟩ := a
  dsimp only at ha
  subst ha
  ihave Ha0 := (accB_take m a1 0 (r := 0) (e := 4) (by omega) (by omega)) $$ Ha0
  icases Ha0 with ⟨Hf0, Ha0⟩
  ihave Ha1 := (accB_take m a1 1 (r := 0) (e := 4) (by omega) (by omega)) $$ Ha1
  icases Ha1 with ⟨Hf1, Ha1⟩
  iapply (seg a1 _ _ (part11_wp m K a1 _ _)) $$ [Hwv Hx0 Hx1 Hf0 Ho]
  · iframe Hctx; iframe
  iintro %v ⟨%hv, Hwv, Hx0, Hx1, Hf0, Ho⟩
  subst hv
  ihave Ha0 := (accB_put m a1 0 (r := 0) (e := 4) (by omega) (by omega)) $$ [Hf0 Ha0]
  · iframe
  iapply (seg a1 _ _ (part12_wp m K a1 _ _ _ _ _)) $$ [Ha0 Hp0 Hx0 Hf1 Ha1 Hp1 Hx1 Hsh Hwv Hout Ho]
  · iframe Hctx; iframe
  iintro %b ⟨Hst, Hbar⟩
  unfold st mid side
  icases Hst with ⟨⟨Ha0, -, Hc0, Hq0, Hd0, Hr0, Hs0, -, Hx0, Hp0⟩, ⟨Ha1, -, Hc1, Hq1, Hd1, Hr1, Hs1, -, Hx1, Hp1⟩, Ho, Hwv, Hout⟩
  have hO (sm) : (levAts L lv : sProp 𝕄) ⊢ MayWait (a1 : Thread nD τ) sm 0 (owed a1 24 24 23 23) :=
    mayWait_owed a1 sm 0 24 24 23 23 (by omega) (by omega) (by omega) (by omega) (by omega)
  have hO' (sm) : (levAts L lv : sProp 𝕄) ⊢ MayWait (a1 : Thread nD τ) sm (2 * 23 + 2) (owed a1 24 24 23 23) :=
    mayWait_owed a1 sm (2 * 23 + 2) 24 24 23 23 (by omega) (by omega) (by omega) (by omega) (by omega)
  iapply (seg a1 _ _ (part13_wp m K a1 _ _ _ _ hO hO')) $$ [Hc0 Hq0 Hr0 Hs0 Hc1 Hq1 Ho]
  · iframe Hctx; iframe
  iintro %e ⟨⟨Hf0, Hq0, Hv0, Hs0⟩, ⟨Hf1, Hq1⟩, Ho⟩
  iapply (st_arrived m K a1 1 23 (by omega) (recv_at 1 _ off63) (recvs_at 1 _ off61) (hO' _)) $$ [Hr1 Hs1 Ho]
  · iframe Hctx Hr1 Hs1 Ho
  iintro ⟨Hv1, -, Hs1, Ho⟩
  rw [dif_pos cond18]
  iapply (seg a1 _ _ (part9_wp m K a1 _ _ _ _ cond18 _ hO)) $$ [Hv0 Hv1 Hout Ho]
  · iframe Hctx; iframe
  iintro %_ ⟨Hv0, Hv1, Hout, Ho⟩
  rw [dif_neg cond20]
  imod (back_side m K a1 0) $$ [Ha0 Hf0 Hq0 Hd0 Hs0 Hv0 Hx0 Hp0 Ht0] with H0
  · unfold rest; iframe Hctx; iframe
  imod (back_side m K a1 1) $$ [Ha1 Hf1 Hq1 Hd1 Hs1 Hv1 Hx1 Hp1 Ht1] with H1
  · unfold rest; iframe Hctx; iframe
  imod (close m K a1 0 (g := barCell a1) rfl 1 (fun r h => duties_bar_done m a1 r h)) $$ [Hbar] with Hbar
  · iframe Hctx Hbar
  iapply (fin a1)
  unfold done
  rw [owed_rest]
  iframe

end Cert.KernelIdeal.Exchange
-- ==== Proof.KernelIdealSplit.lean ====
/-
Memory at the launch and at the end: every buffer that is used slot by slot, held whole, is its slots held one by one,
and the slots join back to the buffer. The operand, held whole, is one part for each copy that may be under way and a
remainder.
-/
module

public import Idealize.ShloMosaic.Lib.Ring
public import proofs.«01_k».proof.Proof.KernelIdealFinish

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## A slot is its elements -/

theorem free_eq (c : Dev nD) {sp : Space} (M : Memref sig .tc sp S512x2048 .bf16) :
    free (F := F) c M = iprop(∃ f, (M.view.loc (c : Thread nD τ)) ↦[M.view.set]{fullShare} f) := by
  unfold free owns
  refine BI.Entails.antisymm (show _ ⊢ (_ : sProp 𝕄) from ?_) (show _ ⊢ (_ : sProp 𝕄) from ?_)
  · iintro ⟨%X, %f, -, H⟩; iexists f; iexact H
  · iintro ⟨%f, H⟩; iexists (M.view.read (Elt F) f); iexists f
    isplitr; · ipureintro; rfl
    iexact H

theorem acc_set (d : Fin 2) (j : Fin 4) : (accM d j).view.set
    = (Rect.unit (s := S2x4x512x2048) ![d.val, j.val, 0, 0] S1x1x512x2048.size (acc_inb d j)).set :=
  (View.set_reshape _ _).trans (View.set_slice_whole _ _)
theorem recv_set (d s : Fin 2) : (recvM d s).view.set
    = (Rect.unit (s := S2x2x512x2048) ![d.val, s.val, 0, 0] S1x1x512x2048.size (pair_inb d s)).set :=
  (View.set_reshape _ _).trans (View.set_slice_whole _ _)
theorem cx_set (d s : Fin 2) : (cxM d s).view.set
    = (Rect.unit (s := S2x2x512x2048) ![d.val, s.val, 0, 0] S1x1x512x2048.size (pair_inb d s)).set :=
  (View.set_reshape _ _).trans (View.set_slice_whole _ _)
theorem px_set (d : Fin 2) : (pxM d).view.set
    = (Rect.unit (s := S2x512x2048) ![d.val, 0, 0] S1x512x2048.size (px_inb d)).set :=
  (View.set_reshape _ _).trans (View.set_slice_whole _ _)

/-! ## The slots of a buffer are disjoint and cover it -/

theorem acc_mem (d : Fin 2) (j : Fin 4) (i : S2x4x512x2048.Idx) :
    i ∈ (Rect.unit (s := S2x4x512x2048) ![d.val, j.val, 0, 0] S1x1x512x2048.size (acc_inb d j)).set ↔ i 0 = d ∧ i 1 = j := by
  rw [Rect.mem_set_unit]
  constructor
  · intro h
    have h0 : d.val ≤ (i 0).val ∧ (i 0).val < d.val + 1 := h 0
    have h1 : j.val ≤ (i 1).val ∧ (i 1).val < j.val + 1 := h 1
    exact ⟨Fin.ext (by omega), Fin.ext (by omega)⟩
  · rintro ⟨h0, h1⟩ a
    have e0 : (i 0).val = d.val := congrArg Fin.val h0
    have e1 : (i 1).val = j.val := congrArg Fin.val h1
    have h2 : (i 2).val < 512 := (i 2).isLt
    have h3 : (i 3).val < 2048 := (i 3).isLt
    match a with
    | 0 => show d.val ≤ (i 0).val ∧ (i 0).val < d.val + 1; omega
    | 1 => show j.val ≤ (i 1).val ∧ (i 1).val < j.val + 1; omega
    | 2 => show 0 ≤ (i 2).val ∧ (i 2).val < 0 + 512; omega
    | 3 => show 0 ≤ (i 3).val ∧ (i 3).val < 0 + 2048; omega

theorem pair_mem (d s : Fin 2) (i : S2x2x512x2048.Idx) :
    i ∈ (Rect.unit (s := S2x2x512x2048) ![d.val, s.val, 0, 0] S1x1x512x2048.size (pair_inb d s)).set ↔ i 0 = d ∧ i 1 = s := by
  rw [Rect.mem_set_unit]
  constructor
  · intro h
    have h0 : d.val ≤ (i 0).val ∧ (i 0).val < d.val + 1 := h 0
    have h1 : s.val ≤ (i 1).val ∧ (i 1).val < s.val + 1 := h 1
    exact ⟨Fin.ext (by omega), Fin.ext (by omega)⟩
  · rintro ⟨h0, h1⟩ a
    have e0 : (i 0).val = d.val := congrArg Fin.val h0
    have e1 : (i 1).val = s.val := congrArg Fin.val h1
    have h2 : (i 2).val < 512 := (i 2).isLt
    have h3 : (i 3).val < 2048 := (i 3).isLt
    match a with
    | 0 => show d.val ≤ (i 0).val ∧ (i 0).val < d.val + 1; omega
    | 1 => show s.val ≤ (i 1).val ∧ (i 1).val < s.val + 1; omega
    | 2 => show 0 ≤ (i 2).val ∧ (i 2).val < 0 + 512; omega
    | 3 => show 0 ≤ (i 3).val ∧ (i 3).val < 0 + 2048; omega

theorem px_mem (d : Fin 2) (i : S2x512x2048.Idx) :
    i ∈ (Rect.unit (s := S2x512x2048) ![d.val, 0, 0] S1x512x2048.size (px_inb d)).set ↔ i 0 = d := by
  rw [Rect.mem_set_unit]
  constructor
  · intro h
    have h0 : d.val ≤ (i 0).val ∧ (i 0).val < d.val + 1 := h 0
    exact Fin.ext (by omega)
  · intro h0 a
    have e0 : (i 0).val = d.val := congrArg Fin.val h0
    have h2 : (i 1).val < 512 := (i 1).isLt
    have h3 : (i 2).val < 2048 := (i 2).isLt
    match a with
    | 0 => show d.val ≤ (i 0).val ∧ (i 0).val < d.val + 1; omega
    | 1 => show 0 ≤ (i 1).val ∧ (i 1).val < 0 + 512; omega
    | 2 => show 0 ≤ (i 2).val ∧ (i 2).val < 0 + 2048; omega

/-- Sets of which each element has exactly one owner are disjoint and cover. -/
theorem parts {α B : Type} [Fintype α] [DecidableEq α] [Fintype B] [DecidableEq B] (I : B → Finset α) (who : α → B)
    (h : ∀ i b, i ∈ I b ↔ who i = b) : (∀ b b', b ≠ b' → Disjoint (I b) (I b')) ∧ Finset.univ.biUnion I = Finset.univ := by
  constructor
  · intro b b' hb
    rw [Finset.disjoint_left]
    intro i h1 h2
    exact hb (((h i b).mp h1).symm.trans ((h i b').mp h2))
  · ext i
    simp only [Finset.mem_biUnion, Finset.mem_univ, true_and, iff_true]
    exact ⟨who i, (h i _).mpr rfl⟩

/-! ## Whole buffers and their slots -/

/-- A whole buffer at some contents. -/
def bufAny (c : Dev nD) (r : Ref sig .tc) : sProp 𝕄 :=
  iprop(∃ f : Buf (Elt F) ((c : Thread nD τ).loc r), ((c : Thread nD τ).loc r) ↦{fullShare} f)

theorem held_slots (c : Dev nD) (r : Ref sig .tc) {B : Type} [Fintype B] [DecidableEq B] (I : B → Finset (Idx ((c : Thread nD τ).loc r)))
    (Φ : B → sProp 𝕄) (he : ∀ b, Φ b = iprop(∃ f, ((c : Thread nD τ).loc r) ↦[I b]{fullShare} f))
    (who : Idx ((c : Thread nD τ).loc r) → B) (h : ∀ i b, i ∈ I b ↔ who i = b) :
    (bufAny (F := F) c r ⊢ bigSep Finset.univ Φ) ∧ ((∃ f₀ : Buf (Elt F) ((c : Thread nD τ).loc r), True) → bigSep Finset.univ Φ ⊢ bufAny (F := F) c r) := by
  have hd := (parts I who h).1
  have hc := (parts I who h).2
  rw [show Φ = fun b => iprop(∃ f, ((c : Thread nD τ).loc r) ↦[I b]{fullShare} f) from funext he]
  unfold bufAny
  constructor
  · iintro ⟨%f, H⟩
    ihave H := (Entails.of_eq (Ring.pointsTo_blocks I hd hc f)) $$ H
    have hm : (bigSep Finset.univ (fun b => ((c : Thread nD τ).loc r) ↦[I b]{fullShare} f) : sProp 𝕄)
        ⊢ bigSep Finset.univ (fun b => iprop(∃ f, ((c : Thread nD τ).loc r) ↦[I b]{fullShare} f)) :=
      bigSep_mono fun b _ => (show _ ⊢ (_ : sProp 𝕄) from by iintro H; iexists f; iexact H)
    iapply hm $$ H
  · rintro ⟨f₀, -⟩
    exact Ring.pointsTo_blocks_join_exists I hd hc f₀

theorem acc_slots (c : Dev nD) :
    bufAny (F := F) c cc0_scratch1 = bigSep Finset.univ (fun b : Fin 2 × Fin 4 => free c (accM b.1 b.2)) := by
  have h := held_slots (F := F) c cc0_scratch1
    (fun b : Fin 2 × Fin 4 => (Rect.unit (s := S2x4x512x2048) ![b.1.val, b.2.val, 0, 0] S1x1x512x2048.size (acc_inb b.1 b.2)).set)
    (fun b => free c (accM b.1 b.2)) (fun b => by rw [free_eq, acc_set]) (fun i => (i 0, i 1))
    (fun i b => (acc_mem b.1 b.2 i).trans ⟨fun e => Prod.ext e.1 e.2, fun e => ⟨congrArg Prod.fst e, congrArg Prod.snd e⟩⟩)
  exact BI.Entails.antisymm h.1 (h.2 ⟨fun _ => Scalar.ofBits .bf16 0#16, trivial⟩)
theorem recv_slots (c : Dev nD) :
    bufAny (F := F) c cc0_scratch2 = bigSep Finset.univ (fun b : Fin 2 × Fin 2 => free c (recvM b.1 b.2)) := by
  have h := held_slots (F := F) c cc0_scratch2
    (fun b : Fin 2 × Fin 2 => (Rect.unit (s := S2x2x512x2048) ![b.1.val, b.2.val, 0, 0] S1x1x512x2048.size (pair_inb b.1 b.2)).set)
    (fun b => free c (recvM b.1 b.2)) (fun b => by rw [free_eq, recv_set]) (fun i => (i 0, i 1))
    (fun i b => (pair_mem b.1 b.2 i).trans ⟨fun e => Prod.ext e.1 e.2, fun e => ⟨congrArg Prod.fst e, congrArg Prod.snd e⟩⟩)
  exact BI.Entails.antisymm h.1 (h.2 ⟨fun _ => Scalar.ofBits .bf16 0#16, trivial⟩)
theorem cx_slots (c : Dev nD) :
    bufAny (F := F) c cc0_scratch3 = bigSep Finset.univ (fun b : Fin 2 × Fin 2 => free c (cxM b.1 b.2)) := by
  have h := held_slots (F := F) c cc0_scratch3
    (fun b : Fin 2 × Fin 2 => (Rect.unit (s := S2x2x512x2048) ![b.1.val, b.2.val, 0, 0] S1x1x512x2048.size (pair_inb b.1 b.2)).set)
    (fun b => free c (cxM b.1 b.2)) (fun b => by rw [free_eq, cx_set]) (fun i => (i 0, i 1))
    (fun i b => (pair_mem b.1 b.2 i).trans ⟨fun e => Prod.ext e.1 e.2, fun e => ⟨congrArg Prod.fst e, congrArg Prod.snd e⟩⟩)
  exact BI.Entails.antisymm h.1 (h.2 ⟨fun _ => Scalar.ofBits .bf16 0#16, trivial⟩)
theorem px_slots (c : Dev nD) :
    bufAny (F := F) c cc0_scratch4 = bigSep Finset.univ (fun b : Fin 2 => free c (pxM b)) := by
  have h := held_slots (F := F) c cc0_scratch4
    (fun b : Fin 2 => (Rect.unit (s := S2x512x2048) ![b.val, 0, 0] S1x512x2048.size (px_inb b)).set)
    (fun b => free c (pxM b)) (fun b => by rw [free_eq, px_set]) (fun i => i 0)
    (fun i b => px_mem b i)
  exact BI.Entails.antisymm h.1 (h.2 ⟨fun _ => Scalar.ofBits .bf16 0#16, trivial⟩)

/-! ## The slots, listed -/

theorem over2 (Φ : Fin 2 → sProp 𝕄) : bigSep Finset.univ Φ = iprop(Φ 0 ∗ Φ 1) := bigSep_univ_eq_bigSepL [0, 1] (by decide) (by decide) Φ
theorem over4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What the scratch buffers give direction `d`. -/
def slots (c : Dev nD) (d : Fin 2) : sProp 𝕄 :=
  iprop((free c (accM d 0) ∗ free c (accM d 1) ∗ free c (accM d 2) ∗ free c (accM d 3))
    ∗ (free c (recvM d 0) ∗ free c (recvM d 1)) ∗ (free c (cxM d 0) ∗ free c (cxM d 1)) ∗ free c (pxM d))

/-- The scratch buffers are the weights' buffer and the slots of both directions. -/
theorem scratch_eq (c : Dev nD) :
    (Pipeline.scopedRest cfg0.spec c : sProp 𝕄)
      = iprop((∃ f : Buf (Elt F) ((c : Thread nD τ).loc cc0_scratch0), ((c : Thread nD τ).loc cc0_scratch0) ↦{fullShare} f)
          ∗ slots c 0 ∗ slots c 1) := by
  have h : (Pipeline.scopedRest cfg0.spec c : sProp 𝕄)
      = iprop(bufAny c cc0_scratch0 ∗ bufAny c cc0_scratch1 ∗ bufAny c cc0_scratch2 ∗ bufAny c cc0_scratch3 ∗ bufAny c cc0_scratch4) := scopedRest0_eq c
  rw [h, acc_slots, recv_slots, cx_slots, px_slots, bigSep_univ_prod, bigSep_univ_prod, bigSep_univ_prod]
  simp only [over2, over4]
  unfold slots bufAny
  refine BI.Entails.antisymm (show _ ⊢ (_ : sProp 𝕄) from ?_) (show _ ⊢ (_ : sProp 𝕄) from ?_)
  · iintro ⟨H0, ⟨H1, H1'⟩, ⟨H2, H2'⟩, ⟨H3, H3'⟩, H4, H4'⟩
    iframe
  · iintro ⟨H0, ⟨H1, H2, H3, H4⟩, H1', H2', H3', H4'⟩
    iframe

/-! ## The operand's parts -/

/-- What remains of the operand beside the parts of the copies. -/
def xrest (c : Dev nD) : sProp 𝕄 :=
  iprop(((c : Thread nD τ).loc main_arg0) ↦{shareDrop fullShare 6} m ((c : Thread nD τ).loc main_arg0))
/-- The parts of the operand that direction `d` lends to its copies. -/
def xparts (c : Dev nD) (d : Fin 2) : sProp 𝕄 :=
  iprop(xtok m c d.val ∗ xtok m c (2 + 2 * d.val) ∗ xtok m c (2 + 2 * d.val + 1))

theorem operand_eq (c : Dev nD) :
    ((((c : Thread nD τ).loc main_arg0) ↦{fullShare} m ((c : Thread nD τ).loc main_arg0)) : sProp 𝕄)
      = iprop(xrest m c ∗ xparts m c 0 ∗ xparts m c 1) := by
  have h6 (Φ : ℕ → sProp 𝕄) : bigSep (Finset.range 6) Φ = iprop(Φ 0 ∗ Φ 1 ∗ Φ 2 ∗ Φ 3 ∗ Φ 4 ∗ Φ 5) :=
    bigSep_eq_bigSepL_of_eq (S := Finset.range 6) [0, 1, 2, 3, 4, 5] (by decide) (by decide) Φ
  have h := pointsTo_toks_range (Ix := ℕ) (Name := ℕ) (U := UU) (Lvl := ℕ) (ℓ := (c : Thread nD τ).loc main_arg0) (S := Finset.univ)
    (f := m ((c : Thread nD τ).loc main_arg0)) fullShare 6
  rw [h6] at h
  refine (BI.Entails.antisymm h.1 h.2).trans ?_
  unfold xrest xparts xtok
  refine BI.Entails.antisymm (show _ ⊢ (_ : sProp 𝕄) from ?_) (show _ ⊢ (_ : sProp 𝕄) from ?_)
  · iintro ⟨H, H0, H1, H2, H3, H4, H5⟩
    isplitl [H]; · iexact H
    isplitl [H0 H2 H3]
    · isplitl [H0]; · iexact H0
      isplitl [H2]; · iexact H2
      iexact H3
    isplitl [H1]; · iexact H1
    isplitl [H4]; · iexact H4
    iexact H5
  · iintro ⟨H, ⟨H0, H2, H3⟩, H1, H4, H5⟩
    isplitl [H]; · iexact H
    isplitl [H0]; · iexact H0
    isplitl [H1]; · iexact H1
    isplitl [H2]; · iexact H2
    isplitl [H3]; · iexact H3
    isplitl [H4]; · iexact H4
    iexact H5

end Cert.KernelIdeal.Exchange
-- ==== Proof.KernelIdealDeal.lean ====
/-
The ghost state dealt at the launch. One element mints a position and a token for every cell, round and duty, and the
records of the receive slots. Each cell and each slot gets its invariant; then the tokens go round the ring to the
devices that spend them: a device receives those of the cells it signals and sends to.
-/
module

public import proofs.«01_k».proof.Proof.KernelIdealSplit

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## The cells and their tokens -/

def kcell (x : Dev nD × Fin 11) : GSem nD τ sig := cellOf x.1 x.2

theorem kcell_injective : Function.Injective kcell := by
  rintro ⟨c, i⟩ ⟨c', i'⟩ h
  have h0 (c : Dev nD) (i : Fin 11) : (cellOf c i).1.1 = c ∧ (cellOf c i).2 = (cellOf 0 i).2 := by fin_cases i <;> exact ⟨rfl, rfl⟩
  have hc : c = c' := (h0 c i).1.symm.trans ((congrArg (fun g : GSem nD τ sig => g.1.1) h).trans (h0 c' i').1)
  have hs : (cellOf 0 i).2 = (cellOf 0 i').2 := (h0 c i).2.symm.trans ((congrArg (fun g : GSem nD τ sig => g.2) h).trans (h0 c' i').2)
  have hi : i = i' := by clear hc h0 h; revert i i'; decide
  rw [hc, hi]

def cells : Finset (GSem nD τ sig) := Finset.univ.map ⟨kcell, kcell_injective⟩

/-- Which token: of a handshake, of a credit, of a send, of an arrival; the direction; the step. -/
abbrev Tk : Type := Dev nD × Fin 4 × Fin 2 × Fin 24

def tokOf (x : Tk) : GSem nD τ sig × ℕ × ℕ :=
  match x.2.1 with
  | 0 => (barCell x.1, x.2.2.2.val, x.2.2.1.val)
  | 1 => (creditCell x.2.2.1 x.1, 0, x.2.2.2.val)
  | 2 => (sendCell x.2.2.1 (sf x.2.2.2.val) x.1, x.2.2.2.val / 2, 0)
  | 3 => (recvCell x.2.2.1 (sf x.2.2.2.val) x.1, x.2.2.2.val / 2, 0)

/-- What a token's cell and numbers say about it: the kind, the direction, the step. -/
def roleNum (r : Role) (n u : ℕ) : ℕ × ℕ × ℕ :=
  match r with
  | .bar => (0, u, n)
  | .credit d => (1, d.val, u)
  | .send d s => (2, d.val, 2 * n + s.val)
  | .recv d s => (3, d.val, 2 * n + s.val)
  | .idle => (4, 0, 0)

theorem tokOf_num (x : Tk) : roleNum (role (tokOf x).1.2) (tokOf x).2.1 (tokOf x).2.2 = (x.2.1.val, x.2.2.1.val, x.2.2.2.val) := by
  obtain ⟨c, k, d, t⟩ := x
  match k with
  | 0 => rfl
  | 1 =>
    show roleNum (role (.reg (creditS d))) 0 t.val = _
    rw [role_credit]; rfl
  | 2 =>
    show roleNum (role (.dma (sendS d (sf t.val)))) (t.val / 2) 0 = _
    rw [role_send]
    exact congrArg (fun n => (2, d.val, n)) (Nat.div_add_mod t.val 2)
  | 3 =>
    show roleNum (role (.dma (recvS d (sf t.val)))) (t.val / 2) 0 = _
    rw [role_recv]
    exact congrArg (fun n => (3, d.val, n)) (Nat.div_add_mod t.val 2)

theorem tokOf_dev (x : Tk) : (tokOf x).1.1.1 = x.1 := by
  obtain ⟨c, k, d, t⟩ := x
  match k with
  | 0 => rfl
  | 1 => rfl
  | 2 => rfl
  | 3 => rfl

theorem tokOf_injective : Function.Injective tokOf := by
  intro x y h
  have hc : x.1 = y.1 := (tokOf_dev x).symm.trans ((congrArg (fun z : GSem nD τ sig × ℕ × ℕ => z.1.1.1) h).trans (tokOf_dev y))
  have hn := (tokOf_num x).symm.trans ((congrArg (fun z : GSem nD τ sig × ℕ × ℕ => roleNum (role z.1.2) z.2.1 z.2.2) h).trans (tokOf_num y))
  have h1 : x.2.1 = y.2.1 := Fin.ext (congrArg (fun z : ℕ × ℕ × ℕ => z.1) hn)
  have h2 : x.2.2.1 = y.2.2.1 := Fin.ext (congrArg (fun z : ℕ × ℕ × ℕ => z.2.1) hn)
  have h3 : x.2.2.2 = y.2.2.2 := Fin.ext (congrArg (fun z : ℕ × ℕ × ℕ => z.2.2) hn)
  exact Prod.ext hc (Prod.ext h1 (Prod.ext h2 h3))

def tokens : Finset (GSem nD τ sig × ℕ × ℕ) := Finset.univ.map ⟨tokOf, tokOf_injective⟩

def keys : Finset Key := Finset.univ

def u₀ : UU :=
  (initOf (Pipeline.cells cfgs cellOf_inj) (Pipeline.launchToks cfgs cellOf_inj), (initOf cells tokens, (initSlots keys 13, 1)))

/-! ## Runs of consecutive steps -/

theorem seq_of_fin (n : ℕ) (Φ : ℕ → sProp 𝕄) : bigSep Finset.univ (fun i : Fin n => Φ i.val) = seq Φ 0 n := by
  unfold seq
  rw [← Finset.range_eq_Ico, ← Nat.Iio_eq_range, ← Fin.map_valEmbedding_univ, BI.bigSep_map]; rfl

theorem seq_less (Φ : ℕ → sProp 𝕄) {a b : ℕ} (h : a ≤ b) : seq Φ 0 b ⊢ seq Φ 0 a := by
  unfold seq; exact bigSep_subset (Finset.Ico_subset_Ico le_rfl h)

theorem seq_two (Φ : ℕ → sProp 𝕄) : seq Φ 0 2 = iprop(Φ 0 ∗ Φ 1) := by
  rw [← seq_of_fin]; exact over2 _

theorem over4k (Φ : Fin 4 → sProp 𝕄) : bigSep Finset.univ Φ = iprop(Φ 0 ∗ Φ 1 ∗ Φ 2 ∗ Φ 3) := over4 Φ

/-! ## The tokens of one device -/

/-- The tokens of a device's own cells, as minted. -/
def toks (c : Dev nD) : sProp 𝕄 :=
  bigSep Finset.univ fun y : Fin 4 × Fin 2 × Fin 24 => dutyTok ER (tokOf (c, y)).1 (tokOf (c, y)).2.1 (tokOf (c, y)).2.2

/-- Those of direction `d`: the handshake's, the credits', the sends', the arrivals'. -/
def mine (c : Dev nD) (d : Fin 2) : sProp 𝕄 :=
  iprop(dutyTok ER (barCell c) 0 d.val ∗ seq (fun u => dutyTok ER (creditCell d c) 0 u) 0 22
    ∗ seq (fun t => dutyTok ER (sendCell d (sf t) c) (t / 2) 0) 0 24
    ∗ seq (fun t => dutyTok ER (recvCell d (sf t) c) (t / 2) 0) 0 24)

theorem toks_mine (c : Dev nD) : (toks c : sProp 𝕄) ⊢ iprop(mine c 0 ∗ mine c 1) := by
  have h0 (d : Fin 2) : seq (fun t => (dutyTok ER (barCell c) t d.val : sProp 𝕄)) 0 24 ⊢ dutyTok ER (barCell c) 0 d.val := by
    unfold seq; exact bigSep_elim (Φ := fun t => (dutyTok ER (barCell c) t d.val : sProp 𝕄)) (Finset.mem_Ico.mpr ⟨le_rfl, by decide⟩)
  have h1 (d : Fin 2) : seq (fun u => (dutyTok ER (creditCell d c) 0 u : sProp 𝕄)) 0 24 ⊢ seq (fun u => dutyTok ER (creditCell d c) 0 u) 0 22 :=
    seq_less _ (by decide)
  have e (k : Fin 4) (d : Fin 2) (Φ : ℕ → sProp 𝕄) (hΦ : ∀ t : Fin 24, dutyTok ER (tokOf (c, k, d, t)).1 (tokOf (c, k, d, t)).2.1 (tokOf (c, k, d, t)).2.2 = Φ t.val) :
      (bigSep Finset.univ fun t : Fin 24 => (dutyTok ER (tokOf (c, k, d, t)).1 (tokOf (c, k, d, t)).2.1 (tokOf (c, k, d, t)).2.2 : sProp 𝕄)) = seq Φ 0 24 :=
    (congrArg (bigSep Finset.univ) (funext hΦ)).trans (seq_of_fin 24 Φ)
  unfold toks
  rw [bigSep_univ_prod, over4]
  simp only [bigSep_univ_prod, over2]
  rw [e 0 0 (fun t => dutyTok ER (barCell c) t (0 : Fin 2).val) (fun _ => rfl), e 0 1 (fun t => dutyTok ER (barCell c) t (1 : Fin 2).val) (fun _ => rfl),
    e 1 0 (fun u => dutyTok ER (creditCell 0 c) 0 u) (fun _ => rfl), e 1 1 (fun u => dutyTok ER (creditCell 1 c) 0 u) (fun _ => rfl),
    e 2 0 (fun t => dutyTok ER (sendCell 0 (sf t) c) (t / 2) 0) (fun _ => rfl), e 2 1 (fun t => dutyTok ER (sendCell 1 (sf t) c) (t / 2) 0) (fun _ => rfl),
    e 3 0 (fun t => dutyTok ER (recvCell 0 (sf t) c) (t / 2) 0) (fun _ => rfl), e 3 1 (fun t => dutyTok ER (recvCell 1 (sf t) c) (t / 2) 0) (fun _ => rfl)]
  iintro ⟨⟨A0, A1⟩, ⟨B0, B1⟩, ⟨C0, C1⟩, D0, D1⟩
  ihave A0 := (h0 0) $$ A0
  ihave A1 := (h0 1) $$ A1
  ihave B0 := (h1 0) $$ B0
  ihave B1 := (h1 1) $$ B1
  unfold mine
  iframe

/-! ## The tokens of the receive slots -/

/-- The write tokens of direction `d`'s slots: one for each step, and the reader's own. -/
def writes (c : Dev nD) (d : Fin 2) : sProp 𝕄 :=
  iprop(seq (fun t => writeTok ES (c, d, sf t) (t / 2 + 1)) 0 24 ∗ writeTok ES (c, d, 0) 13)

def wkey (x : Dev nD × Fin 2 × Fin 25) : Key × ℕ := ((x.1, x.2.1, sf x.2.2.val), x.2.2.val / 2)
theorem wkey_injective : Function.Injective wkey := by
  rintro ⟨c, d, t⟩ ⟨c', d', t'⟩ h
  have h1 : c = c' := congrArg (fun z : Key × ℕ => z.1.1) h
  have h2 : d = d' := congrArg (fun z : Key × ℕ => z.1.2.1) h
  have h3 : t.val % 2 = t'.val % 2 := congrArg (fun z : Key × ℕ => z.1.2.2.val) h
  have h4 : t.val / 2 = t'.val / 2 := congrArg (fun z : Key × ℕ => z.2) h
  have h5 : t = t' := Fin.ext (by omega)
  rw [h1, h2, h5]

theorem writes_intro :
    (bigSep (keys ×ˢ Finset.range 13) (fun x => writeTok ES x.1 (x.2 + 1)) : sProp 𝕄)
      ⊢ bigSep Finset.univ fun c : Dev nD => iprop(writes c 0 ∗ writes c 1) := by
  have hsub : Finset.univ.map ⟨wkey, wkey_injective⟩ ⊆ keys ×ˢ Finset.range 13 := by
    intro y hy
    obtain ⟨⟨c, d, t⟩, -, rfl⟩ := Finset.mem_map.mp hy
    refine Finset.mem_product.mpr ⟨Finset.mem_univ _, Finset.mem_range.mpr ?_⟩
    show t.val / 2 < 13
    have := t.isLt; omega
  have hs : (bigSep (keys ×ˢ Finset.range 13) (fun x => writeTok ES x.1 (x.2 + 1)) : sProp 𝕄)
      ⊢ bigSep (Finset.univ.map ⟨wkey, wkey_injective⟩) (fun x => writeTok ES x.1 (x.2 + 1)) := bigSep_subset hsub
  refine hs.trans (show _ ⊢ (_ : sProp 𝕄) from Entails.of_eq ?_)
  rw [bigSep_map, bigSep_univ_prod]
  refine bigSep_congr fun c _ => ?_
  have e (d : Fin 2) : (bigSep Finset.univ fun t : Fin 25 => (writeTok ES (wkey (c, d, t)).1 ((wkey (c, d, t)).2 + 1) : sProp 𝕄)) = writes c d := by
    refine (seq_of_fin 25 (fun t => (writeTok ES (c, d, sf t) (t / 2 + 1) : sProp 𝕄))).trans ?_
    unfold writes seq
    rw [← Finset.range_eq_Ico, ← Finset.range_eq_Ico, show Finset.range 25 = insert 24 (Finset.range 24) from Finset.range_add_one,
      bigSep_insert Finset.notMem_range_self]
    exact BI.Entails.antisymm BI.sep_comm BI.sep_comm
  rw [bigSep_univ_prod, over2, ← e 0, ← e 1]; rfl

end Cert.KernelIdeal.Exchange
-- ==== Proof.KernelIdealGlob.lean ====
/-
The global step of the launch: every device's semaphores at zero and the minted ghost state become the invariants of all
cells and all receive slots, and what each device starts with.
-/
module

public import proofs.«01_k».proof.Proof.KernelIdealDeal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## The semaphores of one device -/

/-- The kernel's own semaphores. -/
def osem (k : Fin 18) : SemLoc sig :=
  ![.dma (sendS 0 0), .dma (sendS 0 1), .dma (sendS 1 0), .dma (sendS 1 1), .dma (recvS 0 0), .dma (recvS 0 1), .dma (recvS 1 0), .dma (recvS 1 1), .dma (cxS 0 0), .dma (cxS 0 1), .dma (cxS 1 0), .dma (cxS 1 1), .dma (pxS 0), .dma (pxS 1), .dma (wS), .dma (outS), .reg (creditS 0), .reg (creditS 1)] k
theorem ownSemFacts : Pipeline.OwnSemFacts cfg0.spec osem := by decide

/-- The semaphores of direction `d` that are cells, and those that are not. -/
def sems (c : Dev nD) (d : Fin 2) : sProp 𝕄 :=
  iprop((semVal (sendCell d 0 c) 0 ∗ semVal (sendCell d 1 c) 0) ∗ (semVal (recvCell d 0 c) 0 ∗ semVal (recvCell d 1 c) 0) ∗ semVal (creditCell d c) 0)
def idle (c : Dev nD) (d : Fin 2) : sProp 𝕄 :=
  iprop((semVal ((c : Thread nD τ), SemLoc.dma (cxS d 0)) 0 ∗ semVal ((c : Thread nD τ), SemLoc.dma (cxS d 1)) 0)
    ∗ semVal ((c : Thread nD τ), SemLoc.dma (pxS d)) 0)
def ends (c : Dev nD) : sProp 𝕄 :=
  iprop(semVal ((c : Thread nD τ), SemLoc.dma wS) 0 ∗ semVal ((c : Thread nD τ), SemLoc.dma outS) 0)

theorem ownSems_eq (c : Dev nD) :
    (Pipeline.ownSems0 osem c : sProp 𝕄) = iprop((sems c 0 ∗ sems c 1) ∗ (idle c 0 ∗ idle c 1) ∗ ends c) := by
  have h : (Pipeline.ownSems0 osem c : sProp 𝕄) = iprop(semVal (sendCell 0 0 c) 0 ∗ semVal (sendCell 0 1 c) 0 ∗ semVal (sendCell 1 0 c) 0 ∗ semVal (sendCell 1 1 c) 0 ∗ semVal (recvCell 0 0 c) 0 ∗ semVal (recvCell 0 1 c) 0 ∗ semVal (recvCell 1 0 c) 0 ∗ semVal (recvCell 1 1 c) 0 ∗ semVal ((c : Thread nD τ), SemLoc.dma (cxS 0 0)) 0 ∗ semVal ((c : Thread nD τ), SemLoc.dma (cxS 0 1)) 0 ∗ semVal ((c : Thread nD τ), SemLoc.dma (cxS 1 0)) 0 ∗ semVal ((c : Thread nD τ), SemLoc.dma (cxS 1 1)) 0 ∗ semVal ((c : Thread nD τ), SemLoc.dma (pxS 0)) 0 ∗ semVal ((c : Thread nD τ), SemLoc.dma (pxS 1)) 0 ∗ semVal ((c : Thread nD τ), SemLoc.dma (wS)) 0 ∗ semVal ((c : Thread nD τ), SemLoc.dma (outS)) 0 ∗ semVal (creditCell 0 c) 0 ∗ semVal (creditCell 1 c) 0) := by
    rw [Pipeline.ownSems0_eq_of_list c osem [0, 1, 2, 3, 4, 5, 6, 7, 8, 9, 10, 11, 12, 13, 14, 15, 16, 17] (by decide) (by decide)]; rfl
  rw [h]
  unfold sems idle ends
  refine BI.Entails.antisymm (show _ ⊢ (_ : sProp 𝕄) from ?_) (show _ ⊢ (_ : sProp 𝕄) from ?_)
  · iintro ⟨A0, A1, A2, A3, B0, B1, B2, B3, C0, C1, C2, C3, D0, D1, E, F, G0, G1⟩
    iframe
  · iintro ⟨⟨⟨⟨A0, A1⟩, ⟨B0, B1⟩, G0⟩, ⟨A2, A3⟩, ⟨B2, B3⟩, G1⟩, ⟨⟨⟨C0, C1⟩, D0⟩, ⟨C2, C3⟩, D1⟩, E, F⟩
    iframe

theorem unscopedSems_eq (c : Dev nD) : (unscopedSems0 c : sProp 𝕄) = semVal (barCell c) 0 := by
  unfold unscopedSems0; rw [bigSep_eq_bigSepL_of_eq [SemLoc.reg barS] (by decide) (by decide)]; rfl

theorem over11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem cell_sems (c : Dev nD) :
    iprop((sems c 0 ∗ sems c 1) ∗ semVal (barCell c) 0) ⊢ (bigSep Finset.univ fun i : Fin 11 => semVal (kcell (c, i)) 0 : sProp 𝕄) := by
  rw [over11]
  show _ ⊢ iprop(semVal (barCell c) 0 ∗ semVal (creditCell 0 c) 0 ∗ semVal (creditCell 1 c) 0
    ∗ semVal (sendCell 0 0 c) 0 ∗ semVal (sendCell 0 1 c) 0 ∗ semVal (sendCell 1 0 c) 0 ∗ semVal (sendCell 1 1 c) 0
    ∗ semVal (recvCell 0 0 c) 0 ∗ semVal (recvCell 0 1 c) 0 ∗ semVal (recvCell 1 0 c) 0 ∗ semVal (recvCell 1 1 c) 0)
  unfold sems
  iintro ⟨⟨⟨⟨A0, A1⟩, ⟨B0, B1⟩, G0⟩, ⟨A2, A3⟩, ⟨B2, B3⟩, G1⟩, H⟩
  iframe

/-! ## What the launch deals -/

/-- The positions of direction `d`'s cells. -/
def poss (c : Dev nD) (d : Fin 2) : sProp 𝕄 :=
  iprop((atPos ER (sendCell d 0 c) 0 ∅ 0 ∗ atPos ER (sendCell d 1 c) 0 ∅ 0) ∗ (atPos ER (recvCell d 0 c) 0 ∅ 0 ∗ atPos ER (recvCell d 1 c) 0 ∅ 0)
    ∗ atPos ER (creditCell d c) 0 ∅ 0)

theorem cell_poss (c : Dev nD) :
    (bigSep Finset.univ fun i : Fin 11 => atPos ER (kcell (c, i)) 0 ∅ 0 : sProp 𝕄) ⊢ iprop((poss c 0 ∗ poss c 1) ∗ atPos ER (barCell c) 0 ∅ 0) := by
  rw [over11]
  show iprop(atPos ER (barCell c) 0 ∅ 0 ∗ atPos ER (creditCell 0 c) 0 ∅ 0 ∗ atPos ER (creditCell 1 c) 0 ∅ 0
    ∗ atPos ER (sendCell 0 0 c) 0 ∅ 0 ∗ atPos ER (sendCell 0 1 c) 0 ∅ 0 ∗ atPos ER (sendCell 1 0 c) 0 ∅ 0 ∗ atPos ER (sendCell 1 1 c) 0 ∅ 0
    ∗ atPos ER (recvCell 0 0 c) 0 ∅ 0 ∗ atPos ER (recvCell 0 1 c) 0 ∅ 0 ∗ atPos ER (recvCell 1 0 c) 0 ∅ 0 ∗ atPos ER (recvCell 1 1 c) 0 ∅ 0) ⊢ _
  unfold poss
  iintro ⟨H, G0, G1, A0, A1, A2, A3, B0, B1, B2, B3⟩
  iframe

/-- What a device keeps: its positions, and the semaphores that are no cells. -/
def kept (c : Dev nD) : sProp 𝕄 := iprop(((poss c 0 ∗ poss c 1) ∗ atPos ER (barCell c) 0 ∅ 0) ∗ (idle c 0 ∗ idle c 1) ∗ ends c)

/-- The slots' launch element, given to one device until the invariants are allocated. -/
def purse (c : Dev nD) : sProp 𝕄 := if c = 0 then BI.own (ES (initSlots keys 13)) else iprop(emp)

/-- What the launch element deals device `c`. -/
def G (c : Dev nD) : sProp 𝕄 :=
  iprop((bigSep Finset.univ fun i : Fin 11 => roundState ER (Rd m) (kcell (c, i)) 0)
    ∗ (bigSep Finset.univ fun i : Fin 11 => atPos ER (kcell (c, i)) 0 ∅ 0) ∗ (bigSep Finset.univ fun i : Fin 11 => reached ER (kcell (c, i)) 0)
    ∗ toks c ∗ purse c)

theorem fund : iprop(BI.own (ER (initOf cells tokens)) ∗ BI.own (ES (initSlots keys 13))) ⊢ (|==> bigSep Finset.univ (G m) : sProp 𝕄) := by
  have hX (Φ : GSem nD τ sig → sProp 𝕄) : bigSep cells Φ = bigSep Finset.univ fun c : Dev nD => bigSep Finset.univ fun i : Fin 11 => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks c := by
    unfold tokens toks; rw [bigSep_map, bigSep_univ_prod]; rfl
  have hP : (BI.own (ES (initSlots keys 13)) : sProp 𝕄) ⊢ bigSep Finset.univ fun c : Dev nD => purse c := by
    rw [bigSep_univ_at _ (0 : Dev nD), show (bigSep (Finset.univ.erase (0 : Dev nD)) fun c : Dev nD => (purse c : sProp 𝕄)) = iprop(emp) from
      (BI.bigSep_congr fun c hc => if_neg (Finset.mem_erase.mp hc).1).trans (BI.bigSep_emp_const _)]
    iintro H
    isplitl [H]
    · unfold purse; rw [if_pos rfl]; iexact H
    · iempintro
  iintro ⟨HX, HS⟩
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := hP $$ HS
  unfold G; simp only [bigSep_sep']
  iframe

/-! ## The invariants of one device's cells -/

theorem core_alloc (c : Dev nD) :
    iprop(Pipeline.ownSems0 osem c ∗ unscopedSems0 c ∗ G m c)
      ⊢ |={Set.univ}=> iprop((bigSep Finset.univ fun i : Fin 11 => iprop(∃ κ : ℕ, cellInv ER (Rd m) κ (kcell (c, i))))
          ∗ (bigSep Finset.univ fun i : Fin 11 => reached ER (kcell (c, i)) 0)
          ∗ (kept c ∗ (mine c 0 ∗ mine c 1)) ∗ purse c) := by
  rw [ownSems_eq, unscopedSems_eq]
  unfold G
  iintro ⟨⟨Hs, Hi, He⟩, Hb, Hst, Hat, Hr, Ht, Hp⟩
  ihave Hv := (cell_sems (F := F) c) $$ [Hs Hb]
  · iframe
  imod (show iprop((bigSep Finset.univ fun i : Fin 11 => semVal (kcell (c, i)) 0) ∗ bigSep Finset.univ fun i : Fin 11 => roundState ER (Rd m) (kcell (c, i)) 0)
      ⊢ (|={Set.univ}=> bigSep Finset.univ fun i : Fin 11 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · iframe
  ihave Hat := (cell_poss (F := F) c) $$ Hat
  ihave Ht := (toks_mine (F := F) c) $$ Ht
  imodintro
  unfold kept
  iframe

/-! ## Round the ring -/

/-- What a device spends in direction `d`. -/
def spend (c : Dev nD) (d : Fin 2) : sProp 𝕄 :=
  iprop(dutyTok ER (barCell (frm d c)) 0 d.val ∗ tokB c d 0 ∗ sndR c d 0 ∗ writeTok ES (c, d, 0) 13)

/-- The ring, as a permutation of the devices. -/
def ring (d : Fin 2) : Dev nD ≃ Dev nD := ⟨nxt d, frm d, frm_nxt d, nxt_frm d⟩

theorem around (d : Fin 2) :
    (bigSep Finset.univ fun c : Dev nD => iprop(mine c d ∗ writes c d) : sProp 𝕄) ⊢ bigSep Finset.univ fun c : Dev nD => spend c d := by
  unfold mine writes spend tokB sndR
  have hs (c : Dev nD) : seq (sendRes (F := F) c d) 0 24
      = iprop(seq (fun t => dutyTok ER (sendCell d (sf t) c) (t / 2) 0) 0 24 ∗ seq (fun t => dutyTok ER (recvCell d (sf t) (nxt d c)) (t / 2) 0) 0 24
          ∗ seq (fun t => writeTok ES (nxt d c, d, sf t) (t / 2 + 1)) 0 24) := by
    unfold seq sendRes; rw [bigSep_sep', bigSep_sep']
  simp only [hs, bigSep_sep']
  rw [bigSep_univ_equiv (ring d).symm (fun c : Dev nD => (dutyTok ER (barCell c) 0 d.val : sProp 𝕄)),
    bigSep_univ_equiv (ring d).symm (fun c : Dev nD => (seq (fun u => dutyTok ER (creditCell d c) 0 u) 0 22 : sProp 𝕄)),
    bigSep_univ_equiv (ring d) (fun c : Dev nD => (seq (fun t => dutyTok ER (recvCell d (sf t) c) (t / 2) 0) 0 24 : sProp 𝕄)),
    bigSep_univ_equiv (ring d) (fun c : Dev nD => (seq (fun t => writeTok ES (c, d, sf t) (t / 2 + 1)) 0 24 : sProp 𝕄))]
  iintro ⟨⟨H1, H2, H3, H4⟩, H5, H6⟩
  isplitl [H1]; · iexact H1
  isplitl [H2]; · iexact H2
  isplitl [H3 H4 H5]
  · isplitl [H3]; · iexact H3
    isplitl [H4]; · iexact H4
    iexact H5
  iexact H6

/-! ## The global step -/

/-- The readers' side of direction `d`'s receive slots. -/
def reads (c : Dev nD) (d : Fin 2) : sProp 𝕄 := iprop(readerAt ES (c, d, 0) 0 ∗ readerAt ES (c, d, 1) 0)

/-- What every device knows, and what each starts with. -/
def recs (K : Names) : sProp 𝕄 :=
  iprop(bigSep Finset.univ (fun x : Dev nD × Fin 11 => iprop(cellInv ER (Rd m) (K.1 x) (cellOf x.1 x.2) ∗ reached ER (cellOf x.1 x.2) 0))
    ∗ bigSep Finset.univ (fun k : Key => slotInv ES (K.2 k) k (free k.1 (recvM k.2.1 k.2.2))))
instance recs_persistent (K : Names) : BI.Persistent (recs (F := F) m K) := by unfold recs; infer_instance

def dealt (c : Dev nD) : sProp 𝕄 :=
  iprop(kept c ∗ (spend c 0 ∗ spend c 1) ∗ (reads c 0 ∗ reads c 1))

def G' (c : Dev nD) : sProp 𝕄 := iprop(∃ K, recs m K ∗ dealt c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem readers_eq : (bigSep keys (fun k => readerAt ES k 0) : sProp 𝕄) = bigSep Finset.univ fun c : Dev nD => iprop(reads c 0 ∗ reads c 1) := by
  unfold keys; rw [bigSep_univ_prod]
  refine bigSep_congr fun c _ => ?_
  rw [bigSep_univ_prod, over2, over2, over2]; rfl

theorem glob :
    (bigSep Finset.univ fun c => iprop(Pipeline.ownSems0 osem c ∗ unscopedSems0 c ∗ G m c) : sProp 𝕄)
      ⊢ |={Set.univ}=> bigSep Finset.univ (G' m) := by
  have hp : (bigSep Finset.univ fun c : Dev nD => (purse c : sProp 𝕄)) ⊢ BI.own (ES (initSlots keys 13)) := by
    rw [bigSep_univ_at _ (0 : Dev nD)]
    unfold purse; rw [if_pos rfl]
    iintro ⟨H, -⟩; iexact H
  have hm : (bigSep Finset.univ fun c : Dev nD => iprop(mine c 0 ∗ mine c 1) : sProp 𝕄)
      = iprop((bigSep Finset.univ fun c : Dev nD => mine c 0) ∗ bigSep Finset.univ fun c : Dev nD => mine c 1) := bigSep_sep' _ _ _
  have hw : (bigSep Finset.univ fun c : Dev nD => iprop(writes c 0 ∗ writes c 1) : sProp 𝕄)
      = iprop((bigSep Finset.univ fun c : Dev nD => writes c 0) ∗ bigSep Finset.univ fun c : Dev nD => writes c 1) := bigSep_sep' _ _ _
  have hd : (bigSep Finset.univ fun c : Dev nD => dealt c : sProp 𝕄)
      = iprop((bigSep Finset.univ fun c : Dev nD => kept c)
        ∗ ((bigSep Finset.univ fun c : Dev nD => spend c 0) ∗ bigSep Finset.univ fun c : Dev nD => spend c 1)
        ∗ bigSep Finset.univ fun c : Dev nD => iprop(reads c 0 ∗ reads c 1)) := by
    unfold dealt
    rw [bigSep_sep' Finset.univ (fun c : Dev nD => (kept c : sProp 𝕄)), bigSep_sep' Finset.univ (fun c : Dev nD => iprop(spend (F := F) c 0 ∗ spend c 1)),
      bigSep_sep' Finset.univ (fun c : Dev nD => (spend c 0 : sProp 𝕄))]
  have ha (d : Fin 2) := around (F := F) d
  simp only [bigSep_sep'] at ha
  refine ((bigSep_mono fun c _ => core_alloc m c).trans (bigSep_fupd _ _)).trans (show _ ⊢ (_ : sProp 𝕄) from ?_)
  rw [bigSep_sep', bigSep_sep', bigSep_sep', bigSep_sep', hm, ← bigSep_univ_prod (fun x : Dev nD × Fin 11 => iprop(∃ κ : ℕ, cellInv ER (Rd m) κ (kcell x))),
    ← bigSep_univ_prod (fun x : Dev nD × Fin 11 => (reached ER (kcell x) 0 : sProp 𝕄))]
  iintro >⟨HI, #HR, ⟨Hown, Hm0, Hm1⟩, Hp⟩
  ihave HK := (BI.bigSep_exists_pi Finset.univ (fun (x : Dev nD × Fin 11) (κ : ℕ) => (cellInv ER (Rd m) κ (kcell x) : sProp 𝕄))) $$ HI
  icases HK with ⟨%K, #HI⟩
  ihave Hp := hp $$ Hp
  imod (slots_init ES keys 13 (fun k : Key => free (F := F) k.1 (recvM k.2.1 k.2.2)) ∅) $$ Hp with ⟨%κs, -, #HS, Hrd, Hw⟩
  imodintro
  ihave Hw := (writes_intro (F := F)) $$ Hw
  ihave Hw := (Entails.of_eq hw) $$ Hw
  icases Hw with ⟨Hw0, Hw1⟩
  ihave Hs0 := (ha 0) $$ [Hm0 Hw0]
  · iframe
  ihave Hs1 := (ha 1) $$ [Hm1 Hw1]
  · iframe
  ihave Hrd := (Entails.of_eq (readers_eq (F := F))) $$ Hrd
  iapply (with_persistent (R := recs m (K, κs)) (Φ := fun c : Dev nD => dealt c) fun c _ => show _ ⊢ G' m c from by
    unfold G'; iintro H; iexists (K, κs); iexact H)
  isplitr
  · unfold recs; rw [bigSep_sep']
    isplitl
    · isplitl; · iexact HI
      iexact HR
    iexact HS
  · iapply (Entails.of_eq hd.symm)
    iframe

end Cert.KernelIdeal.Exchange
-- ==== Proof.KernelIdealEntry.lean ====
/-
The run. What the launch gives each device is what its kernel starts from; the kernel's proof ends with the memory and
the semaphores the launch wants back. Then every execution of the four devices ends, with the operands unchanged, every
semaphore at zero and each block of the result at its computed contents.
-/
module

public import proofs.«01_k».proof.Proof.KernelIdealGlob

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

/-! ## The credits of the launch -/

theorem two_units (g : GSem nD τ sig) : iprop(cred (tallyAt g 1 1) ∗ cred (tallyAt g 1 1)) ⊢ (cred (tallyAt g 1 2) : sProp 𝕄) := by
  rw [show (tallyAt g 1 2 : CellTallies nD τ sig ℕ) = tallyAt g 1 1 + tallyAt g 1 1 from (tallyAt_add g 1 1 1).symm]
  exact (cred_add _ _).2

/-- The credit of the units one direction's arrivals and credits bring to device `c`. -/
theorem creds1 (c : Dev nD) (d : Fin 2) :
    (Pipeline.launchCred (fun e => owed1 e d 0 0) c : sProp 𝕄)
      ⊢ iprop(rcvC c d 0 ∗ seq (fun u => cred (tallyAt (creditCell d c) (2 * u + 3) 1)) 0 22) := by
  unfold owed1
  rw [Pipeline.launchCred_add, Pipeline.launchCred_sum, Pipeline.launchCred_sum]
  unfold rcvC seq
  refine BI.sep_mono (bigSep_mono fun t _ => ?_) (bigSep_mono fun u _ => ?_)
  · exact Pipeline.launchCred_tallyAt (.dma (recvS d (sf t))) (nxt d) (frm d) (nxt_frm d) (frm_nxt d) (2 * t + 2) N c
  · exact Pipeline.launchCred_tallyAt (.reg (creditS d)) (frm d) (nxt d) (frm_nxt d) (nxt_frm d) (2 * u + 3) 1 c

theorem creds (c : Dev nD) :
    (Pipeline.launchCred owedStart c : sProp 𝕄)
      ⊢ iprop(cred (tallyAt (barCell c) 1 2)
        ∗ (rcvC c 0 0 ∗ seq (fun u => cred (tallyAt (creditCell 0 c) (2 * u + 3) 1)) 0 22)
        ∗ (rcvC c 1 0 ∗ seq (fun u => cred (tallyAt (creditCell 1 c) (2 * u + 3) 1)) 0 22)) := by
  have h1 (c : Dev nD) : nxt 0 (frm 0 c) = c := nxt_frm 0 c
  have e : (owedStart : Dev nD → CellTallies nD τ sig ℕ) = fun e => ((fun e => (fun e => owed1 e 0 0 0) e + (fun e => owed1 e 1 0 0) e) e
      + (fun e => tallyAt (barCell (nxt 0 e)) 1 1) e) + (fun e => tallyAt (barCell (nxt 1 e)) 1 1) e := rfl
  rw [e, Pipeline.launchCred_add, Pipeline.launchCred_add, Pipeline.launchCred_add]
  iintro ⟨⟨⟨H0, H1⟩, B0⟩, B1⟩
  ihave B0 := (Pipeline.launchCred_tallyAt (.reg barS) (nxt 0) (frm 0) (nxt_frm 0) (frm_nxt 0) 1 1 c) $$ B0
  ihave B1 := (Pipeline.launchCred_tallyAt (.reg barS) (nxt 1) (frm 1) (nxt_frm 1) (frm_nxt 1) 1 1 c) $$ B1
  isplitl [B0 B1]
  · iapply (two_units (F := F) (barCell c)); iframe
  isplitl [H0]
  · iapply (creds1 (F := F) c 0) $$ H0
  · iapply (creds1 (F := F) c 1) $$ H1

/-! ## What the kernel starts from -/

variable (K : Names)

/-- A receive slot's reader hands the slot over for the first write. -/
theorem release_first (c : Dev nD) (d s : Fin 2) :
    iprop(ctx m K ∗ readerAt ES (c, d, s) 0 ∗ free c (recvM d s)) ⊢ |={Set.univ}=> iprop(readerAt ES (c, d, s) 1 ∗ fact c d s 0) := by
  iintro ⟨#HC, Hr, Hf⟩
  ihave #Hsl := (ctx_slot m K c d s) $$ HC
  ihave #Hc := (ctx_cell m K c (iRecv d s) (cellOf_recv c d s)) $$ HC
  icases Hc with ⟨-, #Hc⟩
  imod (slot_release ES (Set.mem_univ (K.2 (c, d, s))) (free_twice (F := F) c d s) 0) $$ [Hr Hf] with ⟨Hr, Hl⟩
  · isplitr; · iexact Hsl
    isplitl [Hr]; · iexact Hr
    iexact Hf
  imodintro
  unfold fact
  isplitl [Hr]; · iexact Hr
  isplitl [Hl]; · iexact Hl
  iexact Hc

theorem first_intro (c : Dev nD) (d : Fin 2) :
    iprop(ctx m K ∗ poss c d ∗ idle c d ∗ spend c d ∗ reads c d
        ∗ (rcvC c d 0 ∗ seq (fun u => cred (tallyAt (creditCell d c) (2 * u + 3) 1)) 0 22) ∗ slots c d ∗ xparts m c d)
      ⊢ |={Set.univ}=> iprop(first m c d ∗ dutyTok ER (barCell (frm d c)) 0 d.val) := by
  unfold poss idle spend reads slots xparts
  iintro ⟨#HC, ⟨⟨Hs0, Hs1⟩, ⟨Hv0, Hv1⟩, Hcr⟩, ⟨⟨Hc0, Hc1⟩, Hpx⟩, ⟨Hbar, Htok, Hsnd, Hw⟩, ⟨Hr0, Hr1⟩, ⟨Hrc, Hcc⟩,
    ⟨⟨Ha0, Ha1, Ha2, Ha3⟩, ⟨Hf0, Hf1⟩, ⟨Hx0, Hx1⟩, Hp⟩, Ht0, Ht1, Ht2⟩
  imod (release_first m K c d 0) $$ [Hr0 Hf0] with ⟨Hr0, Hg0⟩
  · iframe HC Hr0 Hf0
  imod (release_first m K c d 1) $$ [Hr1 Hf1] with ⟨Hr1, Hg1⟩
  · iframe HC Hr1 Hf1
  imodintro
  ihave #Hi0 := (ctx_cell m K c (iSend d 0) (cellOf_send c d 0)) $$ HC
  icases Hi0 with ⟨-, #Hi0⟩
  ihave #Hi1 := (ctx_cell m K c (iSend d 1) (cellOf_send c d 1)) $$ HC
  icases Hi1 with ⟨-, #Hi1⟩
  have hcp : (atPos ER (creditCell d c) 0 ∅ 0 : sProp 𝕄) ⊢ creditPos m c d 0 := by
    unfold creditPos
    rw [if_neg (by decide)]
    iintro H
    iexists (∅ : Finset ℕ)
    rw [bigSep_empty]
    isplitr; · ipureintro; exact ⟨Finset.empty_subset _, Nat.zero_le _⟩
    isplitl [H]; · iexact H
    iempintro
  ihave Hcr := hcp $$ Hcr
  have hf : iprop(((free c (accM d 0) ∗ free c (accM d 1) ∗ free c (accM d 2) ∗ free c (accM d 3))
    ∗ (sndR c d 0 ∗ emp ∗ ((atPos ER (sendCell d 0 c) 0 ∅ 0 ∗ reached ER (sendCell d 0 c) 0) ∗ atPos ER (sendCell d 1 c) 0 ∅ 0 ∗ reached ER (sendCell d 1 c) 0)
      ∗ (seq (fun u => cred (tallyAt (creditCell d c) (2 * u + 3) 1)) 0 22 ∗ creditPos m c d 0) ∗ rcvC c d 0
      ∗ ((readerAt ES (c, d, 0) 1 ∗ atPos ER (recvCell d 0 c) 0 ∅ 0 ∗ fact c d 0 0) ∗ readerAt ES (c, d, 1) 1 ∗ atPos ER (recvCell d 1 c) 0 ∅ 0 ∗ fact c d 1 0)
      ∗ tokB c d 0
      ∗ emp ∗ (semVal ((c : Thread nD τ), SemLoc.dma (cxS d 0)) 0 ∗ free c (cxM d 0) ∗ xtok m c (2 + 2 * d.val))
        ∗ semVal ((c : Thread nD τ), SemLoc.dma (cxS d 1)) 0 ∗ free c (cxM d 1) ∗ xtok m c (2 + 2 * d.val + 1))
    ∗ (free c (pxM d) ∗ xtok m c d.val ∗ semVal ((c : Thread nD τ), SemLoc.dma (pxS d)) 0) ∗ writeTok ES (c, d, 0) 13)
    ∗ dutyTok ER (barCell (frm d c)) 0 d.val)
      ⊢ (iprop(first m c d ∗ dutyTok ER (barCell (frm d c)) 0 d.val) : sProp 𝕄) := by
    unfold first pre accB sndC sndP crdB rcvP cxB pxFree
    rw [← seq_of_fin 4, over4]
    rw [seq_nil _ (le_refl 0), seq_nil _ (le_refl 0), seq_two, seq_two, seq_two]
    have ha (t : ℕ) (h : t < 4) : accRes m c d 0 t = free c (accM d (jf t)) := if_neg (by omega)
    rw [show accRes m c d 0 (0 : Fin 4).val = free c (accM d 0) from ha 0 (by decide), show accRes m c d 0 (1 : Fin 4).val = free c (accM d 1) from ha 1 (by decide),
      show accRes m c d 0 (2 : Fin 4).val = free c (accM d 2) from ha 2 (by decide), show accRes m c d 0 (3 : Fin 4).val = free c (accM d 3) from ha 3 (by decide)]
    exact Entails.rfl
  iapply hf
  iframe Hi0 Hi1
  iframe

end Cert.KernelIdeal.Exchange
-- ==== Proof.KernelIdealRun.lean ====
/-
The run. The kernel's proof, started from what the launch gives each device, ends with the memory and the semaphores the
launch wants back. So every execution of the four devices ends, with the operands unchanged, every semaphore at zero and
each block of the result at its computed contents.
-/
module

public import Idealize.ShloMosaic.Lib.Pipeline.CollectiveSegs
public import proofs.«01_k».proof.Proof.KernelIdealEntry

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Transfers

variable {F : FTy → Type} [FloatOps F]

local notation "𝕄" => MT nD τ sig ℕ (Elt F) ℕ UU ℕ

variable (m : (ℓ : Loc nD τ sig) → Buf (Elt F) ℓ)

variable (ρ : Dev nD → PrngReg)

/-! ## What a device starts from and ends with -/

/-- The launch's ghost state, the credits, the levels and the arrays. -/
def given (c : Dev nD) : sProp 𝕄 :=
  iprop(G' m c ∗ (cred (tallyAt (barCell c) 1 2)
        ∗ (rcvC c 0 0 ∗ seq (fun u => cred (tallyAt (creditCell 0 c) (2 * u + 3) 1)) 0 22)
        ∗ (rcvC c 1 0 ∗ seq (fun u => cred (tallyAt (creditCell 1 c) (2 * u + 3) 1)) 0 22))
    ∗ levAts L lv ∗ (((c : Thread nD τ).loc main_arg0) ↦{fullShare} m ((c : Thread nD τ).loc main_arg0))
    ∗ (((c : Thread nD τ).loc main_arg1) ↦{fullShare} m ((c : Thread nD τ).loc main_arg1))
    ∗ ∃ f : Buf (Elt F) ((c : Thread nD τ).loc main_v1), ((c : Thread nD τ).loc main_v1) ↦{fullShare} f)

def Φ₀ (c : Dev nD) : sProp 𝕄 := iprop(given m c ∗ Pipeline.scopedRest cfg0.spec c)
def Φ₁ (c : Dev nD) : sProp 𝕄 := done m c

def dats (_ : Fin 1) (c : Dev nD) : Pipeline.Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedStart c
    | ⟨_ + 1, _⟩ => 0

theorem ctx_intro (K : Names) : iprop(levAts L lv ∗ recs (F := F) m K) ⊢ ctx m K := by unfold ctx recs; exact Entails.rfl

theorem start_of (c : Dev nD) : Φ₀ m c ⊢ |={Set.univ}=> (iprop(∃ K, ctx m K ∗ start m c) : sProp 𝕄) := by
  unfold Φ₀ given G' dealt kept ends
  rw [scratch_eq, operand_eq]
  iintro ⟨⟨⟨%K, #HR, ⟨⟨⟨Hp0, Hp1⟩, Hat⟩, ⟨Hi0, Hi1⟩, Hw, Hout⟩, ⟨Hs0, Hs1⟩, Hr0, Hr1⟩, ⟨Hbc, Hc0, Hc1⟩, #HL, ⟨-, Hx0, Hx1⟩, Hwa, %f, Hv⟩, Hscr, Hsl0, Hsl1⟩
  ihave #HC := (ctx_intro m K) $$ []
  · isplitl; · iexact HL
    iexact HR
  imod (first_intro m K c 0) $$ [Hp0 Hi0 Hs0 Hr0 Hc0 Hsl0 Hx0] with ⟨H0, Hd0⟩
  · iframe HC; iframe
  imod (first_intro m K c 1) $$ [Hp1 Hi1 Hs1 Hr1 Hc1 Hsl1 Hx1] with ⟨H1, Hd1⟩
  · iframe HC; iframe
  imodintro
  iexists K
  isplitr; · iexact HC
  unfold start shake outP
  isplitl [H0]; · iexact H0
  isplitl [H1]; · iexact H1
  isplitl [Hbc Hat Hd0 Hd1]
  · isplitl [Hbc]; · iexact Hbc
    isplitl [Hat]; · iexact Hat
    isplitl [Hd0]; · iexact Hd0
    iexact Hd1
  isplitl [Hwa]; · iexact Hwa
  isplitl [Hscr]; · iexact Hscr
  isplitl [Hw]; · iexact Hw
  isplitl [Hv]
  · iexists f
    isplitl [Hv]; · iexact Hv
    ipureintro; intro d t _ h; exact absurd h (Nat.not_lt_zero _)
  iexact Hout

/-! ## The library's body obligation -/

theorem body_obligation (c : Dev nD) : Pipeline.BodyObligation (dats (F := F) m 0 c) (defs₀ (F := F)) 𝒱₀ 0 Set.univ := fun t => by
  rw [fin_N0 t]
  show iprop(Φ₀ m c ∗ (dats m 0 c).owesAt 0 t0_0.castSucc ∗ emp) ⊢ WP c (cc0_body (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
    (fun _ => iprop(Φ₁ m c ∗ (dats m 0 c).owesAt 0 t0_0.succ ∗ emp))
  unfold Pipeline.Dat.owesAt Pipeline.owesWithin
  rw [show (dats m 0 c).owed t0_0.castSucc = owedStart c from rfl, show (dats m 0 c).owed t0_0.succ = 0 from rfl]
  iintro ⟨H, ⟨%W, -, HO⟩, -⟩
  imod (start_of m c) $$ H with ⟨%K, #HC, Hs⟩
  iapply (wp_mono frame (wpE (defs₀ (F := F)) 𝒱₀ (c : Thread nD τ) none) Set.univ (fun _ => show iprop(done m c ∗ owesAt c 0) ⊢ _ from by
    unfold owesAt Φ₁
    iintro ⟨H, %W', HO⟩
    isplitl [H]; · iexact H
    isplitl [HO]
    · iexists W'
      isplitr; · ipureintro; exact fun _ _ => Or.inl trivial
      iexact HO
    iempintro))
  iapply (body_wp m K c)
  isplitr; · iexact HC
  isplitl [Hs]; · iexact Hs
  unfold owesAt
  iexists W; iexact HO

/-! ## The launch's side conditions -/

theorem given_intro (c : Dev nD) :
    iprop(Pipeline.unscopedRestP Pipeline.Prefetch.none cfg0.spec c (fun b => m ((c : Thread nD τ).loc b)) ∗ levAts L lv
        ∗ Pipeline.launchCred owedStart c ∗ prngReg c (ρ c) ∗ G' m c)
      ⊢ |={Set.univ}=> (iprop(given m c ∗ emp) : sProp 𝕄) := by
  rw [Pipeline.unscopedRestP_none, unscopedRest0_eq]
  iintro ⟨⟨H0, H1, H2⟩, Hlev, Hcr, -, HG⟩
  ihave Hc := (creds (F := F) c) $$ Hcr
  imodintro
  unfold given
  isplitl
  · isplitl [HG]; · iexact HG
    isplitl [Hc]; · iexact Hc
    isplitl [Hlev]; · iexact Hlev
    isplitl [H0]; · iexact H0
    isplitl [H1]; · iexact H1
    iexists _; iexact H2
  · iempintro

theorem phi0_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  iframe

/-- The result array once every block is written. -/
def written (c : Dev nD) (f : Buf (Elt F) ((c : Thread nD τ).loc main_v1)) : Prop :=
  ∀ d t, 8 ≤ t → t < 24 → (oM d (home c d t) (jf t)).view.read (Elt F) f = outV m d (home c d t) (jf t)

/-- What a device shows at the end. -/
def shown (c : Dev nD) : sProp 𝕄 :=
  iprop(unscopedSems0 c ∗ xtok m c 0 ∗ (((c : Thread nD τ).loc main_arg1) ↦{fullShare} m ((c : Thread nD τ).loc main_arg1))
    ∗ ∃ f : Buf (Elt F) ((c : Thread nD τ).loc main_v1), (((c : Thread nD τ).loc main_v1) ↦{fullShare} f) ∗ ⌜written m c f⌝)

theorem phi1_exit (c : Dev nD) :
    (dats m 0 c).Φ (Fin.last cfg0.N) ⊢ (iprop(shown m c ∗ Pipeline.ownSems0 osem c ∗ Pipeline.scopedRest cfg0.spec c) : sProp 𝕄) := by
  rw [show (dats m 0 c).Φ (Fin.last cfg0.N) = done m c from rfl, scratch_eq, ownSems_eq]
  unfold shown done back outP
  rw [unscopedSems_eq]
  have hw : (owns (c : Thread nD τ) wvM fullShare (wAll m c) : sProp 𝕄)
      ⊢ iprop(∃ f : Buf (Elt F) ((c : Thread nD τ).loc cc0_scratch0), ((c : Thread nD τ).loc cc0_scratch0) ↦{fullShare} f) := by
    rw [owns_whole]; iintro H; iexists _; iexact H
  iintro ⟨⟨Ha0, Hr0, Hc0, Hp0, ⟨Hx, -, -⟩, Hs0, Hv0, Hq0, Hz0, Hd0⟩, ⟨Ha1, Hr1, Hc1, Hp1, -, Hs1, Hv1, Hq1, Hz1, Hd1⟩, Hb, Hw, Hwv, Hws, ⟨%f, Hf, %hf⟩, Hout⟩
  ihave Hwv := hw $$ Hwv
  isplitl [Hb Hx Hw Hf]
  · isplitl [Hb]; · iexact Hb
    isplitl [Hx]; · iexact Hx
    isplitl [Hw]; · iexact Hw
    iexists f
    isplitl [Hf]; · iexact Hf
    ipureintro; exact fun d t h1 h2 => hf d t h1 h2 h2
  unfold sems idle ends slots
  iframe

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ written m c (s.mem ((c : Thread nD τ).loc main_v1))

/-- A points-to read against the machine. -/
theorem read_mem (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

theorem shown_read (c : Dev nD) (s' : Phys nD τ sig (Elt F)) :
    iprop(shown m c ∗ iprop(emp) ∗ SI s') ⊢ |={Set.univ}=> (iprop(⌜QY m c s'.mem⌝ ∗ SI s') : sProp 𝕄) := by
  unfold shown xtok
  iintro ⟨⟨Hu, H0, H1, %f, H2, %hf⟩, -, HSI⟩
  ihave H := (read_mem (F := F) _ _ _ s') $$ [H0 HSI]
  · isplitl [H0] <;> iassumption
  icases H with ⟨%h0, HSI⟩
  ihave H := (read_mem (F := F) _ _ _ s') $$ [H1 HSI]
  · isplitl [H1] <;> iassumption
  icases H with ⟨%h1, HSI⟩
  ihave H := (read_mem (F := F) _ _ _ s') $$ [H2 HSI]
  · isplitl [H2] <;> iassumption
  icases H with ⟨%h2, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, h0, h1, by rw [h2]; exact hf⟩
  iexact HSI

theorem waits (c : Dev nD) : (levAts L lv : sProp 𝕄) ⊢ Pipeline.cellsWaits cfgs (dats m) 0 0 c :=
  Pipeline.cellsWaits_intro cfgs (dats m) 0 0 c fun w s t => w.elim0

/-! ## The run -/

set_option maxRecDepth 8000 in
/-- Every execution of the four devices ends; the operands are unchanged, the blocks of the result are the computed ones
    and every semaphore is at zero. -/
theorem run_main : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ written m c (r.2.mem ((c : Thread nD τ).loc main_v1)))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owedStart) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HE, HX⟩
      ihave HX := (own_pair_emb ((Emb.inr : Emb UC (UB × UC)).trans embR) _ _) $$ HX
      icases HX with ⟨HS, -⟩
      imod (fund m) $$ [HE HS] with HG
      · isplitl [HE]; · iexact HE
        iexact HS
      imodintro
      isplitl [HP] <;> iassumption)
    (hglob := glob m)
    (hA := fun _ w => w.elim0) (hpf := fun _ k => k.elim0)
    (X := given m) (Y := shown m) (Z := fun _ => iprop(emp))
    (hX := given_intro m ρ) (hin := phi0_intro m) (hout := phi1_exit m)
    (QY := QY m)
    (hY := shown_read m)
    (hQ := fun _ h hs => ⟨fun c => (h c).2.2.2, sem_eq_zero hs fun c => (h c).2.2.1⟩)

end Cert.KernelIdeal.Exchange
-- ==== Proof.Value.lean ====
/-
The blocks that the kernel leaves, read over the reals. A block's element is the sum over the four devices of the products
of a row of their columns of `x` with a column of their rows of `w_mat`, cut off below at zero; added up, the four sums
are the sum of the reference's product, for the columns and rows are cut in the same four parts.
-/
module

public import proofs.«01_k».proof.Proof.KernelIdealRun
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.Exchange

open Cert.KernelIdeal Cert.KernelIdeal.Gen

open Idealize.ShloMosaic Idealize.ShloMosaic.ValueIdx
open Idealize.ShloMosaic.TcCoe
open scoped BigOperators

variable (m : (ℓ : Loc nD τ sig) → Buf (Elt Ideal) ℓ)

/-! ## Where a block's elements are -/

def rowAt (q : Dev nD) (j : Fin 4) (r : Fin 512) : Fin 8192 := ⟨2048 * q.val + 512 * j.val + r.val, by
  have : q.val < 4 := q.isLt
  omega⟩
def colAt (d : Fin 2) (l : Fin 2048) : Fin 4096 := ⟨2048 * d.val + l.val, by omega⟩

theorem row_split (R : Fin 8192) : ∃ q j r, R = rowAt q j r :=
  ⟨(⟨R.val / 2048, by show _ < 4; omega⟩ : Fin 4), ⟨R.val % 2048 / 512, by omega⟩, ⟨R.val % 512, by omega⟩, Fin.ext (by unfold rowAt; dsimp only; omega)⟩
theorem col_split (C : Fin 4096) : ∃ d l, C = colAt d l :=
  ⟨⟨C.val / 2048, by omega⟩, ⟨C.val % 2048, by omega⟩, Fin.ext (by unfold colAt; dsimp only; omega)⟩

/-- Each device's share of the operands, as matrices. -/
def xs (p : Dev nD) : (⟨2, ![8192, 2048]⟩ : Shape).Idx → EReal := m ((p : Thread nD τ).loc main_arg0)
def ws (p : Dev nD) : (⟨2, ![2048, 4096]⟩ : Shape).Idx → EReal := m ((p : Thread nD τ).loc main_arg1)

/-- Device `p`'s term of the result's element. -/
def term (R : Fin 8192) (C : Fin 4096) (p : Dev nD) : EReal := ∑ k : Fin 2048, xs m p (ix2 R k) * ws m p (ix2 k C)

theorem xblk_apply (c q : Dev nD) (j : Fin 4) (r : Fin 512) (k : Fin 2048) :
    xblk m c q j (ix2 r k) = xs m c (ix2 (rowAt q j r) k) := by
  unfold xblk xs
  rw [View.read_apply]
  refine congrArg (m ((c : Thread nD τ).loc main_arg0)) (funext fun a => Fin.ext ?_)
  match a with
  | ⟨0, _⟩ =>
    show 2048 * q.val + 512 * j.val + 1 * r.val = 2048 * q.val + 512 * j.val + r.val
    omega
  | ⟨1, _⟩ =>
    show 0 + 1 * k.val = k.val
    omega

theorem wHalf_apply (c : Dev nD) (d : Fin 2) (k l : Fin 2048) : wHalf m c d (ix2 k l) = ws m c (ix2 k (colAt d l)) := by
  unfold wHalf wAll ws
  rw [View.readAt_apply, View.read_apply]
  refine congrArg (m ((c : Thread nD τ).loc main_arg1)) (funext fun a => Fin.ext ?_)
  match a with
  | ⟨0, _⟩ =>
    show 0 + 1 * k.val = k.val
    omega
  | ⟨1, _⟩ =>
    show 2048 * d.val + 1 * l.val = 2048 * d.val + l.val
    omega

/-! ## The operations read at an index -/

theorem prodV_apply (x : FVec Ideal S512x2048 .bf16) (w : FVec Ideal S2048x2048 .bf16) (r : Fin 512) (l : Fin 2048) :
    prodV x w (ix2 r l) = ∑ k : Fin 2048, x (ix2 r k) * w (ix2 k l) := by
  refine (Ideal.matmul_plain_apply (M := 512) (K := 2048) (N := 2048) none x w _ r l).trans ?_
  rw [show constant (F := Ideal) S512x2048 .f32 0x00000000#32 (ix2 r l) = (0 : EReal) from Ideal.ofBits_zero_f32, zero_add]

theorem fullV_apply (x : FVec Ideal S512x2048 .bf16) (w : FVec Ideal S2048x4096 .bf16) (r : Fin 512) (C : Fin 4096) :
    fullV x w (ix2 r C) = ∑ k : Fin 2048, x (ix2 r k) * w (ix2 k C) := by
  refine (Ideal.matmul_plain_apply (M := 512) (K := 2048) (N := 4096) none x w _ r C).trans ?_
  rw [show constant (F := Ideal) S512x4096 .f32 0x00000000#32 (ix2 r C) = (0 : EReal) from Ideal.ofBits_zero_f32, zero_add]

theorem halfV_apply (d : Fin 2) (v : FVec Ideal S512x4096 .f32) (r : Fin 512) (l : Fin 2048) :
    halfV d v (ix2 r l) = v (ix2 r (colAt d l)) := by
  match d with
  | 0 =>
    refine extractStridedSlice_apply _ v slices_S512x4096_o0_0_S512x2048 _ _ fun a => ?_
    match a with
    | ⟨0, _⟩ => show r.val = 0 + r.val; omega
    | ⟨1, _⟩ => show 2048 * 0 + l.val = 0 + l.val; omega
  | 1 =>
    refine extractStridedSlice_apply _ v slices_S512x4096_o0_2048_S512x2048 _ _ fun a => ?_
    match a with
    | ⟨0, _⟩ => show r.val = 0 + r.val; omega
    | ⟨1, _⟩ => show 2048 * 1 + l.val = 2048 + l.val; omega

theorem product_term (c q : Dev nD) (d : Fin 2) (j : Fin 4) (r : Fin 512) (l : Fin 2048) :
    prodV (xblk m c q j) (wHalf m c d) (ix2 r l) = term m (rowAt q j r) (colAt d l) c := by
  rw [prodV_apply]
  exact Finset.sum_congr rfl fun k _ => by rw [xblk_apply, wHalf_apply]

theorem half_term (c q : Dev nD) (d : Fin 2) (j : Fin 4) (r : Fin 512) (l : Fin 2048) :
    halfV d (fullV (xblk m c q j) (wAll m c)) (ix2 r l) = term m (rowAt q j r) (colAt d l) c := by
  rw [halfV_apply, fullV_apply]
  exact Finset.sum_congr rfl fun k _ => by rw [xblk_apply]; rfl

theorem addV_apply (p : FVec Ideal S512x2048 .f32) (v : FVec Ideal S512x2048 .bf16) (e : S512x2048.Idx) :
    rndV (addV p v) e = (p e + v e : EReal) := rfl
theorem reluV_apply (p : FVec Ideal S512x2048 .f32) (v : FVec Ideal S512x2048 .bf16) (e : S512x2048.Idx) :
    rndV (reluV (addV p v)) e = max (p e + v e : EReal) 0 :=
  congrArg (max (p e + v e : EReal)) Ideal.ofBits_zero_f32

/-! ## A block of the result -/

theorem sval0 (c : Dev nD) (d : Fin 2) (j : Fin 4) (r : Fin 512) (l : Fin 2048) :
    sval m 0 c d j (ix2 r l) = term m (rowAt (frm d c) j r) (colAt d l) c := product_term m c (frm d c) d j r l

theorem sval1 (c : Dev nD) (d : Fin 2) (j : Fin 4) (r : Fin 512) (l : Fin 2048) :
    sval m 1 c d j (ix2 r l)
      = term m (rowAt (hop 2 c) j r) (colAt d l) c + term m (rowAt (hop 2 c) j r) (colAt d l) (frm d c) := by
  conv_lhs => rw [sval]
  rw [addV_apply, half_term, sval0, show frm d (frm d c) = hop 2 c by revert c d; decide]

theorem sval2 (c : Dev nD) (d : Fin 2) (j : Fin 4) (r : Fin 512) (l : Fin 2048) :
    sval m 2 c d j (ix2 r l)
      = term m (rowAt (qtr d 2 c) j r) (colAt d l) c + (term m (rowAt (qtr d 2 c) j r) (colAt d l) (frm d c)
          + term m (rowAt (qtr d 2 c) j r) (colAt d l) (frm d (frm d c))) := by
  conv_lhs => rw [sval]
  rw [addV_apply, product_term, sval1, show hop 2 (frm d c) = qtr d 2 c by revert c d; decide]

theorem sum_around (f : Dev nD → EReal) (c : Dev nD) (d : Fin 2) :
    f c + (f (frm d c) + (f (frm d (frm d c)) + f (frm d (frm d (frm d c))))) = ∑ p : Dev nD, f p := by
  have hu : (Finset.univ : Finset (Dev nD)) = {c, frm d c, frm d (frm d c), frm d (frm d (frm d c))} := by
    clear f; revert c d; decide
  have h1 : c ∉ ({frm d c, frm d (frm d c), frm d (frm d (frm d c))} : Finset (Dev nD)) := by clear hu f; revert c d; decide
  have h2 : frm d c ∉ ({frm d (frm d c), frm d (frm d (frm d c))} : Finset (Dev nD)) := by clear hu h1 f; revert c d; decide
  have h3 : frm d (frm d c) ∉ ({frm d (frm d (frm d c))} : Finset (Dev nD)) := by clear hu h1 h2 f; revert c d; decide
  rw [hu, Finset.sum_insert h1, Finset.sum_insert h2, Finset.sum_insert h3, Finset.sum_singleton]

theorem outV_apply (q : Dev nD) (d : Fin 2) (j : Fin 4) (r : Fin 512) (l : Fin 2048) :
    outV m d q j (ix2 r l) = max (∑ p : Dev nD, term m (rowAt q j r) (colAt d l) p) 0 := by
  unfold outV
  conv_lhs => rw [sval]
  rw [reluV_apply, half_term, sval2, show qtr d 2 (frm d q) = q by revert q d; decide, sum_around]

/-! ## The result array -/

theorem place (c q : Dev nD) (d : Fin 2) (j : Fin 4) : ∃ t, 8 ≤ t ∧ t < 24 ∧ home c d t = q ∧ jf t = j := by
  have h : ∀ (c q : Fin 4) (d : Fin 2) (j : Fin 4), ∃ t : Fin 24, 8 ≤ t.val ∧ home c d t.val = q ∧ jf t.val = j := by decide
  obtain ⟨t, h1, h2, h3⟩ := h c q d j
  exact ⟨t.val, h1, t.isLt, h2, h3⟩

theorem written_apply (c : Dev nD) (f : Buf (Elt Ideal) ((c : Thread nD τ).loc main_v1)) (hf : written m c f) (R : Fin 8192) (C : Fin 4096) :
    (f : (⟨2, ![8192, 4096]⟩ : Shape).Idx → EReal) (ix2 R C) = max (∑ p : Dev nD, term m R C p) 0 := by
  obtain ⟨q, j, r, rfl⟩ := row_split R
  obtain ⟨d, l, rfl⟩ := col_split C
  obtain ⟨t, h1, h2, h3, h4⟩ := place c q d j
  have h := hf d t h1 h2
  rw [h3, h4] at h
  rw [← outV_apply, ← h, View.read_apply]
  refine congrArg f (funext fun a => Fin.ext ?_)
  match a with
  | ⟨0, _⟩ =>
    show 2048 * q.val + 512 * j.val + r.val = 2048 * q.val + 512 * j.val + 1 * r.val
    omega
  | ⟨1, _⟩ =>
    show 2048 * d.val + l.val = 2048 * d.val + 1 * l.val
    omega

/-! ## The reference's result -/

/-- The reference's result of whole operands `X` and `W`. -/
def result (X : FVec Ideal ⟨2, ![8192, 8192]⟩ .bf16) (W : FVec Ideal ⟨2, ![8192, 4096]⟩ .bf16) : FVec Ideal ⟨2, ![8192, 4096]⟩ .bf16 :=
  truncf .bf16 (maximumf (extf .f32 (truncf .bf16 (Host.dotGeneral ReferenceIdeal.dot_S8192x8192_S8192x4096_S8192x4096_1_0_0_1_n_n none X W)
    ReferenceIdeal.Gen.bitsLt_bf16_f32) ReferenceIdeal.Gen.bitsLt_bf16_f32)
    (broadcastInDim ReferenceIdeal.S8192x4096 ![] ReferenceIdeal.Gen.bcast_S_S8192x4096 (constant ReferenceIdeal.S_ .f32 0x00000000#32)))
    ReferenceIdeal.Gen.bitsLt_bf16_f32

theorem result_apply (X : FVec Ideal ⟨2, ![8192, 8192]⟩ .bf16) (W : FVec Ideal ⟨2, ![8192, 4096]⟩ .bf16) (R : Fin 8192) (C : Fin 4096) :
    result X W (ix2 R C) = max (∑ k : Fin 8192, (X (ix2 R k) * W (ix2 k C) : EReal)) 0 := by
  have h := StackMember.dotGeneral_plain_apply (m := 8192) (k := 8192) (n := 4096) none X W R C
  have h0 : broadcastInDim ReferenceIdeal.S8192x4096 ![] ReferenceIdeal.Gen.bcast_S_S8192x4096
      (constant (F := Ideal) ReferenceIdeal.S_ .f32 0x00000000#32) (ix2 R C) = (0 : EReal) := Ideal.ofBits_zero_f32
  have e : result X W (ix2 R C) = max (Host.dotGeneral (DotDims.plain 8192 8192 4096) none X W (ix2 R C) : EReal)
      (broadcastInDim ReferenceIdeal.S8192x4096 ![] ReferenceIdeal.Gen.bcast_S_S8192x4096
        (constant (F := Ideal) ReferenceIdeal.S_ .f32 0x00000000#32) (ix2 R C)) := rfl
  exact e.trans (congrArg₂ (fun s t : EReal => max s t) h h0)

/-- A sum over the contracted coordinate is the sum over the devices of the sums over their parts. -/
theorem sum_parts {a b n : ℕ} (hn : n = a * b) (g : Fin n → EReal) (f : Fin a → Fin b → EReal)
    (h : ∀ (p : Fin a) (k : Fin b) (K : Fin n), K.val = p.val * b + k.val → f p k = g K) :
    ∑ p, ∑ k, f p k = ∑ K, g K := by
  subst hn
  refine (Fintype.sum_prod_type' f).symm.trans ?_
  refine Fintype.sum_equiv finProdFinEquiv _ _ fun x => ?_
  exact h x.1 x.2 _ (by rw [finProdFinEquiv_apply_val, Nat.mul_comm b, Nat.add_comm])

theorem whole_sum (X : FVec Ideal ⟨2, ![8192, 8192]⟩ .bf16) (W : FVec Ideal ⟨2, ![8192, 4096]⟩ .bf16)
    (hX : ∀ c : Dev nD, m ((c : Thread nD τ).loc main_arg0) = Layout.block ⟨2, ![8192, 2048]⟩ ⟨2, ![8192, 8192]⟩ 1 4 c X)
    (hW : ∀ c : Dev nD, m ((c : Thread nD τ).loc main_arg1) = Layout.block ⟨2, ![2048, 4096]⟩ ⟨2, ![8192, 4096]⟩ 0 4 c W)
    (R : Fin 8192) (C : Fin 4096) : ∑ p : Dev nD, term m R C p = ∑ k : Fin 8192, (X (ix2 R k) * W (ix2 k C) : EReal) := by
  refine sum_parts (a := 4) (b := 2048) rfl _ _ fun p k K hK => ?_
  have hx : xs m p (ix2 R k) = X (ix2 R K) := by
    unfold xs
    rw [hX p]
    refine congrArg X (funext fun a => Fin.ext ?_)
    match a with
    | ⟨0, _⟩ => rfl
    | ⟨1, _⟩ => exact hK.symm
  have hw : ws m p (ix2 k C) = W (ix2 K C) := by
    unfold ws
    rw [hW p]
    refine congrArg W (funext fun a => Fin.ext ?_)
    match a with
    | ⟨0, _⟩ => exact hK.symm
    | ⟨1, _⟩ => rfl
  rw [hx, hw]

/-- Every device's result array is the reference's result. -/
theorem written_result (X : FVec Ideal ⟨2, ![8192, 8192]⟩ .bf16) (W : FVec Ideal ⟨2, ![8192, 4096]⟩ .bf16)
    (hX : ∀ c : Dev nD, m ((c : Thread nD τ).loc main_arg0) = Layout.block ⟨2, ![8192, 2048]⟩ ⟨2, ![8192, 8192]⟩ 1 4 c X)
    (hW : ∀ c : Dev nD, m ((c : Thread nD τ).loc main_arg1) = Layout.block ⟨2, ![2048, 4096]⟩ ⟨2, ![8192, 4096]⟩ 0 4 c W)
    (c : Dev nD) (f : Buf (Elt Ideal) ((c : Thread nD τ).loc main_v1)) (hf : written m c f) : f = result X W := by
  refine funext fun (e : (⟨2, ![8192, 4096]⟩ : Shape).Idx) => ?_
  rw [eq_ix2 e]
  exact (written_apply m c f hf (e 0) (e 1)).trans ((congrArg (fun s : EReal => max s 0) (whole_sum m X W hX hW (e 0) (e 1))).trans
    (result_apply X W (e 0) (e 1)).symm)

end Cert.KernelIdeal.Exchange
-- ==== Proof.lean ====
/-
The claims of this certificate. Each kernel program's run is proved in `KernelRun` and `KernelIdealRun`: the second is
the same proof about the program read over the reals. The reference's run is generated.
`Value` says that the blocks the kernel leaves are the reference's result.
-/
module

public import proofs.«01_k».proof.Defs
public import proofs.«01_k».proof.Proof.KernelRun
public import proofs.«01_k».proof.Proof.KernelIdealRun
public import proofs.«01_k».proof.Proof.Value
public import proofs.«01_k».proof.Proof.Gen.ReferenceIdeal.Run
public import Idealize.ShloMosaic.Lib.StableHlo.RunHlo

@[expose] public section

noncomputable section

namespace Cert.Proof

open Idealize.ShloMosaic Idealize.SL.Sem

theorem quiescent_kernel : Cert.quiescent_Kernel (hKernel := Cert.Kernel.Gen.facts) := fun m g _ =>
  θ_run_mono (Cert.Kernel.Exchange.run_main m g) (fun _ h => ⟨fun c => ⟨(h.1 c).1, (h.1 c).2.1⟩, h.2⟩)

theorem quiescent_kernelIdeal : Cert.quiescent_KernelIdeal (hKernelIdeal := Cert.KernelIdeal.Gen.facts) := fun m g _ =>
  θ_run_mono (Cert.KernelIdeal.Exchange.run_main m g) (fun _ h => ⟨fun c => ⟨(h.1 c).1, (h.1 c).2.1⟩, h.2⟩)

theorem quiescent_reference : Cert.quiescent_ReferenceIdeal (hReferenceIdeal := Cert.ReferenceIdeal.Gen.facts) := fun m g _ =>
  θ_run_mono (Cert.ReferenceIdeal.Value.run m g) (fun r h => ⟨fun c => (h c).2, sem_eq_zero_of_no_sems (by decide) r.2⟩)

theorem algebraic : Cert.algebraic_KernelIdeal_ReferenceIdeal (hKernelIdeal := Cert.KernelIdeal.Gen.facts)
    (hReferenceIdeal := Cert.ReferenceIdeal.Gen.facts) :=
  fun m g m' g' _ hm =>
    let X := m' (((0 : Dev Cert.ReferenceIdeal.nD).tc : Thread Cert.ReferenceIdeal.nD Cert.ReferenceIdeal.τ).loc Cert.ReferenceIdeal.main_arg0)
    let W := m' (((0 : Dev Cert.ReferenceIdeal.nD).tc : Thread Cert.ReferenceIdeal.nD Cert.ReferenceIdeal.τ).loc Cert.ReferenceIdeal.main_arg1)
    ⟨Cert.KernelIdeal.Exchange.result X W,
      θ_run_mono (Cert.KernelIdeal.Exchange.run_main m g) (fun _ h c =>
        ⟨Cert.KernelIdeal.Exchange.written_result m X W (fun c => (hm c).1) (fun c => (hm c).2) c _ (h.1 c).2.2, (h.1 c).1, (h.1 c).2.1⟩),
      θ_run_mono (Cert.ReferenceIdeal.Value.run m' g') (fun _ h => h 0)⟩

theorem claim : Cert.Claim := ⟨Cert.Kernel.Gen.facts, Cert.KernelIdeal.Gen.facts, Cert.ReferenceIdeal.Gen.facts,
  quiescent_kernel, quiescent_kernelIdeal, quiescent_reference, trivial, algebraic⟩

end Cert.Proof

end
